-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v25_0)) (v1 : (c : Dev Cert.Kernel8Ideal.nD) → Buf (Elt Ideal) ((c.tc : Thread Cert.Kernel8Ideal.nD Cert.Kernel8Ideal.τ).loc Cert.Kernel8Ideal.main_v25_1)) (v2 : (c : Dev Cert.Kernel8Ideal.nD) → Buf (Elt Ideal) ((c.tc : Thread Cert.Kernel8Ideal.nD Cert.Kernel8Ideal.τ).loc Cert.Kernel8Ideal.main_v25_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25_0) = v0 c
          ∧ r.2.mem ((c.tc : Thread Cert.Kernel8Ideal.nD Cert.Kernel8Ideal.τ).loc Cert.Kernel8Ideal.main_v25_1) = v1 c
          ∧ r.2.mem ((c.tc : Thread Cert.Kernel8Ideal.nD Cert.Kernel8Ideal.τ).loc Cert.Kernel8Ideal.main_v25_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v68) = v0 c
          ∧ r.2.mem ((c.tc : Thread Cert.Reference8Ideal.nD Cert.Reference8Ideal.τ).loc Cert.Reference8Ideal.main_v67) = v1 c
          ∧ r.2.mem ((c.tc : Thread Cert.Reference8Ideal.nD Cert.Reference8Ideal.τ).loc Cert.Reference8Ideal.main_v47) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v10) = v1 c
          ∧ r.2.mem ((c.tc : Thread Cert.Reference16Ideal.nD Cert.Reference16Ideal.τ).loc Cert.Reference16Ideal.main_v13) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v12) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v10) = v1 c
          ∧ r.2.mem ((c.tc : Thread Cert.Reference20Ideal.nD Cert.Reference20Ideal.τ).loc Cert.Reference20Ideal.main_v35) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v56) = v0 c
          ∧ r.2.mem ((c.tc : Thread Cert.Reference21Ideal.nD Cert.Reference21Ideal.τ).loc Cert.Reference21Ideal.main_v68) = v1 c
          ∧ r.2.mem ((c.tc : Thread Cert.Reference21Ideal.nD Cert.Reference21Ideal.τ).loc Cert.Reference21Ideal.main_v69) = v2 c
          ∧ r.2.mem ((c.tc : Thread Cert.Reference21Ideal.nD Cert.Reference21Ideal.τ).loc Cert.Reference21Ideal.main_v39) = v3 c
          ∧ r.2.mem ((c.tc : Thread Cert.Reference21Ideal.nD Cert.Reference21Ideal.τ).loc Cert.Reference21Ideal.main_v70) = v4 c
          ∧ r.2.mem ((c.tc : Thread Cert.Reference21Ideal.nD Cert.Reference21Ideal.τ).loc Cert.Reference21Ideal.main_v71) = v5 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v35) = v0 c
          ∧ r.2.mem ((c.tc : Thread Cert.Reference22Ideal.nD Cert.Reference22Ideal.τ).loc Cert.Reference22Ideal.main_v36) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v51) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v22) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v49) = v0 c
          ∧ r.2.mem ((c.tc : Thread Cert.Reference25Ideal.nD Cert.Reference25Ideal.τ).loc Cert.Reference25Ideal.main_v48) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite2 : Cert.Pre_finite2.Facts) (hPre_finite8 : Cert.Pre_finite8.Facts) (hPre_finite12 : Cert.Pre_finite12.Facts) (hPre_finite22 : Cert.Pre_finite22.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite22 (hKernel22Ideal := hKernel22Ideal) (hReference22Ideal := hReference22Ideal) (hPre_finite22 := hPre_finite22)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite12.lean ====
abbrev S4352x2048 : Shape := ⟨2, ![4352, 2048]⟩
abbrev S8x2x704x2048 : Shape := ⟨4, ![8, 2, 704, 2048]⟩
abbrev S8x4352x704 : Shape := ⟨3, ![8, 4352, 704]⟩
abbrev S_ : Shape := ⟨0, ![]⟩

class Facts : Prop where
  bitsLt_bf16_f32 : FTy.bits .bf16 < FTy.bits .f32
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S8x2x704x2048 : S_.BroadcastsInDim S8x2x704x2048 (![] : Fin 0 → Fin S8x2x704x2048.rank)
  reducesTo_S8x2x704x2048_S_d0_1_2_3 : S8x2x704x2048.ReducesTo [0, 1, 2, 3] S_
  bcast_S_S8x4352x704 : S_.BroadcastsInDim S8x4352x704 (![] : Fin 0 → Fin S8x4352x704.rank)
  reducesTo_S8x4352x704_S_d0_1_2 : S8x4352x704.ReducesTo [0, 1, 2] S_

variable [Facts]

def fn {F : FTy → Type} [FloatOps F] (main_arg0 : FVec F S4352x2048 .bf16) (main_arg1 : FVec F S8x2x704x2048 .bf16) (main_arg2 : FVec F S8x4352x704 .f32) (main_arg3 : FVec F S8x4352x704 .f32) : IVec S_ 1 :=
  let main_v0 : FVec F S4352x2048 .f32 := (extf .f32 · bitsLt_bf16_f32) main_arg0
  let main_v1 : FVec F S4352x2048 .f32 := Host.absf main_v0
  let main_cst : FVec F S_ .f32 := constant S_ .f32 0x7F800000#32
  let main_v2 : FVec F S4352x2048 .f32 := broadcastInDim S4352x2048 ![] bcast_S_S4352x2048 main_cst
  let main_v3 : IVec S4352x2048 1 := cmpf .olt main_v1 main_v2
  let main_c : IVec S_ 1 := constantI S_ 1 1#1
  let main_v4 : IVec S_ 1 := (fun x v => Host.reduce IntOp.andi x v reducesTo_S4352x2048_S_d0_1 h_S_) main_v3 main_c
  let main_v5 : FVec F S8x2x704x2048 .f32 := (extf .f32 · bitsLt_bf16_f32) main_arg1
  let main_v6 : FVec F S8x2x704x2048 .f32 := Host.absf main_v5
  let main_cst_0 : FVec F S_ .f32 := constant S_ .f32 0x7F800000#32
  let main_v7 : FVec F S8x2x704x2048 .f32 := broadcastInDim S8x2x704x2048 ![] bcast_S_S8x2x704x2048 main_cst_0
  let main_v8 : IVec S8x2x704x2048 1 := cmpf .olt main_v6 main_v7
  let main_c_1 : IVec S_ 1 := constantI S_ 1 1#1
  let main_v9 : IVec S_ 1 := (fun x v => Host.reduce IntOp.andi x v reducesTo_S8x2x704x2048_S_d0_1_2_3 h_S_) main_v8 main_c_1
  let main_v10 : IVec S_ 1 := andi main_v4 main_v9
  let main_v11 : FVec F S8x4352x704 .f32 := Host.absf main_arg3
  let main_cst_2 : FVec F S_ .f32 := constant S_ .f32 0x7F800000#32
  let main_v12 : FVec F S8x4352x704 .f32 := broadcastInDim S8x4352x704 ![] bcast_S_S8x4352x704 main_cst_2
  let main_v13 : IVec S8x4352x704 1 := cmpf .olt main_v11 main_v12
  let main_c_3 : IVec S_ 1 := constantI S_ 1 1#1
  let main_v14 : IVec S_ 1 := (fun x v => Host.reduce IntOp.andi x v reducesTo_S8x4352x704_S_d0_1_2 h_S_) main_v13 main_c_3
  let main_v15 : IVec S_ 1 := andi main_v10 main_v14
  main_v15
-- ==== Pre_finite2.lean ====
abbrev S4096x2048 : Shape := ⟨2, ![4096, 2048]⟩
abbrev S8x1x704x2048 : Shape := ⟨4, ![8, 1, 704, 2048]⟩
abbrev S8x4096x704 : Shape := ⟨3, ![8, 4096, 704]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x1x704x2048 : S_.BroadcastsInDim S8x1x704x2048 (![] : Fin 0 → Fin S8x1x704x2048.rank)
  reducesTo_S8x1x704x2048_S_d0_1_2_3 : S8x1x704x2048.ReducesTo [0, 1, 2, 3] S_
  bcast_S_S8x4096x704 : S_.BroadcastsInDim S8x4096x704 (![] : Fin 0 → Fin S8x4096x704.rank)
  reducesTo_S8x4096x704_S_d0_1_2 : S8x4096x704.ReducesTo [0, 1, 2] S_

variable [Facts]

def fn {F : FTy → Type} [FloatOps F] (main_arg0 : FVec F S4096x2048 .bf16) (main_arg1 : FVec F S8x1x704x2048 .bf16) (main_arg2 : FVec F S8x4096x704 .f32) (main_arg3 : FVec F S8x4096x704 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x1x704x2048 .f32 := (extf .f32 · bitsLt_bf16_f32) main_arg1
  let main_v6 : FVec F S8x1x704x2048 .f32 := Host.absf main_v5
  let main_cst_0 : FVec F S_ .f32 := constant S_ .f32 0x7F800000#32
  let main_v7 : FVec F S8x1x704x2048 .f32 := broadcastInDim S8x1x704x2048 ![] bcast_S_S8x1x704x2048 main_cst_0
  let main_v8 : IVec S8x1x704x2048 1 := cmpf .olt main_v6 main_v7
  let main_c_1 : IVec S_ 1 := constantI S_ 1 1#1
  let main_v9 : IVec S_ 1 := (fun x v => Host.reduce IntOp.andi x v reducesTo_S8x1x704x2048_S_d0_1_2_3 h_S_) main_v8 main_c_1
  let main_v10 : IVec S_ 1 := andi main_v4 main_v9
  let main_v11 : FVec F S8x4096x704 .f32 := Host.absf main_arg3
  let main_cst_2 : FVec F S_ .f32 := constant S_ .f32 0x7F800000#32
  let main_v12 : FVec F S8x4096x704 .f32 := broadcastInDim S8x4096x704 ![] bcast_S_S8x4096x704 main_cst_2
  let main_v13 : IVec S8x4096x704 1 := cmpf .olt main_v11 main_v12
  let main_c_3 : IVec S_ 1 := constantI S_ 1 1#1
  let main_v14 : IVec S_ 1 := (fun x v => Host.reduce IntOp.andi x v reducesTo_S8x4096x704_S_d0_1_2 h_S_) main_v13 main_c_3
  let main_v15 : IVec S_ 1 := andi main_v10 main_v14
  main_v15
-- ==== Pre_finite22.lean ====
abbrev S4096x2048 : Shape := ⟨2, ![4096, 2048]⟩
abbrev S4352x512 : Shape := ⟨2, ![4352, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_

variable [Facts]

def fn {F : FTy → Type} [FloatOps F] (main_arg0 : FVec F S4096x2048 .bf16) (main_arg1 : FVec F S4352x512 .bf16) (main_arg2 : FVec F S4352x512 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4352x512 .f32 := (extf .f32 · bitsLt_bf16_f32) main_arg1
  let main_v6 : FVec F S4352x512 .f32 := Host.absf main_v5
  let main_cst_0 : FVec F S_ .f32 := constant S_ .f32 0x7F800000#32
  let main_v7 : FVec F S4352x512 .f32 := broadcastInDim S4352x512 ![] bcast_S_S4352x512 main_cst_0
  let main_v8 : IVec S4352x512 1 := cmpf .olt main_v6 main_v7
  let main_c_1 : IVec S_ 1 := constantI S_ 1 1#1
  let main_v9 : IVec S_ 1 := (fun x v => Host.reduce IntOp.andi x v reducesTo_S4352x512_S_d0_1 h_S_) main_v8 main_c_1
  let main_v10 : IVec S_ 1 := andi main_v4 main_v9
  main_v10
-- ==== Pre_finite8.lean ====
abbrev S4096x2048 : Shape := ⟨2, ![4096, 2048]⟩
abbrev S4352x512 : Shape := ⟨2, ![4352, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x2048 .bf16) (main_arg1 : FVec F S4352x512 .bf16) (main_arg2 : FVec F S4352x512 .bf16) (main_arg3 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4352x512 .f32 := (extf .f32 · bitsLt_bf16_f32) main_arg1
  let main_v6 : FVec F S4352x512 .f32 := Host.absf main_v5
  let main_cst_0 : FVec F S_ .f32 := constant S_ .f32 0x7F800000#32
  let main_v7 : FVec F S4352x512 .f32 := broadcastInDim S4352x512 ![] bcast_S_S4352x512 main_cst_0
  let main_v8 : IVec S4352x512 1 := cmpf .olt main_v6 main_v7
  let main_c_1 : IVec S_ 1 := constantI S_ 1 1#1
  let main_v9 : IVec S_ 1 := (fun x v => Host.reduce IntOp.andi x v reducesTo_S4352x512_S_d0_1 h_S_) main_v8 main_c_1
  let main_v10 : IVec S_ 1 := andi main_v4 main_v9
  let main_v11 : FVec F S4352x512 .f32 := (extf .f32 · bitsLt_bf16_f32) main_arg2
  let main_v12 : FVec F S4352x512 .f32 := Host.absf main_v11
  let main_cst_2 : FVec F S_ .f32 := constant S_ .f32 0x7F800000#32
  let main_v13 : FVec F S4352x512 .f32 := broadcastInDim S4352x512 ![] bcast_S_S4352x512 main_cst_2
  let main_v14 : IVec S4352x512 1 := cmpf .olt main_v12 main_v13
  let main_c_3 : IVec S_ 1 := constantI S_ 1 1#1
  let main_v15 : IVec S_ 1 := (fun x v => Host.reduce IntOp.andi x v reducesTo_S4352x512_S_d0_1 h_S_) main_v14 main_c_3
  let main_v16 : IVec S_ 1 := andi main_v10 main_v15
  let main_v17 : FVec F S4096x2048 .f32 := (extf .f32 · bitsLt_bf16_f32) main_arg3
  fn_part1 (F := F) main_v16 main_v17
-- ==== Kernel2.lean ====
abbrev S4096x2048 : Shape := ⟨2, ![4096, 2048]⟩
abbrev S8x1x704x2048 : Shape := ⟨4, ![8, 1, 704, 2048]⟩
abbrev S8x4096x704 : Shape := ⟨3, ![8, 4096, 704]⟩
abbrev S1024x2048 : Shape := ⟨2, ![1024, 2048]⟩
abbrev S1x1x704x2048 : Shape := ⟨4, ![1, 1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x1x704x2048, .bf16⟩
  | .hbm, ⟨2, _⟩ => ⟨S8x4096x704, .f32⟩
  | .hbm, ⟨3, _⟩ => ⟨S8x4096x704, .f32⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S8x1x704x2048 : Shape := ⟨4, ![8, 1, 704, 2048]⟩
abbrev S8x4096x704 : Shape := ⟨3, ![8, 4096, 704]⟩
abbrev S_ : Shape := ⟨0, ![]⟩
abbrev S8x704x2048 : Shape := ⟨3, ![8, 704, 2048]⟩
abbrev S4096x8x704 : Shape := ⟨3, ![4096, 8, 704]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1x704x2048, .bf16⟩
  | .hbm, ⟨2, _⟩ => ⟨S8x4096x704, .f32⟩
  | .hbm, ⟨3, _⟩ => ⟨S8x4096x704, .f32⟩
  | .hbm, ⟨4, _⟩ => ⟨S8x4096x704, .f32⟩
  | .hbm, ⟨5, _⟩ => ⟨S8x4096x704, .f32⟩
  | .hbm, ⟨6, _⟩ => ⟨S_, .f32⟩
  | .hbm, ⟨7, _⟩ => ⟨S8x4096x704, .f32⟩
  | .hbm, ⟨8, _⟩ => ⟨S8x4096x704, .f32⟩
  | .hbm, ⟨9, _⟩ => ⟨S_, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S8x4096x704, .f32⟩
  | .hbm, ⟨16, _⟩ => ⟨S8x4096x704, .f32⟩
  | .hbm, ⟨17, _⟩ => ⟨S8x4096x704, .f32⟩
  | .hbm, ⟨18, _⟩ => ⟨S8x704x2048, .bf16⟩
  | .hbm, ⟨19, _⟩ => ⟨S8x704x2048, .f32⟩
  | .hbm, ⟨20, _⟩ => ⟨S4096x2048, .f32⟩
  | .hbm, ⟨21, _⟩ => ⟨S4096x2048, .f32⟩
  | .hbm, ⟨22, _⟩ => ⟨S4096x8x704, .f32⟩
  | .hbm, ⟨23, _⟩ => ⟨S8x4096x704, .f32⟩
  | .hbm, ⟨24, _⟩ => ⟨S8x4096x704, .f32⟩
  | .hbm, ⟨25, _⟩ => ⟨S8x4096x704, .f32⟩
  | .hbm, ⟨26, _⟩ => ⟨S8x4096x704, .f32⟩
  | .hbm, ⟨27, _⟩ => ⟨S8x4096x704, .f32⟩
  | .hbm, ⟨28, _⟩ => ⟨S8x4096x704, .f32⟩
  | .hbm, ⟨29, _⟩ => ⟨S8x4096x704, .f32⟩
  | .hbm, ⟨30, _⟩ => ⟨S8x4096x704, .bf16⟩
  | .hbm, ⟨31, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8x4096x704 : Shape := ⟨3, ![8, 4096, 704]⟩
abbrev S4096x2048 : Shape := ⟨2, ![4096, 2048]⟩
abbrev S8x1x704x2048 : Shape := ⟨4, ![8, 1, 704, 2048]⟩
abbrev S1x1024x704 : Shape := ⟨3, ![1, 1024, 704]⟩
abbrev S1024x2048 : Shape := ⟨2, ![1024, 2048]⟩
abbrev S1x1x704x2048 : Shape := ⟨4, ![1, 1, 704, 2048]⟩
abbrev S704x2048 : Shape := ⟨2, ![704, 2048]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x1x704x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x1x704x2048, .f32⟩
  | .local _ .vmem, ⟨5, _⟩ => ⟨S1x1x704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x4096x704 : Shape := ⟨3, ![8, 4096, 704]⟩
abbrev S4096x2048 : Shape := ⟨2, ![4096, 2048]⟩
abbrev S2048x8x704 : Shape := ⟨3, ![2048, 8, 704]⟩
abbrev S8x704x2048 : Shape := ⟨3, ![8, 704, 2048]⟩
abbrev S8x1x704x2048 : Shape := ⟨4, ![8, 1, 704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x4096x704, .f32⟩
  | .hbm, ⟨3, _⟩ => ⟨S4096x2048, .f32⟩
  | .hbm, ⟨4, _⟩ => ⟨S2048x8x704, .f32⟩
  | .hbm, ⟨5, _⟩ => ⟨S8x704x2048, .f32⟩
  | .hbm, ⟨6, _⟩ => ⟨S8x1x704x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8x4096x704 : Shape := ⟨3, ![8, 4096, 704]⟩
abbrev S4096x2048 : Shape := ⟨2, ![4096, 2048]⟩
abbrev S8x1x704x2048 : Shape := ⟨4, ![8, 1, 704, 2048]⟩
abbrev S1x1024x704 : Shape := ⟨3, ![1, 1024, 704]⟩
abbrev S1024x2048 : Shape := ⟨2, ![1024, 2048]⟩
abbrev S1x1x704x2048 : Shape := ⟨4, ![1, 1, 704, 2048]⟩
abbrev S704x2048 : Shape := ⟨2, ![704, 2048]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x1x704x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x1x704x2048, .f32⟩
  | .local _ .vmem, ⟨5, _⟩ => ⟨S1x1x704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8x4096x704 : Shape := ⟨3, ![8, 4096, 704]⟩
abbrev S4096x2048 : Shape := ⟨2, ![4096, 2048]⟩
abbrev S8x704x4096 : Shape := ⟨3, ![8, 704, 4096]⟩
abbrev S8x704x2048 : Shape := ⟨3, ![8, 704, 2048]⟩
abbrev S8x1x704x2048 : Shape := ⟨4, ![8, 1, 704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S4096x2048, .f32⟩
  | .hbm, ⟨3, _⟩ => ⟨S8x4096x704, .f32⟩
  | .hbm, ⟨4, _⟩ => ⟨S8x704x4096, .f32⟩
  | .hbm, ⟨5, _⟩ => ⟨S8x704x2048, .f32⟩
  | .hbm, ⟨6, _⟩ => ⟨S8x1x704x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S4096x2048 : Shape := ⟨2, ![4096, 2048]⟩
abbrev S8x256x2048 : Shape := ⟨3, ![8, 256, 2048]⟩
abbrev S1024x256 : Shape := ⟨2, ![1024, 256]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x256x2048, .f32⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S1x256x2048, .f32⟩
  | .local _ .vmem, ⟨5, _⟩ => ⟨S1x256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x2048 : Shape := ⟨2, ![4096, 2048]⟩
abbrev S2048x2048 : Shape := ⟨2, ![2048, 2048]⟩
abbrev S8x256x2048 : Shape := ⟨3, ![8, 256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S8x256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4352x2048 : Shape := ⟨2, ![4352, 2048]⟩
abbrev S4352x11264 : Shape := ⟨2, ![4352, 11264]⟩
abbrev S8x2048x1408 : Shape := ⟨3, ![8, 2048, 1408]⟩
abbrev S1088x2048 : Shape := ⟨2, ![1088, 2048]⟩
abbrev S1088x1408 : Shape := ⟨2, ![1088, 1408]⟩
abbrev S1x2048x1408 : Shape := ⟨3, ![1, 2048, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S8x2048x1408, .f32⟩
  | .local _ .vmem, ⟨0, _⟩ => ⟨S1088x2048, .bf16⟩
  | .local _ .vmem, ⟨1, _⟩ => ⟨S1088x2048, .bf16⟩
  | .local _ .vmem, ⟨2, _⟩ => ⟨S1088x1408, .bf16⟩
  | .local _ .vmem, ⟨3, _⟩ => ⟨S1088x1408, .bf16⟩
  | .local _ .vmem, ⟨4, _⟩ => ⟨S1x2048x1408, .f32⟩
  | .local _ .vmem, ⟨5, _⟩ => ⟨S1x2048x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4352x2048 : Shape := ⟨2, ![4352, 2048]⟩
abbrev S4352x11264 : Shape := ⟨2, ![4352, 11264]⟩
abbrev S11264x2048 : Shape := ⟨2, ![11264, 2048]⟩
abbrev S2048x11264 : Shape := ⟨2, ![2048, 11264]⟩
abbrev S2048x8x1408 : Shape := ⟨3, ![2048, 8, 1408]⟩
abbrev S8x2048x1408 : Shape := ⟨3, ![8, 2048, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S4352x2048, .f32⟩
  | .hbm, ⟨3, _⟩ => ⟨S4352x11264, .f32⟩
  | .hbm, ⟨4, _⟩ => ⟨S11264x2048, .f32⟩
  | .hbm, ⟨5, _⟩ => ⟨S2048x11264, .f32⟩
  | .hbm, ⟨6, _⟩ => ⟨S2048x8x1408, .f32⟩
  | .hbm, ⟨7, _⟩ => ⟨S8x2048x1408, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S4352x512 : Shape := ⟨2, ![4352, 512]⟩
abbrev S4096x4x4x128 : Shape := ⟨4, ![4096, 4, 4, 128]⟩
abbrev S4352x4x128 : Shape := ⟨3, ![4352, 4, 128]⟩
abbrev S4x4352x4096x4 : Shape := ⟨4, ![4, 4352, 4096, 4]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x4x4096x128 : Shape := ⟨4, ![4, 4, 4096, 128]⟩
abbrev S64x512 : Shape := ⟨2, ![64, 512]⟩
abbrev S4352x128 : Shape := ⟨2, ![4352, 128]⟩
abbrev S1x4x64x128 : Shape := ⟨4, ![1, 4, 64, 128]⟩
abbrev S64x128 : Shape := ⟨2, ![64, 128]⟩
abbrev S256x128 : Shape := ⟨2, ![256, 128]⟩
abbrev S1x1x64x128 : Shape := ⟨4, ![1, 1, 64, 128]⟩
abbrev S64x1 : Shape := ⟨2, ![64, 1]⟩
abbrev S256x1 : Shape := ⟨2, ![256, 1]⟩
abbrev S256 : Shape := ⟨1, ![256]⟩
abbrev S256x4352 : Shape := ⟨2, ![256, 4352]⟩

abbrev nBuf : Space → Nat
  | .hbm => 35
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4352x512, .bf16⟩
  | .hbm, ⟨2, _⟩ => ⟨S4352x512, .bf16⟩
  | .hbm, ⟨3, _⟩ => ⟨S4096x2048, .bf16⟩
  | .hbm, ⟨4, _⟩ => ⟨S4096x2048, .f32⟩
  | .hbm, ⟨5, _⟩ => ⟨S4352x512, .f32⟩
  | .hbm, ⟨6, _⟩ => ⟨S4096x4x4x128, .f32⟩
  | .hbm, ⟨7, _⟩ => ⟨S4352x4x128, .f32⟩
  | .hbm, ⟨8, _⟩ => ⟨S4x4352x4096x4, .f32⟩
  | .hbm, ⟨9, _⟩ => ⟨S4x4x4096x4352, .f32⟩
  | .hbm, ⟨10, _⟩ => ⟨S_, .f32⟩
  | .hbm, ⟨11, _⟩ => ⟨S4x4x4096x4352, .f32⟩
  | .hbm, ⟨12, _⟩ => ⟨S4x4x4096x4352, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x4352, .f32⟩
  | .hbm, ⟨17, _⟩ => ⟨S4x4x4096x4352, .f32⟩
  | .hbm, ⟨18, _⟩ => ⟨S4x4x4096x4352, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x4352, .f32⟩
  | .hbm, ⟨23, _⟩ => ⟨S4x4x4096x4352, .f32⟩
  | .hbm, ⟨24, _⟩ => ⟨S4352x512, .f32⟩
  | .hbm, ⟨25, _⟩ => ⟨S4352x4x128, .f32⟩
  | .hbm, ⟨26, _⟩ => ⟨S4x128x4x4096, .f32⟩
  | .hbm, ⟨27, _⟩ => ⟨S4096x4x4x128, .f32⟩
  | .hbm, ⟨28, _⟩ => ⟨S4096x2048, .f32⟩
  | .hbm, ⟨29, _⟩ => ⟨S4x4x4096x1, .f32⟩
  | .hbm, ⟨30, _⟩ => ⟨S4x4x4096x1, .f32⟩
  | .hbm, ⟨31, _⟩ => ⟨S4x4x4096x128, .f32⟩
  | .hbm, ⟨32, _⟩ => ⟨S4096x2048, .f32⟩
  | .hbm, ⟨33, _⟩ => ⟨S4352x512, .f32⟩
  | .hbm, ⟨34, _⟩ => ⟨S4352x512, .f32⟩
  | .local _ .vmem, ⟨0, _⟩ => ⟨S64x512, .bf16⟩
  | .local _ .vmem, ⟨1, _⟩ => ⟨S64x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S64x512, .f32⟩
  | .local _ .vmem, ⟨7, _⟩ => ⟨S64x512, .f32⟩
  | .local _ .vmem, ⟨8, _⟩ => ⟨S1x4x64x128, .f32⟩
  | .local _ .vmem, ⟨9, _⟩ => ⟨S1x4x64x128, .f32⟩
  | .local _ .vmem, ⟨10, _⟩ => ⟨S64x512, .bf16⟩
  | .local _ .vmem, ⟨11, _⟩ => ⟨S64x512, .bf16⟩
  | .local _ .vmem, ⟨12, _⟩ => ⟨S64x512, .f32⟩
  | .local _ .vmem, ⟨13, _⟩ => ⟨S64x512, .f32⟩
  | .local _ .vmem, ⟨14, _⟩ => ⟨S4352x128, .f32⟩
  | .local _ .vmem, ⟨15, _⟩ => ⟨S4352x128, .f32⟩
  | .local _ .vmem, ⟨16, _⟩ => ⟨S4352x128, .f32⟩
  | .local _ .vmem, ⟨17, _⟩ => ⟨S4352x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S4096x2048 : Shape := ⟨2, ![4096, 2048]⟩
abbrev S4352x512 : Shape := ⟨2, ![4352, 512]⟩
abbrev S4096x4x4x128 : Shape := ⟨4, ![4096, 4, 4, 128]⟩
abbrev S4352x4x128 : Shape := ⟨3, ![4352, 4, 128]⟩
abbrev S4x4352x4096x4 : Shape := ⟨4, ![4, 4352, 4096, 4]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4352 : Shape := ⟨3, ![4, 128, 4352]⟩
abbrev S4x4096x4x128 : Shape := ⟨4, ![4, 4096, 4, 128]⟩
abbrev S4x4352x128 : Shape := ⟨3, ![4, 4352, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4352x512, .bf16⟩
  | .hbm, ⟨2, _⟩ => ⟨S4352x512, .bf16⟩
  | .hbm, ⟨3, _⟩ => ⟨S4096x2048, .bf16⟩
  | .hbm, ⟨4, _⟩ => ⟨S4096x2048, .f32⟩
  | .hbm, ⟨5, _⟩ => ⟨S4352x512, .f32⟩
  | .hbm, ⟨6, _⟩ => ⟨S4352x512, .f32⟩
  | .hbm, ⟨7, _⟩ => ⟨S4096x4x4x128, .f32⟩
  | .hbm, ⟨8, _⟩ => ⟨S4352x4x128, .f32⟩
  | .hbm, ⟨9, _⟩ => ⟨S4x4352x4096x4, .f32⟩
  | .hbm, ⟨10, _⟩ => ⟨S4x4x4096x4352, .f32⟩
  | .hbm, ⟨11, _⟩ => ⟨S_, .f32⟩
  | .hbm, ⟨12, _⟩ => ⟨S4x4x4096x4352, .f32⟩
  | .hbm, ⟨13, _⟩ => ⟨S4x4x4096x4352, .f32⟩
  | .hbm, ⟨14, _⟩ => ⟨S_, .f32⟩
  | .hbm, ⟨15, _⟩ => ⟨S4x4x4096, .f32⟩
  | .hbm, ⟨16, _⟩ => ⟨S4x4x4096x1, .f32⟩
  | .hbm, ⟨17, _⟩ => ⟨S4x4x4096x4352, .f32⟩
  | .hbm, ⟨18, _⟩ => ⟨S4x4x4096x4352, .i1⟩
  | .hbm, ⟨19, _⟩ => ⟨S4x4x4096x4352, .f32⟩
  | .hbm, ⟨20, _⟩ => ⟨S_, .f32⟩
  | .hbm, ⟨21, _⟩ => ⟨S4x4x4096, .f32⟩
  | .hbm, ⟨22, _⟩ => ⟨S_, .f32⟩
  | .hbm, ⟨23, _⟩ => ⟨S4x4x4096, .f32⟩
  | .hbm, ⟨24, _⟩ => ⟨S4x4x4096, .f32⟩
  | .hbm, ⟨25, _⟩ => ⟨S_, .f32⟩
  | .hbm, ⟨26, _⟩ => ⟨S4x4x4096, .f32⟩
  | .hbm, ⟨27, _⟩ => ⟨S4x4x4096, .i1⟩
  | .hbm, ⟨28, _⟩ => ⟨S_, .f32⟩
  | .hbm, ⟨29, _⟩ => ⟨S4x4x4096, .f32⟩
  | .hbm, ⟨30, _⟩ => ⟨S4x4x4096, .i1⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S_, .f32⟩
  | .hbm, ⟨36, _⟩ => ⟨S4x4x4096, .f32⟩
  | .hbm, ⟨37, _⟩ => ⟨S4x4x4096, .f32⟩
  | .hbm, ⟨38, _⟩ => ⟨S4x4x4096, .f32⟩
  | .hbm, ⟨39, _⟩ => ⟨S4x4x4096x1, .f32⟩
  | .hbm, ⟨40, _⟩ => ⟨S4x4x4096x4352, .f32⟩
  | .hbm, ⟨41, _⟩ => ⟨S4x4x4096x4352, .f32⟩
  | .hbm, ⟨42, _⟩ => ⟨S4x4x4096x4352, .f32⟩
  | .hbm, ⟨43, _⟩ => ⟨S_, .f32⟩
  | .hbm, ⟨44, _⟩ => ⟨S4x4x4096, .f32⟩
  | .hbm, ⟨45, _⟩ => ⟨S4x4x4096x1, .f32⟩
  | .hbm, ⟨46, _⟩ => ⟨S4x4x4096x4352, .f32⟩
  | .hbm, ⟨47, _⟩ => ⟨S4x4x4096x4352, .f32⟩
  | .hbm, ⟨48, _⟩ => ⟨S4x4x4096x1, .f32⟩
  | .hbm, ⟨49, _⟩ => ⟨S_, .f32⟩
  | .hbm, ⟨50, _⟩ => ⟨S4x4x4096x1, .f32⟩
  | .hbm, ⟨51, _⟩ => ⟨S4x4x4096x1, .f32⟩
  | .hbm, ⟨52, _⟩ => ⟨S4352x4x128, .f32⟩
  | .hbm, ⟨53, _⟩ => ⟨S4x128x4x4096, .f32⟩
  | .hbm, ⟨54, _⟩ => ⟨S4096x4x4x128, .f32⟩
  | .hbm, ⟨55, _⟩ => ⟨S4096x2048, .f32⟩
  | .hbm, ⟨56, _⟩ => ⟨S4096x2048, .f32⟩
  | .hbm, ⟨57, _⟩ => ⟨S4096x4x4x128, .f32⟩
  | .hbm, ⟨58, _⟩ => ⟨S4x128x4x4096, .f32⟩
  | .hbm, ⟨59, _⟩ => ⟨S4x4x4096x4352, .f32⟩
  | .hbm, ⟨60, _⟩ => ⟨S4x128x4352, .f32⟩
  | .hbm, ⟨61, _⟩ => ⟨S4352x4x128, .f32⟩
  | .hbm, ⟨62, _⟩ => ⟨S4352x512, .f32⟩
  | .hbm, ⟨63, _⟩ => ⟨S4x4x4096x4352, .f32⟩
  | .hbm, ⟨64, _⟩ => ⟨S4x4x4096x4352, .f32⟩
  | .hbm, ⟨65, _⟩ => ⟨S4x4x4096x4352, .f32⟩
  | .hbm, ⟨66, _⟩ => ⟨S_, .f32⟩
  | .hbm, ⟨67, _⟩ => ⟨S4x4x4096, .f32⟩
  | .hbm, ⟨68, _⟩ => ⟨S4x4x4096x1, .f32⟩
  | .hbm, ⟨69, _⟩ => ⟨S4x4x4096x1, .f32⟩
  | .hbm, ⟨70, _⟩ => ⟨S4x4x4096x4352, .f32⟩
  | .hbm, ⟨71, _⟩ => ⟨S4x4x4096x4352, .f32⟩
  | .hbm, ⟨72, _⟩ => ⟨S_, .f32⟩
  | .hbm, ⟨73, _⟩ => ⟨S4x4x4096, .f32⟩
  | .hbm, ⟨74, _⟩ => ⟨S4x4x4096x4352, .f32⟩
  | .hbm, ⟨75, _⟩ => ⟨S4x4x4096x4352, .f32⟩
  | .hbm, ⟨76, _⟩ => ⟨S4x4x4096x4352, .f32⟩
  | .hbm, ⟨77, _⟩ => ⟨S_, .f32⟩
  | .hbm, ⟨78, _⟩ => ⟨S4x4x4096x4352, .f32⟩
  | .hbm, ⟨79, _⟩ => ⟨S4x4x4096x4352, .f32⟩
  | .hbm, ⟨80, _⟩ => ⟨S4x4352x4096x4, .f32⟩
  | .hbm, ⟨81, _⟩ => ⟨S4x4096x4x128, .f32⟩
  | .hbm, ⟨82, _⟩ => ⟨S4096x4x4x128, .f32⟩
  | .hbm, ⟨83, _⟩ => ⟨S4x4352x128, .f32⟩
  | .hbm, ⟨84, _⟩ => ⟨S4352x4x128, .f32⟩
  | .hbm, ⟨85, _⟩ => ⟨S4352x512, .f32⟩
  | .hbm, ⟨86, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel9.lean ====
abbrev S8x4096x704 : Shape := ⟨3, ![8, 4096, 704]⟩
abbrev S8x2x2x2048x704 : Shape := ⟨5, ![8, 2, 2, 2048, 704]⟩
abbrev S4096x2048 : Shape := ⟨2, ![4096, 2048]⟩
abbrev S1x1024x704 : Shape := ⟨3, ![1, 1024, 704]⟩
abbrev S1x1x2x2048x704 : Shape := ⟨5, ![1, 1, 2, 2048, 704]⟩
abbrev S1024x2048 : Shape := ⟨2, ![1024, 2048]⟩
abbrev S1024x704 : Shape := ⟨2, ![1024, 704]⟩
abbrev S1x1x1x2048x704 : Shape := ⟨5, ![1, 1, 1, 2048, 704]⟩
abbrev S2048x704 : Shape := ⟨2, ![2048, 704]⟩

abbrev nBuf : Space → Nat
  | .hbm => 4
  | .vmem => 9
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x2x2x2048x704, .bf16⟩
  | .hbm, ⟨3, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x2x2048x704, .bf16⟩
  | .local _ .vmem, ⟨5, _⟩ => ⟨S1x1x2x2048x704, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_20 : BitVec 32 := 0#32
  let v21 : BitVec 1 := Scalar.cmpi .ne v20 c0_i32_20
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![arg1.toNat, c1_i32.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference9Ideal.lean ====
abbrev S8x4096x704 : Shape := ⟨3, ![8, 4096, 704]⟩
abbrev S8x2x2x2048x704 : Shape := ⟨5, ![8, 2, 2, 2048, 704]⟩
abbrev S8x1x1x2048x704 : Shape := ⟨5, ![8, 1, 1, 2048, 704]⟩
abbrev S8x2048x704 : Shape := ⟨3, ![8, 2048, 704]⟩
abbrev S8x704x4096 : Shape := ⟨3, ![8, 704, 4096]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x2x2x2048x704, .bf16⟩
  | .hbm, ⟨3, _⟩ => ⟨S8x1x1x2048x704, .bf16⟩
  | .hbm, ⟨4, _⟩ => ⟨S8x2048x704, .bf16⟩
  | .hbm, ⟨5, _⟩ => ⟨S8x2048x704, .f32⟩
  | .hbm, ⟨6, _⟩ => ⟨S8x1x1x2048x704, .bf16⟩
  | .hbm, ⟨7, _⟩ => ⟨S8x2048x704, .bf16⟩
  | .hbm, ⟨8, _⟩ => ⟨S8x2048x704, .f32⟩
  | .hbm, ⟨9, _⟩ => ⟨S8x4096x704, .f32⟩
  | .hbm, ⟨10, _⟩ => ⟨S8x4096x704, .f32⟩
  | .hbm, ⟨11, _⟩ => ⟨S8x704x4096, .f32⟩
  | .hbm, ⟨12, _⟩ => ⟨S4096x2048, .f32⟩
  | .hbm, ⟨13, _⟩ => ⟨S8x704x4096, .f32⟩
  | .hbm, ⟨14, _⟩ => ⟨S4096x2048, .f32⟩
  | .hbm, ⟨15, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S8x4352x704 : Shape := ⟨3, ![8, 4352, 704]⟩
abbrev S8x2x2x2048x704 : Shape := ⟨5, ![8, 2, 2, 2048, 704]⟩
abbrev S4352x2048 : Shape := ⟨2, ![4352, 2048]⟩
abbrev S1x1088x704 : Shape := ⟨3, ![1, 1088, 704]⟩
abbrev S1x1x2x2048x704 : Shape := ⟨5, ![1, 1, 2, 2048, 704]⟩
abbrev S1088x2048 : Shape := ⟨2, ![1088, 2048]⟩
abbrev S1088x704 : Shape := ⟨2, ![1088, 704]⟩
abbrev S1x1x1x2048x704 : Shape := ⟨5, ![1, 1, 1, 2048, 704]⟩
abbrev S2048x704 : Shape := ⟨2, ![2048, 704]⟩

abbrev nBuf : Space → Nat
  | .hbm => 4
  | .vmem => 9
  | .smem => 0
  | _ => 0

abbrev bufTy : (tb : Table) → Fin (tcTables nBuf tb) → BufTy
  | .hbm, ⟨0, _⟩ => ⟨S8x4352x704, .bf16⟩
  | .hbm, ⟨1, _⟩ => ⟨S8x4352x704, .bf16⟩
  | .hbm, ⟨2, _⟩ => ⟨S8x2x2x2048x704, .bf16⟩
  | .hbm, ⟨3, _⟩ => ⟨S4352x2048, .f32⟩
  | .local _ .vmem, ⟨0, _⟩ => ⟨S1x1088x704, .bf16⟩
  | .local _ .vmem, ⟨1, _⟩ => ⟨S1x1088x704, .bf16⟩
  | .local _ .vmem, ⟨2, _⟩ => ⟨S1x1088x704, .bf16⟩
  | .local _ .vmem, ⟨3, _⟩ => ⟨S1x1088x704, .bf16⟩
  | .local _ .vmem, ⟨4, _⟩ => ⟨S1x1x2x2048x704, .bf16⟩
  | .local _ .vmem, ⟨5, _⟩ => ⟨S1x1x2x2048x704, .bf16⟩
  | .local _ .vmem, ⟨6, _⟩ => ⟨S1088x2048, .f32⟩
  | .local _ .vmem, ⟨7, _⟩ => ⟨S1088x2048, .f32⟩
  | .local _ .vmem, ⟨8, _⟩ => ⟨S1088x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_20 : BitVec 32 := 0#32
  let v21 : BitVec 1 := Scalar.cmpi .ne v20 c0_i32_20
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1088x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference10Ideal.lean ====
abbrev S8x4352x704 : Shape := ⟨3, ![8, 4352, 704]⟩
abbrev S8x2x2x2048x704 : Shape := ⟨5, ![8, 2, 2, 2048, 704]⟩
abbrev S8x1x1x2048x704 : Shape := ⟨5, ![8, 1, 1, 2048, 704]⟩
abbrev S8x2048x704 : Shape := ⟨3, ![8, 2048, 704]⟩
abbrev S8x704x4352 : Shape := ⟨3, ![8, 704, 4352]⟩
abbrev S4352x2048 : Shape := ⟨2, ![4352, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x4352x704, .bf16⟩
  | .hbm, ⟨2, _⟩ => ⟨S8x2x2x2048x704, .bf16⟩
  | .hbm, ⟨3, _⟩ => ⟨S8x1x1x2048x704, .bf16⟩
  | .hbm, ⟨4, _⟩ => ⟨S8x2048x704, .bf16⟩
  | .hbm, ⟨5, _⟩ => ⟨S8x2048x704, .f32⟩
  | .hbm, ⟨6, _⟩ => ⟨S8x1x1x2048x704, .bf16⟩
  | .hbm, ⟨7, _⟩ => ⟨S8x2048x704, .bf16⟩
  | .hbm, ⟨8, _⟩ => ⟨S8x2048x704, .f32⟩
  | .hbm, ⟨9, _⟩ => ⟨S8x4352x704, .f32⟩
  | .hbm, ⟨10, _⟩ => ⟨S8x4352x704, .f32⟩
  | .hbm, ⟨11, _⟩ => ⟨S8x704x4352, .f32⟩
  | .hbm, ⟨12, _⟩ => ⟨S4352x2048, .f32⟩
  | .hbm, ⟨13, _⟩ => ⟨S8x704x4352, .f32⟩
  | .hbm, ⟨14, _⟩ => ⟨S4352x2048, .f32⟩
  | .hbm, ⟨15, _⟩ => ⟨S4352x2048, .f32⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel11.lean ====
abbrev S4352x11264 : Shape := ⟨2, ![4352, 11264]⟩
abbrev S8x2048x1408 : Shape := ⟨3, ![8, 2048, 1408]⟩
abbrev S4352x2048 : Shape := ⟨2, ![4352, 2048]⟩
abbrev S1088x1408 : Shape := ⟨2, ![1088, 1408]⟩
abbrev S1x2048x1408 : Shape := ⟨3, ![1, 2048, 1408]⟩
abbrev S1088x2048 : Shape := ⟨2, ![1088, 2048]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S8x2048x1408, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x2048, .f32⟩
  | .local _ .vmem, ⟨5, _⟩ => ⟨S1088x2048, .f32⟩
  | .local _ .vmem, ⟨6, _⟩ => ⟨S1088x2048, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4352x11264 : Shape := ⟨2, ![4352, 11264]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S4352x11264, .f32⟩
  | .hbm, ⟨6, _⟩ => ⟨S4352x2048, .f32⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4352x2048 : Shape := ⟨2, ![4352, 2048]⟩
abbrev S8x2x704x2048 : Shape := ⟨4, ![8, 2, 704, 2048]⟩
abbrev S8x4352x704 : Shape := ⟨3, ![8, 4352, 704]⟩
abbrev S1088x2048 : Shape := ⟨2, ![1088, 2048]⟩
abbrev S1x1x704x2048 : Shape := ⟨4, ![1, 1, 704, 2048]⟩
abbrev S1x1088x704 : Shape := ⟨3, ![1, 1088, 704]⟩
abbrev S704x2048 : Shape := ⟨2, ![704, 2048]⟩
abbrev S1088x704 : Shape := ⟨2, ![1088, 704]⟩

abbrev nBuf : Space → Nat
  | .hbm => 6
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S8x2x704x2048, .bf16⟩
  | .hbm, ⟨2, _⟩ => ⟨S8x4352x704, .f32⟩
  | .hbm, ⟨3, _⟩ => ⟨S8x4352x704, .f32⟩
  | .hbm, ⟨4, _⟩ => ⟨S8x4352x704, .bf16⟩
  | .hbm, ⟨5, _⟩ => ⟨S8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1088x704, .f32⟩
  | .local _ .vmem, ⟨5, _⟩ => ⟨S1x1088x704, .f32⟩
  | .local _ .vmem, ⟨6, _⟩ => ⟨S1x1088x704, .f32⟩
  | .local _ .vmem, ⟨7, _⟩ => ⟨S1x1088x704, .f32⟩
  | .local _ .vmem, ⟨8, _⟩ => ⟨S1x1088x704, .bf16⟩
  | .local _ .vmem, ⟨9, _⟩ => ⟨S1x1088x704, .bf16⟩
  | .local _ .vmem, ⟨10, _⟩ => ⟨S1x1088x704, .bf16⟩
  | .local _ .vmem, ⟨11, _⟩ => ⟨S1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S4352x2048 : Shape := ⟨2, ![4352, 2048]⟩
abbrev S8x2x704x2048 : Shape := ⟨4, ![8, 2, 704, 2048]⟩
abbrev S8x4352x704 : Shape := ⟨3, ![8, 4352, 704]⟩
abbrev S_ : Shape := ⟨0, ![]⟩
abbrev S8x1x704x2048 : Shape := ⟨4, ![8, 1, 704, 2048]⟩
abbrev S8x704x2048 : Shape := ⟨3, ![8, 704, 2048]⟩
abbrev S4352x8x704 : Shape := ⟨3, ![4352, 8, 704]⟩

abbrev nBuf : Space → Nat
  | .hbm => 33
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2x704x2048, .bf16⟩
  | .hbm, ⟨2, _⟩ => ⟨S8x4352x704, .f32⟩
  | .hbm, ⟨3, _⟩ => ⟨S8x4352x704, .f32⟩
  | .hbm, ⟨4, _⟩ => ⟨S8x4352x704, .f32⟩
  | .hbm, ⟨5, _⟩ => ⟨S8x4352x704, .f32⟩
  | .hbm, ⟨6, _⟩ => ⟨S_, .f32⟩
  | .hbm, ⟨7, _⟩ => ⟨S8x4352x704, .f32⟩
  | .hbm, ⟨8, _⟩ => ⟨S8x4352x704, .f32⟩
  | .hbm, ⟨9, _⟩ => ⟨S_, .f32⟩
  | .hbm, ⟨10, _⟩ => ⟨S8x4352x704, .f32⟩
  | .hbm, ⟨11, _⟩ => ⟨S8x4352x704, .f32⟩
  | .hbm, ⟨12, _⟩ => ⟨S_, .f32⟩
  | .hbm, ⟨13, _⟩ => ⟨S8x4352x704, .f32⟩
  | .hbm, ⟨14, _⟩ => ⟨S8x4352x704, .f32⟩
  | .hbm, ⟨15, _⟩ => ⟨S8x4352x704, .f32⟩
  | .hbm, ⟨16, _⟩ => ⟨S8x4352x704, .f32⟩
  | .hbm, ⟨17, _⟩ => ⟨S8x4352x704, .f32⟩
  | .hbm, ⟨18, _⟩ => ⟨S8x1x704x2048, .bf16⟩
  | .hbm, ⟨19, _⟩ => ⟨S8x704x2048, .bf16⟩
  | .hbm, ⟨20, _⟩ => ⟨S8x704x2048, .f32⟩
  | .hbm, ⟨21, _⟩ => ⟨S4352x2048, .f32⟩
  | .hbm, ⟨22, _⟩ => ⟨S4352x2048, .f32⟩
  | .hbm, ⟨23, _⟩ => ⟨S4352x8x704, .f32⟩
  | .hbm, ⟨24, _⟩ => ⟨S8x4352x704, .f32⟩
  | .hbm, ⟨25, _⟩ => ⟨S8x4352x704, .f32⟩
  | .hbm, ⟨26, _⟩ => ⟨S8x4352x704, .f32⟩
  | .hbm, ⟨27, _⟩ => ⟨S8x4352x704, .f32⟩
  | .hbm, ⟨28, _⟩ => ⟨S8x4352x704, .f32⟩
  | .hbm, ⟨29, _⟩ => ⟨S8x4352x704, .f32⟩
  | .hbm, ⟨30, _⟩ => ⟨S8x4352x704, .f32⟩
  | .hbm, ⟨31, _⟩ => ⟨S8x4352x704, .bf16⟩
  | .hbm, ⟨32, _⟩ => ⟨S8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel13.lean ====
abbrev S8x4352x704 : Shape := ⟨3, ![8, 4352, 704]⟩
abbrev S4352x2048 : Shape := ⟨2, ![4352, 2048]⟩
abbrev S8x2x704x2048 : Shape := ⟨4, ![8, 2, 704, 2048]⟩
abbrev S1x1088x704 : Shape := ⟨3, ![1, 1088, 704]⟩
abbrev S1088x2048 : Shape := ⟨2, ![1088, 2048]⟩
abbrev S1x1x704x2048 : Shape := ⟨4, ![1, 1, 704, 2048]⟩
abbrev S704x2048 : Shape := ⟨2, ![704, 2048]⟩
abbrev S1088x704 : Shape := ⟨2, ![1088, 704]⟩

abbrev nBuf : Space → Nat
  | .hbm => 4
  | .vmem => 6
  | .smem => 0
  | _ => 0

abbrev bufTy : (tb : Table) → Fin (tcTables nBuf tb) → BufTy
  | .hbm, ⟨0, _⟩ => ⟨S8x4352x704, .bf16⟩
  | .hbm, ⟨1, _⟩ => ⟨S4352x2048, .bf16⟩
  | .hbm, ⟨2, _⟩ => ⟨S8x2x704x2048, .f32⟩
  | .hbm, ⟨3, _⟩ => ⟨S8x2x704x2048, .f32⟩
  | .local _ .vmem, ⟨0, _⟩ => ⟨S1x1088x704, .bf16⟩
  | .local _ .vmem, ⟨1, _⟩ => ⟨S1x1088x704, .bf16⟩
  | .local _ .vmem, ⟨2, _⟩ => ⟨S1088x2048, .bf16⟩
  | .local _ .vmem, ⟨3, _⟩ => ⟨S1088x2048, .bf16⟩
  | .local _ .vmem, ⟨4, _⟩ => ⟨S1x1x704x2048, .f32⟩
  | .local _ .vmem, ⟨5, _⟩ => ⟨S1x1x704x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S8x4352x704 : Shape := ⟨3, ![8, 4352, 704]⟩
abbrev S4352x2048 : Shape := ⟨2, ![4352, 2048]⟩
abbrev S8x2x704x2048 : Shape := ⟨4, ![8, 2, 704, 2048]⟩
abbrev S2048x8x704 : Shape := ⟨3, ![2048, 8, 704]⟩
abbrev S8x704x2048 : Shape := ⟨3, ![8, 704, 2048]⟩
abbrev S8x1x704x2048 : Shape := ⟨4, ![8, 1, 704, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S4352x2048, .bf16⟩
  | .hbm, ⟨2, _⟩ => ⟨S8x2x704x2048, .f32⟩
  | .hbm, ⟨3, _⟩ => ⟨S8x4352x704, .f32⟩
  | .hbm, ⟨4, _⟩ => ⟨S4352x2048, .f32⟩
  | .hbm, ⟨5, _⟩ => ⟨S2048x8x704, .f32⟩
  | .hbm, ⟨6, _⟩ => ⟨S8x704x2048, .f32⟩
  | .hbm, ⟨7, _⟩ => ⟨S8x1x704x2048, .f32⟩
  | .hbm, ⟨8, _⟩ => ⟨S8x704x2048, .f32⟩
  | .hbm, ⟨9, _⟩ => ⟨S8x1x704x2048, .f32⟩
  | .hbm, ⟨10, _⟩ => ⟨S8x1x704x2048, .f32⟩
  | .hbm, ⟨11, _⟩ => ⟨S8x2x704x2048, .f32⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4352x2048 : Shape := ⟨2, ![4352, 2048]⟩
abbrev S8x4352x704 : Shape := ⟨3, ![8, 4352, 704]⟩
abbrev S8x2x2048x704 : Shape := ⟨4, ![8, 2, 2048, 704]⟩
abbrev S1088x2048 : Shape := ⟨2, ![1088, 2048]⟩
abbrev S1x1088x704 : Shape := ⟨3, ![1, 1088, 704]⟩
abbrev S1x1x2048x704 : Shape := ⟨4, ![1, 1, 2048, 704]⟩
abbrev S2048x704 : Shape := ⟨2, ![2048, 704]⟩
abbrev S1088x704 : Shape := ⟨2, ![1088, 704]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x4352x704, .bf16⟩
  | .hbm, ⟨2, _⟩ => ⟨S8x2x2048x704, .f32⟩
  | .hbm, ⟨3, _⟩ => ⟨S8x2x2048x704, .f32⟩
  | .local _ .vmem, ⟨0, _⟩ => ⟨S1088x2048, .bf16⟩
  | .local _ .vmem, ⟨1, _⟩ => ⟨S1088x2048, .bf16⟩
  | .local _ .vmem, ⟨2, _⟩ => ⟨S1x1088x704, .bf16⟩
  | .local _ .vmem, ⟨3, _⟩ => ⟨S1x1088x704, .bf16⟩
  | .local _ .vmem, ⟨4, _⟩ => ⟨S1x1x2048x704, .f32⟩
  | .local _ .vmem, ⟨5, _⟩ => ⟨S1x1x2048x704, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1088x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference14Ideal.lean ====
abbrev S4352x2048 : Shape := ⟨2, ![4352, 2048]⟩
abbrev S8x4352x704 : Shape := ⟨3, ![8, 4352, 704]⟩
abbrev S8x2x2048x704 : Shape := ⟨4, ![8, 2, 2048, 704]⟩
abbrev S8x704x4352 : Shape := ⟨3, ![8, 704, 4352]⟩
abbrev S8x704x2048 : Shape := ⟨3, ![8, 704, 2048]⟩
abbrev S8x2048x704 : Shape := ⟨3, ![8, 2048, 704]⟩
abbrev S8x1x2048x704 : Shape := ⟨4, ![8, 1, 2048, 704]⟩

abbrev nBuf : Space → Nat
  | .hbm => 13
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x4352x704, .bf16⟩
  | .hbm, ⟨2, _⟩ => ⟨S8x2x2048x704, .f32⟩
  | .hbm, ⟨3, _⟩ => ⟨S4352x2048, .f32⟩
  | .hbm, ⟨4, _⟩ => ⟨S8x4352x704, .f32⟩
  | .hbm, ⟨5, _⟩ => ⟨S8x704x4352, .f32⟩
  | .hbm, ⟨6, _⟩ => ⟨S8x704x2048, .f32⟩
  | .hbm, ⟨7, _⟩ => ⟨S8x2048x704, .f32⟩
  | .hbm, ⟨8, _⟩ => ⟨S8x1x2048x704, .f32⟩
  | .hbm, ⟨9, _⟩ => ⟨S8x2048x704, .f32⟩
  | .hbm, ⟨10, _⟩ => ⟨S8x1x2048x704, .f32⟩
  | .hbm, ⟨11, _⟩ => ⟨S8x1x2048x704, .f32⟩
  | .hbm, ⟨12, _⟩ => ⟨S8x2x2048x704, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S4096x2048 : Shape := ⟨2, ![4096, 2048]⟩
abbrev S8x1x704x2048 : Shape := ⟨4, ![8, 1, 704, 2048]⟩
abbrev S8x4096x704 : Shape := ⟨3, ![8, 4096, 704]⟩
abbrev S1024x2048 : Shape := ⟨2, ![1024, 2048]⟩
abbrev S1x1x704x2048 : Shape := ⟨4, ![1, 1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x1x704x2048, .bf16⟩
  | .hbm, ⟨2, _⟩ => ⟨S8x1x704x2048, .bf16⟩
  | .hbm, ⟨3, _⟩ => ⟨S8x4096x704, .f32⟩
  | .hbm, ⟨4, _⟩ => ⟨S8x4096x704, .f32⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1x704x2048, .bf16⟩
  | .local _ .vmem, ⟨5, _⟩ => ⟨S1x1x704x2048, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S4096x2048 : Shape := ⟨2, ![4096, 2048]⟩
abbrev S8x1x704x2048 : Shape := ⟨4, ![8, 1, 704, 2048]⟩
abbrev S8x704x2048 : Shape := ⟨3, ![8, 704, 2048]⟩
abbrev S8x704x4096 : Shape := ⟨3, ![8, 704, 4096]⟩
abbrev S8x4096x704 : Shape := ⟨3, ![8, 4096, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1x704x2048, .bf16⟩
  | .hbm, ⟨2, _⟩ => ⟨S8x1x704x2048, .bf16⟩
  | .hbm, ⟨3, _⟩ => ⟨S4096x2048, .f32⟩
  | .hbm, ⟨4, _⟩ => ⟨S8x704x2048, .bf16⟩
  | .hbm, ⟨5, _⟩ => ⟨S8x704x2048, .f32⟩
  | .hbm, ⟨6, _⟩ => ⟨S8x704x2048, .bf16⟩
  | .hbm, ⟨7, _⟩ => ⟨S8x704x2048, .f32⟩
  | .hbm, ⟨8, _⟩ => ⟨S8x704x4096, .f32⟩
  | .hbm, ⟨9, _⟩ => ⟨S8x4096x704, .f32⟩
  | .hbm, ⟨10, _⟩ => ⟨S8x704x4096, .f32⟩
  | .hbm, ⟨11, _⟩ => ⟨S8x4096x704, .f32⟩
  | .hbm, ⟨12, _⟩ => ⟨S8x4096x704, .f32⟩
  | .hbm, ⟨13, _⟩ => ⟨S8x4096x704, .f32⟩
  | .hbm, ⟨14, _⟩ => ⟨S_, .f32⟩
  | .hbm, ⟨15, _⟩ => ⟨S8x4096x704, .f32⟩
  | .hbm, ⟨16, _⟩ => ⟨S8x4096x704, .f32⟩
  | .hbm, ⟨17, _⟩ => ⟨S_, .f32⟩
  | .hbm, ⟨18, _⟩ => ⟨S8x4096x704, .f32⟩
  | .hbm, ⟨19, _⟩ => ⟨S8x4096x704, .f32⟩
  | .hbm, ⟨20, _⟩ => ⟨S8x4096x704, .f32⟩
  | .hbm, ⟨21, _⟩ => ⟨S8x4096x704, .f32⟩
  | .hbm, ⟨22, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel16.lean ====
abbrev S4352x2048 : Shape := ⟨2, ![4352, 2048]⟩
abbrev S8x2x2x2048x704 : Shape := ⟨5, ![8, 2, 2, 2048, 704]⟩
abbrev S8x4352x704 : Shape := ⟨3, ![8, 4352, 704]⟩
abbrev S1088x2048 : Shape := ⟨2, ![1088, 2048]⟩
abbrev S1x1x2x2048x704 : Shape := ⟨5, ![1, 1, 2, 2048, 704]⟩
abbrev S1x1088x704 : Shape := ⟨3, ![1, 1088, 704]⟩
abbrev S1x1x1x2048x704 : Shape := ⟨5, ![1, 1, 1, 2048, 704]⟩
abbrev S2048x704 : Shape := ⟨2, ![2048, 704]⟩
abbrev S1088x704 : Shape := ⟨2, ![1088, 704]⟩

abbrev nBuf : Space → Nat
  | .hbm => 5
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S8x2x2x2048x704, .bf16⟩
  | .hbm, ⟨2, _⟩ => ⟨S8x4352x704, .f32⟩
  | .hbm, ⟨3, _⟩ => ⟨S8x4352x704, .f32⟩
  | .hbm, ⟨4, _⟩ => ⟨S8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x1x2x2048x704, .bf16⟩
  | .local _ .vmem, ⟨3, _⟩ => ⟨S1x1x2x2048x704, .bf16⟩
  | .local _ .vmem, ⟨4, _⟩ => ⟨S1x1088x704, .f32⟩
  | .local _ .vmem, ⟨5, _⟩ => ⟨S1x1088x704, .f32⟩
  | .local _ .vmem, ⟨6, _⟩ => ⟨S1x1088x704, .f32⟩
  | .local _ .vmem, ⟨7, _⟩ => ⟨S1x1088x704, .f32⟩
  | .local _ .vmem, ⟨8, _⟩ => ⟨S1x1088x704, .bf16⟩
  | .local _ .vmem, ⟨9, _⟩ => ⟨S1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S4352x2048 : Shape := ⟨2, ![4352, 2048]⟩
abbrev S8x2x2x2048x704 : Shape := ⟨5, ![8, 2, 2, 2048, 704]⟩
abbrev S8x1x1x2048x704 : Shape := ⟨5, ![8, 1, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2x2x2048x704, .bf16⟩
  | .hbm, ⟨2, _⟩ => ⟨S4352x2048, .f32⟩
  | .hbm, ⟨3, _⟩ => ⟨S8x1x1x2048x704, .bf16⟩
  | .hbm, ⟨4, _⟩ => ⟨S8x2048x704, .bf16⟩
  | .hbm, ⟨5, _⟩ => ⟨S8x2048x704, .f32⟩
  | .hbm, ⟨6, _⟩ => ⟨S8x1x1x2048x704, .bf16⟩
  | .hbm, ⟨7, _⟩ => ⟨S8x2048x704, .bf16⟩
  | .hbm, ⟨8, _⟩ => ⟨S8x2048x704, .f32⟩
  | .hbm, ⟨9, _⟩ => ⟨S8x704x4352, .f32⟩
  | .hbm, ⟨10, _⟩ => ⟨S8x4352x704, .f32⟩
  | .hbm, ⟨11, _⟩ => ⟨S8x704x4352, .f32⟩
  | .hbm, ⟨12, _⟩ => ⟨S8x4352x704, .f32⟩
  | .hbm, ⟨13, _⟩ => ⟨S8x4352x704, .f32⟩
  | .hbm, ⟨14, _⟩ => ⟨S8x4352x704, .f32⟩
  | .hbm, ⟨15, _⟩ => ⟨S_, .f32⟩
  | .hbm, ⟨16, _⟩ => ⟨S8x4352x704, .f32⟩
  | .hbm, ⟨17, _⟩ => ⟨S8x4352x704, .f32⟩
  | .hbm, ⟨18, _⟩ => ⟨S_, .f32⟩
  | .hbm, ⟨19, _⟩ => ⟨S8x4352x704, .f32⟩
  | .hbm, ⟨20, _⟩ => ⟨S8x4352x704, .f32⟩
  | .hbm, ⟨21, _⟩ => ⟨S8x4352x704, .f32⟩
  | .hbm, ⟨22, _⟩ => ⟨S8x4352x704, .f32⟩
  | .hbm, ⟨23, _⟩ => ⟨S8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel17.lean ====
abbrev S4352x2048 : Shape := ⟨2, ![4352, 2048]⟩
abbrev S8x2048x1408 : Shape := ⟨3, ![8, 2048, 1408]⟩
abbrev S4352x11264 : Shape := ⟨2, ![4352, 11264]⟩
abbrev S1088x2048 : Shape := ⟨2, ![1088, 2048]⟩
abbrev S1x2048x1408 : Shape := ⟨3, ![1, 2048, 1408]⟩
abbrev S1088x1408 : Shape := ⟨2, ![1088, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x2048x1408, .bf16⟩
  | .hbm, ⟨2, _⟩ => ⟨S4352x11264, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4352x2048 : Shape := ⟨2, ![4352, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4352x11264 : Shape := ⟨2, ![4352, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2048x1408, .bf16⟩
  | .hbm, ⟨2, _⟩ => ⟨S4352x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4352x11264, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S8x4352x704 : Shape := ⟨3, ![8, 4352, 704]⟩
abbrev S8x2x704x2048 : Shape := ⟨4, ![8, 2, 704, 2048]⟩
abbrev S4352x2048 : Shape := ⟨2, ![4352, 2048]⟩
abbrev S2x9x2048 : Shape := ⟨3, ![2, 9, 2048]⟩
abbrev S1x544x704 : Shape := ⟨3, ![1, 544, 704]⟩
abbrev S1x1x704x2048 : Shape := ⟨4, ![1, 1, 704, 2048]⟩
abbrev S544x2048 : Shape := ⟨2, ![544, 2048]⟩
abbrev S544x704 : Shape := ⟨2, ![544, 704]⟩
abbrev S704x2048 : Shape := ⟨2, ![704, 2048]⟩
abbrev S544x1 : Shape := ⟨2, ![544, 1]⟩
abbrev S1x1x2048 : Shape := ⟨3, ![1, 1, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8x4352x704, .bf16⟩
  | .hbm, ⟨1, _⟩ => ⟨S8x2x704x2048, .bf16⟩
  | .hbm, ⟨2, _⟩ => ⟨S4352x2048, .f32⟩
  | .hbm, ⟨3, _⟩ => ⟨S2x9x2048, .f32⟩
  | .hbm, ⟨4, _⟩ => ⟨S4352x2048, .f32⟩
  | .hbm, ⟨5, _⟩ => ⟨S4352x2048, .f32⟩
  | .local _ .vmem, ⟨0, _⟩ => ⟨S1x544x704, .bf16⟩
  | .local _ .vmem, ⟨1, _⟩ => ⟨S1x544x704, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S544x2048, .f32⟩
  | .local _ .vmem, ⟨5, _⟩ => ⟨S544x2048, .f32⟩
  | .local _ .vmem, ⟨6, _⟩ => ⟨S2x9x2048, .f32⟩
  | .local _ .vmem, ⟨7, _⟩ => ⟨S544x2048, .f32⟩
  | .local _ .vmem, ⟨8, _⟩ => ⟨S544x2048, .f32⟩
  | .local _ .vmem, ⟨9, _⟩ => ⟨S544x2048, .f32⟩
  | .local _ .vmem, ⟨10, _⟩ => ⟨S544x2048, .f32⟩
  | .local _ .vmem, ⟨11, _⟩ => ⟨S544x2048, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x9x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference18Ideal.lean ====
abbrev S8x4352x704 : Shape := ⟨3, ![8, 4352, 704]⟩
abbrev S8x2x704x2048 : Shape := ⟨4, ![8, 2, 704, 2048]⟩
abbrev S4352x2048 : Shape := ⟨2, ![4352, 2048]⟩
abbrev S2x9x2048 : Shape := ⟨3, ![2, 9, 2048]⟩
abbrev S8x1x704x2048 : Shape := ⟨4, ![8, 1, 704, 2048]⟩
abbrev S8x704x2048 : Shape := ⟨3, ![8, 704, 2048]⟩
abbrev S4096x2048 : Shape := ⟨2, ![4096, 2048]⟩
abbrev S1x1x2048 : Shape := ⟨3, ![1, 1, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x2x704x2048, .bf16⟩
  | .hbm, ⟨2, _⟩ => ⟨S4352x2048, .f32⟩
  | .hbm, ⟨3, _⟩ => ⟨S2x9x2048, .f32⟩
  | .hbm, ⟨4, _⟩ => ⟨S8x4352x704, .f32⟩
  | .hbm, ⟨5, _⟩ => ⟨S8x1x704x2048, .bf16⟩
  | .hbm, ⟨6, _⟩ => ⟨S8x704x2048, .bf16⟩
  | .hbm, ⟨7, _⟩ => ⟨S8x704x2048, .f32⟩
  | .hbm, ⟨8, _⟩ => ⟨S4352x2048, .f32⟩
  | .hbm, ⟨9, _⟩ => ⟨S4096x2048, .f32⟩
  | .hbm, ⟨10, _⟩ => ⟨S1x1x2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S256x2048, .f32⟩
  | .hbm, ⟨21, _⟩ => ⟨S1x1x2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S256x2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S4352x2048, .f32⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel19.lean ====
abbrev S8x4096x704 : Shape := ⟨3, ![8, 4096, 704]⟩
abbrev S8x2x704x2048 : Shape := ⟨4, ![8, 2, 704, 2048]⟩
abbrev S4096x2048 : Shape := ⟨2, ![4096, 2048]⟩
abbrev S2x9x2048 : Shape := ⟨3, ![2, 9, 2048]⟩
abbrev S1x512x704 : Shape := ⟨3, ![1, 512, 704]⟩
abbrev S1x1x704x2048 : Shape := ⟨4, ![1, 1, 704, 2048]⟩
abbrev S512x2048 : Shape := ⟨2, ![512, 2048]⟩
abbrev S512x704 : Shape := ⟨2, ![512, 704]⟩
abbrev S704x2048 : Shape := ⟨2, ![704, 2048]⟩
abbrev S512x1 : Shape := ⟨2, ![512, 1]⟩
abbrev S1x1x2048 : Shape := ⟨3, ![1, 1, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x704, .bf16⟩
  | .hbm, ⟨1, _⟩ => ⟨S8x2x704x2048, .bf16⟩
  | .hbm, ⟨2, _⟩ => ⟨S4096x2048, .f32⟩
  | .hbm, ⟨3, _⟩ => ⟨S2x9x2048, .f32⟩
  | .hbm, ⟨4, _⟩ => ⟨S4096x2048, .f32⟩
  | .hbm, ⟨5, _⟩ => ⟨S4096x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S512x2048, .f32⟩
  | .local _ .vmem, ⟨5, _⟩ => ⟨S512x2048, .f32⟩
  | .local _ .vmem, ⟨6, _⟩ => ⟨S2x9x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x9x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference19Ideal.lean ====
abbrev S8x4096x704 : Shape := ⟨3, ![8, 4096, 704]⟩
abbrev S8x2x704x2048 : Shape := ⟨4, ![8, 2, 704, 2048]⟩
abbrev S4096x2048 : Shape := ⟨2, ![4096, 2048]⟩
abbrev S2x9x2048 : Shape := ⟨3, ![2, 9, 2048]⟩
abbrev S8x1x704x2048 : Shape := ⟨4, ![8, 1, 704, 2048]⟩
abbrev S8x704x2048 : Shape := ⟨3, ![8, 704, 2048]⟩
abbrev S1x1x2048 : Shape := ⟨3, ![1, 1, 2048]⟩
abbrev S2048 : Shape := ⟨1, ![2048]⟩
abbrev S_ : Shape := ⟨0, ![]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x2x704x2048, .bf16⟩
  | .hbm, ⟨2, _⟩ => ⟨S4096x2048, .f32⟩
  | .hbm, ⟨3, _⟩ => ⟨S2x9x2048, .f32⟩
  | .hbm, ⟨4, _⟩ => ⟨S8x4096x704, .f32⟩
  | .hbm, ⟨5, _⟩ => ⟨S8x1x704x2048, .bf16⟩
  | .hbm, ⟨6, _⟩ => ⟨S8x704x2048, .bf16⟩
  | .hbm, ⟨7, _⟩ => ⟨S8x704x2048, .f32⟩
  | .hbm, ⟨8, _⟩ => ⟨S4096x2048, .f32⟩
  | .hbm, ⟨9, _⟩ => ⟨S1x1x2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel20.lean ====
abbrev S4352x2048 : Shape := ⟨2, ![4352, 2048]⟩
abbrev S2048x2048 : Shape := ⟨2, ![2048, 2048]⟩
abbrev S2x9x2048 : Shape := ⟨3, ![2, 9, 2048]⟩
abbrev S1x2048 : Shape := ⟨2, ![1, 2048]⟩
abbrev S4096x2048 : Shape := ⟨2, ![4096, 2048]⟩
abbrev S256x2048 : Shape := ⟨2, ![256, 2048]⟩
abbrev S1x9x2048 : Shape := ⟨3, ![1, 9, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2x9x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x9x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4352x2048 : Shape := ⟨2, ![4352, 2048]⟩
abbrev S2048x2048 : Shape := ⟨2, ![2048, 2048]⟩
abbrev S2x9x2048 : Shape := ⟨3, ![2, 9, 2048]⟩
abbrev S1x2048 : Shape := ⟨2, ![1, 2048]⟩
abbrev S4096x2048 : Shape := ⟨2, ![4096, 2048]⟩
abbrev S1x1x2048 : Shape := ⟨3, ![1, 1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2x9x2048, .f32⟩
  | .hbm, ⟨4, _⟩ => ⟨S1x2048, .f32⟩
  | .hbm, ⟨5, _⟩ => ⟨S4096x2048, .bf16⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S1x1x2048, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x1x2048, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S2x9x2048 : Shape := ⟨3, ![2, 9, 2048]⟩
abbrev S1x1x2048 : Shape := ⟨3, ![1, 1, 2048]⟩
abbrev S256x2048 : Shape := ⟨2, ![256, 2048]⟩
abbrev S1x9x2048 : Shape := ⟨3, ![1, 9, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2x9x2048, .f32⟩
  | .hbm, ⟨5, _⟩ => ⟨S4096x2048, .f32⟩
  | .hbm, ⟨6, _⟩ => ⟨S4096x2048, .f32⟩
  | .hbm, ⟨7, _⟩ => ⟨S1x1x2048, .f32⟩
  | .hbm, ⟨8, _⟩ => ⟨S1x1x2048, .f32⟩
  | .hbm, ⟨9, _⟩ => ⟨S1x2048, .f32⟩
  | .hbm, ⟨10, _⟩ => ⟨S4096x2048, .bf16⟩
  | .hbm, ⟨11, _⟩ => ⟨S1x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x9x2048, .f32⟩
  | .local _ .vmem, ⟨8, _⟩ => ⟨S1x9x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S256x2048, .bf16⟩
  | .local _ .vmem, ⟨19, _⟩ => ⟨S256x2048, .bf16⟩
  | .local _ .vmem, ⟨20, _⟩ => ⟨S1x1x2048, .f32⟩
  | .local _ .vmem, ⟨21, _⟩ => ⟨S1x1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference21Ideal.lean ====
abbrev S4096x2048 : Shape := ⟨2, ![4096, 2048]⟩
abbrev S1x2048 : Shape := ⟨2, ![1, 2048]⟩
abbrev S2x9x2048 : Shape := ⟨3, ![2, 9, 2048]⟩
abbrev S1x1x2048 : Shape := ⟨3, ![1, 1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2x9x2048, .f32⟩
  | .hbm, ⟨5, _⟩ => ⟨S4096x2048, .f32⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S_, .f32⟩
  | .hbm, ⟨43, _⟩ => ⟨S2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S1x1x2048, .f32⟩
  | .hbm, ⟨77, _⟩ => ⟨S2048, .f32⟩
  | .hbm, ⟨78, _⟩ => ⟨S1x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S_, .f32⟩
  | .hbm, ⟨88, _⟩ => ⟨S2048, .f32⟩
  | .hbm, ⟨89, _⟩ => ⟨S1x1x2048, .f32⟩
  | .hbm, ⟨90, _⟩ => ⟨S1x1x2048, .f32⟩
  | .hbm, ⟨91, _⟩ => ⟨S4096x2048, .bf16⟩
  | .hbm, ⟨92, _⟩ => ⟨S1x1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel22.lean ====
abbrev S4096x2048 : Shape := ⟨2, ![4096, 2048]⟩
abbrev S4352x512 : Shape := ⟨2, ![4352, 512]⟩
abbrev S4x4x4096x128 : Shape := ⟨4, ![4, 4, 4096, 128]⟩
abbrev S128x512 : Shape := ⟨2, ![128, 512]⟩
abbrev S4352x128 : Shape := ⟨2, ![4352, 128]⟩
abbrev S1x4x128x128 : Shape := ⟨4, ![1, 4, 128, 128]⟩
abbrev S128x128 : Shape := ⟨2, ![128, 128]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩
abbrev S128x1 : Shape := ⟨2, ![128, 1]⟩
abbrev S1x1x128x128 : Shape := ⟨4, ![1, 1, 128, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4352x512, .bf16⟩
  | .hbm, ⟨2, _⟩ => ⟨S4352x512, .bf16⟩
  | .hbm, ⟨3, _⟩ => ⟨S4096x2048, .f32⟩
  | .hbm, ⟨4, _⟩ => ⟨S4x4x4096x128, .f32⟩
  | .local _ .vmem, ⟨0, _⟩ => ⟨S128x512, .bf16⟩
  | .local _ .vmem, ⟨1, _⟩ => ⟨S128x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S128x512, .f32⟩
  | .local _ .vmem, ⟨7, _⟩ => ⟨S128x512, .f32⟩
  | .local _ .vmem, ⟨8, _⟩ => ⟨S1x4x128x128, .f32⟩
  | .local _ .vmem, ⟨9, _⟩ => ⟨S1x4x128x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S4096x2048 : Shape := ⟨2, ![4096, 2048]⟩
abbrev S4352x512 : Shape := ⟨2, ![4352, 512]⟩
abbrev S4096x4x4x128 : Shape := ⟨4, ![4096, 4, 4, 128]⟩
abbrev S4352x4x128 : Shape := ⟨3, ![4352, 4, 128]⟩
abbrev S4x4352x4096x4 : Shape := ⟨4, ![4, 4352, 4096, 4]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x4x4096x128 : Shape := ⟨4, ![4, 4, 4096, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4352x512, .bf16⟩
  | .hbm, ⟨2, _⟩ => ⟨S4352x512, .bf16⟩
  | .hbm, ⟨3, _⟩ => ⟨S4096x2048, .f32⟩
  | .hbm, ⟨4, _⟩ => ⟨S4352x512, .f32⟩
  | .hbm, ⟨5, _⟩ => ⟨S4096x4x4x128, .f32⟩
  | .hbm, ⟨6, _⟩ => ⟨S4352x4x128, .f32⟩
  | .hbm, ⟨7, _⟩ => ⟨S4x4352x4096x4, .f32⟩
  | .hbm, ⟨8, _⟩ => ⟨S4x4x4096x4352, .f32⟩
  | .hbm, ⟨9, _⟩ => ⟨S_, .f32⟩
  | .hbm, ⟨10, _⟩ => ⟨S4x4x4096x4352, .f32⟩
  | .hbm, ⟨11, _⟩ => ⟨S4x4x4096x4352, .f32⟩
  | .hbm, ⟨12, _⟩ => ⟨S4x4x4096x4352, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x1, .f32⟩
  | .hbm, ⟨17, _⟩ => ⟨S4096x2048, .f32⟩
  | .hbm, ⟨18, _⟩ => ⟨S4352x512, .f32⟩
  | .hbm, ⟨19, _⟩ => ⟨S4352x512, .f32⟩
  | .hbm, ⟨20, _⟩ => ⟨S4096x4x4x128, .f32⟩
  | .hbm, ⟨21, _⟩ => ⟨S4352x4x128, .f32⟩
  | .hbm, ⟨22, _⟩ => ⟨S4x4352x4096x4, .f32⟩
  | .hbm, ⟨23, _⟩ => ⟨S4x4x4096x4352, .f32⟩
  | .hbm, ⟨24, _⟩ => ⟨S_, .f32⟩
  | .hbm, ⟨25, _⟩ => ⟨S4x4x4096x4352, .f32⟩
  | .hbm, ⟨26, _⟩ => ⟨S4x4x4096x4352, .f32⟩
  | .hbm, ⟨27, _⟩ => ⟨S_, .f32⟩
  | .hbm, ⟨28, _⟩ => ⟨S4x4x4096, .f32⟩
  | .hbm, ⟨29, _⟩ => ⟨S_, .f32⟩
  | .hbm, ⟨30, _⟩ => ⟨S4x4x4096, .f32⟩
  | .hbm, ⟨31, _⟩ => ⟨S4x4x4096, .f32⟩
  | .hbm, ⟨32, _⟩ => ⟨S4x4x4096x1, .f32⟩
  | .hbm, ⟨33, _⟩ => ⟨S4x4x4096x4352, .f32⟩
  | .hbm, ⟨34, _⟩ => ⟨S4x4x4096x4352, .f32⟩
  | .hbm, ⟨35, _⟩ => ⟨S4x4x4096x4352, .f32⟩
  | .hbm, ⟨36, _⟩ => ⟨S_, .f32⟩
  | .hbm, ⟨37, _⟩ => ⟨S4x4x4096, .f32⟩
  | .hbm, ⟨38, _⟩ => ⟨S4x4x4096x1, .f32⟩
  | .hbm, ⟨39, _⟩ => ⟨S4x4x4096x4352, .f32⟩
  | .hbm, ⟨40, _⟩ => ⟨S4x4x4096x4352, .f32⟩
  | .hbm, ⟨41, _⟩ => ⟨S4352x4x128, .f32⟩
  | .hbm, ⟨42, _⟩ => ⟨S4x128x4x4096, .f32⟩
  | .hbm, ⟨43, _⟩ => ⟨S4096x4x4x128, .f32⟩
  | .hbm, ⟨44, _⟩ => ⟨S4096x2048, .f32⟩
  | .hbm, ⟨45, _⟩ => ⟨S4x4x4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel23.lean ====
abbrev S4352x2048 : Shape := ⟨2, ![4352, 2048]⟩
abbrev S1x2048 : Shape := ⟨2, ![1, 2048]⟩
abbrev S2x9x2048 : Shape := ⟨3, ![2, 9, 2048]⟩
abbrev S256x2048 : Shape := ⟨2, ![256, 2048]⟩
abbrev S1x9x2048 : Shape := ⟨3, ![1, 9, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S2x9x2048, .f32⟩
  | .hbm, ⟨3, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x9x2048, .f32⟩
  | .local _ .vmem, ⟨4, _⟩ => ⟨S1x9x2048, .f32⟩
  | .local _ .vmem, ⟨5, _⟩ => ⟨S256x2048, .bf16⟩
  | .local _ .vmem, ⟨6, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S4352x2048 : Shape := ⟨2, ![4352, 2048]⟩
abbrev S1x2048 : Shape := ⟨2, ![1, 2048]⟩
abbrev S2x9x2048 : Shape := ⟨3, ![2, 9, 2048]⟩
abbrev S4096x2048 : Shape := ⟨2, ![4096, 2048]⟩
abbrev S1x1x2048 : Shape := ⟨3, ![1, 1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256 : Shape := ⟨1, ![256]⟩
abbrev S256x1 : Shape := ⟨2, ![256, 1]⟩

abbrev nBuf : Space → Nat
  | .hbm => 63
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S2x9x2048, .f32⟩
  | .hbm, ⟨3, _⟩ => ⟨S4096x2048, .f32⟩
  | .hbm, ⟨4, _⟩ => ⟨S1x1x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S256x2048, .f32⟩
  | .hbm, ⟨33, _⟩ => ⟨S1x1x2048, .f32⟩
  | .hbm, ⟨34, _⟩ => ⟨S2048, .f32⟩
  | .hbm, ⟨35, _⟩ => ⟨S1x1x2048, .f32⟩
  | .hbm, ⟨36, _⟩ => ⟨S2048, .f32⟩
  | .hbm, ⟨37, _⟩ => ⟨S256x2048, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S256x2048, .f32⟩
  | .hbm, ⟨57, _⟩ => ⟨S256x2048, .f32⟩
  | .hbm, ⟨58, _⟩ => ⟨S1x2048, .f32⟩
  | .hbm, ⟨59, _⟩ => ⟨S256x2048, .f32⟩
  | .hbm, ⟨60, _⟩ => ⟨S256x2048, .f32⟩
  | .hbm, ⟨61, _⟩ => ⟨S4352x2048, .f32⟩
  | .hbm, ⟨62, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel24.lean ====
abbrev S8x8x2304 : Shape := ⟨3, ![8, 8, 2304]⟩
abbrev S16x2048 : Shape := ⟨2, ![16, 2048]⟩
abbrev S2048x2304 : Shape := ⟨2, ![2048, 2304]⟩
abbrev S16x512 : Shape := ⟨2, ![16, 512]⟩
abbrev S512x2304 : Shape := ⟨2, ![512, 2304]⟩
abbrev S1x1x2304 : Shape := ⟨3, ![1, 1, 2304]⟩
abbrev S1x2304 : Shape := ⟨2, ![1, 2304]⟩
abbrev S7x2304 : Shape := ⟨2, ![7, 2304]⟩
abbrev S16x2304 : Shape := ⟨2, ![16, 2304]⟩

abbrev nBuf : Space → Nat
  | .hbm => 5
  | .vmem => 9
  | .smem => 0
  | _ => 0

abbrev bufTy : (tb : Table) → Fin (tcTables nBuf tb) → BufTy
  | .hbm, ⟨0, _⟩ => ⟨S8x8x2304, .f32⟩
  | .hbm, ⟨1, _⟩ => ⟨S16x2048, .f32⟩
  | .hbm, ⟨2, _⟩ => ⟨S2048x2304, .f32⟩
  | .hbm, ⟨3, _⟩ => ⟨S2048x2304, .f32⟩
  | .hbm, ⟨4, _⟩ => ⟨S16x2048, .f32⟩
  | .local _ .vmem, ⟨0, _⟩ => ⟨S8x8x2304, .f32⟩
  | .local _ .vmem, ⟨1, _⟩ => ⟨S16x512, .f32⟩
  | .local _ .vmem, ⟨2, _⟩ => ⟨S16x512, .f32⟩
  | .local _ .vmem, ⟨3, _⟩ => ⟨S512x2304, .f32⟩
  | .local _ .vmem, ⟨4, _⟩ => ⟨S512x2304, .f32⟩
  | .local _ .vmem, ⟨5, _⟩ => ⟨S512x2304, .f32⟩
  | .local _ .vmem, ⟨6, _⟩ => ⟨S512x2304, .f32⟩
  | .local _ .vmem, ⟨7, _⟩ => ⟨S16x512, .f32⟩
  | .local _ .vmem, ⟨8, _⟩ => ⟨S16x512, .f32⟩
  | _, _ => ⟨S8x8x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S8x8x2304 : Shape := ⟨3, ![8, 8, 2304]⟩
abbrev S16x2048 : Shape := ⟨2, ![16, 2048]⟩
abbrev S2048x2304 : Shape := ⟨2, ![2048, 2304]⟩
abbrev S8x2048 : Shape := ⟨2, ![8, 2048]⟩
abbrev S_ : Shape := ⟨0, ![]⟩
abbrev S1x2048 : Shape := ⟨2, ![1, 2048]⟩
abbrev S8x2304 : Shape := ⟨2, ![8, 2304]⟩
abbrev S1x2304 : Shape := ⟨2, ![1, 2304]⟩
abbrev S8x1x2304 : Shape := ⟨3, ![8, 1, 2304]⟩
abbrev S8x2x2304 : Shape := ⟨3, ![8, 2, 2304]⟩
abbrev S2304 : Shape := ⟨1, ![2304]⟩
abbrev S2304x2048 : Shape := ⟨2, ![2304, 2048]⟩
abbrev S7x2048 : Shape := ⟨2, ![7, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x8x2304, .f32⟩
  | .hbm, ⟨1, _⟩ => ⟨S16x2048, .f32⟩
  | .hbm, ⟨2, _⟩ => ⟨S2048x2304, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S8x2304, .f32⟩
  | .hbm, ⟨24, _⟩ => ⟨S1x2304, .f32⟩
  | .hbm, ⟨25, _⟩ => ⟨S8x2304, .f32⟩
  | .hbm, ⟨26, _⟩ => ⟨S8x1x2304, .f32⟩
  | .hbm, ⟨27, _⟩ => ⟨S8x1x2304, .f32⟩
  | .hbm, ⟨28, _⟩ => ⟨S8x2x2304, .f32⟩
  | .hbm, ⟨29, _⟩ => ⟨S8x2x2304, .f32⟩
  | .hbm, ⟨30, _⟩ => ⟨S8x1x2304, .f32⟩
  | .hbm, ⟨31, _⟩ => ⟨S8x2304, .f32⟩
  | .hbm, ⟨32, _⟩ => ⟨S8x1x2304, .f32⟩
  | .hbm, ⟨33, _⟩ => ⟨S8x2304, .f32⟩
  | .hbm, ⟨34, _⟩ => ⟨S_, .f32⟩
  | .hbm, ⟨35, _⟩ => ⟨S2304, .f32⟩
  | .hbm, ⟨36, _⟩ => ⟨S1x2304, .f32⟩
  | .hbm, ⟨37, _⟩ => ⟨S2304x2048, .f32⟩
  | .hbm, ⟨38, _⟩ => ⟨S2048x2304, .f32⟩
  | .hbm, ⟨39, _⟩ => ⟨S1x2048, .f32⟩
  | .hbm, ⟨40, _⟩ => ⟨S2304x2048, .f32⟩
  | .hbm, ⟨41, _⟩ => ⟨S2048x2304, .f32⟩
  | .hbm, ⟨42, _⟩ => ⟨S2048x2304, .f32⟩
  | .hbm, ⟨43, _⟩ => ⟨S8x2048, .f32⟩
  | .hbm, ⟨44, _⟩ => ⟨S_, .f32⟩
  | .hbm, ⟨45, _⟩ => ⟨S7x2048, .f32⟩
  | .hbm, ⟨46, _⟩ => ⟨S16x2048, .f32⟩
  | _, _ => ⟨S8x8x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x1, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Scalars.lean ====
/- Facts about extended reals that the value proofs share: the two spellings of the logistic function, and the arithmetic of
   finite values. -/
module

public import Idealize.ShloMosaic.PureOps.Ideal.Laws
public import Idealize.ShloMosaic.Lib.IdealHost

@[expose] public section

noncomputable section

namespace Cert.Scalars

open Idealize.ShloMosaic

/-- The f32 pattern of one half, as an extended real. -/
theorem half_f32 : Ideal.ofBits .f32 0x3F000000#32 = ((1 / 2 : ℝ) : EReal) := by
  simp [Ideal.ofBits, Ideal.ieee]
  norm_num
  rw [← EReal.coe_mul]
  norm_num

/-- On the reals, half of a hyperbolic tangent of a half plus a half is the logistic function. -/
theorem real_half_tanh (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = p at *
  generalize Real.exp (-(1 / 2 * r)) = q at *
  field_simp
  nlinarith [h2]

/-- Half of a hyperbolic tangent of a half plus a half is one over one plus the exponential of the negated argument, at
    every extended real. -/
theorem half_tanh (x : EReal) :
    Ideal.ofBits .f32 0x3F000000#32 * Ideal.tanh (Ideal.ofBits .f32 0x3F000000#32 * x) + Ideal.ofBits .f32 0x3F000000#32
      = Ideal.logistic x := by
  rw [half_f32]
  have hp : (0 : EReal) < ((1 / 2 : ℝ) : EReal) := by exact_mod_cast (by norm_num : (0 : ℝ) < 1 / 2)
  induction x using EReal.rec with
  | bot =>
    rw [EReal.mul_bot_of_pos hp, Ideal.tanh_bot, Ideal.logistic_bot, show (-1 : EReal) = ((-1 : ℝ) : EReal) by simp,
      ← EReal.coe_mul, ← EReal.coe_add]
    norm_num
  | top =>
    rw [EReal.mul_top_of_pos hp, Ideal.tanh_top, Ideal.logistic_top, show (1 : EReal) = ((1 : ℝ) : EReal) by simp,
      ← EReal.coe_mul, ← EReal.coe_add]
    norm_num
  | coe r =>
    rw [← EReal.coe_mul, Ideal.tanh_coe, Ideal.logistic_coe, ← EReal.coe_mul, ← EReal.coe_add, real_half_tanh]

/-- The quotient spelling of the logistic function. -/
theorem div_one_exp (x : EReal) : Ideal.div 1 (1 + Ideal.exp (-x)) = Ideal.logistic x := rfl

/-- The logistic function takes real values only. -/
theorem logistic_real (x : EReal) : ∃ r : ℝ, Ideal.logistic x = (r : EReal) := by
  induction x using EReal.rec with
  | bot => exact ⟨0, by rw [Ideal.logistic_bot]; rfl⟩
  | top => exact ⟨1, by rw [Ideal.logistic_top]; rfl⟩
  | coe r => exact ⟨_, Ideal.logistic_coe r⟩

/-- The two spellings of the derivative of `g * logistic g`, applied to a real cotangent: the factor taken out, and the two
    terms of the product rule. They agree at the infinite `g` too, where a factor of each is zero. -/
theorem silu_deriv (x : ℝ) (g : EReal) :
    (x : EReal) * (Ideal.logistic g * (1 + g * (1 - Ideal.logistic g)))
      = (x : EReal) * Ideal.logistic g + g * x * (Ideal.logistic g * (1 - Ideal.logistic g)) := by
  induction g using EReal.rec with
  | bot => rw [Ideal.logistic_bot]; simp
  | top =>
    rw [Ideal.logistic_top, show (1 : EReal) - 1 = 0 by rw [show (1 : EReal) = ((1 : ℝ) : EReal) from rfl, ← EReal.coe_sub]; simp]
    simp
  | coe r =>
    rw [Ideal.logistic_coe]
    generalize (1 + Real.exp (-r))⁻¹ = s
    rw [show (1 : EReal) = ((1 : ℝ) : EReal) from rfl]
    simp only [← EReal.coe_mul, ← EReal.coe_add, ← EReal.coe_sub]
    congr 1; ring

/-- `silu_deriv` at a cotangent known to be real. -/
theorem silu_deriv_of_real {x : EReal} (hx : ∃ r : ℝ, x = (r : EReal)) (g : EReal) :
    x * (Ideal.logistic g * (1 + g * (1 - Ideal.logistic g)))
      = x * Ideal.logistic g + g * x * (Ideal.logistic g * (1 - Ideal.logistic g)) := by
  obtain ⟨r, rfl⟩ := hx
  exact silu_deriv r g

/-- A finite sum of reals is real. -/
theorem sum_real {ι : Type} [Fintype ι] (f : ι → EReal) (h : ∀ i, ∃ r : ℝ, f i = (r : EReal)) : ∃ r : ℝ, ∑ i, f i = (r : EReal) := by
  choose g hg using h
  refine ⟨∑ i, g i, ?_⟩
  rw [Finset.sum_congr rfl fun i _ => hg i]
  exact (map_sum (⟨⟨((↑) : ℝ → EReal), EReal.coe_zero⟩, EReal.coe_add⟩ : ℝ →+ EReal) g Finset.univ).symm

/-- A product of reals is real. -/
theorem mul_real {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, (EReal.coe_mul r s).symm⟩

/-- An extended real whose absolute value compares below the f32 pattern of infinity is real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end Cert.Scalars

end
-- ==== Proof.Dact.lean ====
/- The value of the gradient of the gated activation (`Kernel2`): the two arrays the kernel leaves are the reference's. -/
module

public import proofs.«01_k».proof.Defs
public import proofs.«01_k».proof.Proof.Gen.Kernel2Ideal.Value
public import proofs.«01_k».proof.Proof.Gen.Reference2Ideal.Read
public import proofs.«01_k».proof.Proof.Gen.Pre_finite2
public import Idealize.ShloMosaic.Lib.Pipeline.ValueKit
public import Idealize.ShloMosaic.Lib.Pointwise.Tactic
public import Idealize.ShloMosaic.Lib.ReduceAll
public import proofs.«01_k».proof.Proof.Scalars

@[expose] public section

set_option maxRecDepth 16384

noncomputable section

namespace Cert.Dact

open Idealize.ShloMosaic Idealize.ShloMosaic.TcCoe Idealize.SL.Sem
open Cert.Kernel2Ideal Cert.Kernel2Ideal.Gen

variable (m : (ℓ : Loc nD τ sig) → Buf (Elt Ideal) ℓ)

/-- The block each window takes at a grid point `(row tile, hidden block)`. -/
theorem idx : ∀ t : Fin cfg0.N, win0_0.index t = ![(grid0.coords t 0).val, 0] ∧ win0_1.index t = ![(grid0.coords t 1).val, 0, 0, 0]
    ∧ win0_2.index t = ![(grid0.coords t 1).val, (grid0.coords t 0).val, 0] ∧ win0_3.index t = ![(grid0.coords t 1).val, (grid0.coords t 0).val, 0]
    ∧ win0_4.index t = ![(grid0.coords t 1).val, (grid0.coords t 0).val, 0] ∧ win0_5.index t = ![(grid0.coords t 1).val, (grid0.coords t 0).val, 0] :=
  (by decide +kernel : ∀ t : Fin grid0.N, _)

/-- The precondition read at the elements: the cotangent, the weight and the factor `u` hold real numbers. -/
theorem finite_of_pre (h : Cert.Pre_Kernel2Ideal_finite2 m) (c : Dev nD) :
    (∀ i, ∃ r : ℝ, (m ((c.tc : Thread nD τ).loc main_arg0)) i = (r : EReal))
    ∧ (∀ i, ∃ r : ℝ, (m ((c.tc : Thread nD τ).loc main_arg1)) i = (r : EReal))
    ∧ (∀ i, ∃ r : ℝ, (m ((c.tc : Thread nD τ).loc main_arg3)) i = (r : EReal)) := by
  have h' := congrFun (h c) (Shape.Idx.first Cert.Pre_finite2.Facts.h_S_)
  dsimp only [Cert.Pre_finite2.fn] at h'
  obtain ⟨h01, h3⟩ := IntOp.andi_eq_one.1 h'
  obtain ⟨h0, h1⟩ := IntOp.andi_eq_one.1 h01
  haveI : Subsingleton Cert.Pre_finite2.S_.Idx := ⟨fun a b => funext fun i => i.elim0⟩
  exact ⟨fun i => Cert.Scalars.real_of_abs_lt _ (Host.reduce_andi_all _ _ _ _ _ h0 i),
    fun i => Cert.Scalars.real_of_abs_lt _ (Host.reduce_andi_all _ _ _ _ _ h1 i),
    fun i => Cert.Scalars.real_of_abs_lt _ (Host.reduce_andi_all _ _ _ _ _ h3 i)⟩

open Cert.Reference2Ideal.Read in
/-- The array left for the gradient of `u` is the reference's. -/
theorem du_eq (c : Dev nD) : (dats m 0 c).arrAt 5 cfg0.N
    = val_main_v12 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  simp only [k0_pay5, k0_pay1, k0_pay2, k0_pay3, val_main_v12, val_main_v8, val_main_v7, val_main_v6, val_main_v5, val_main_v3, val_main_v2,
    val_main_v0_0, val_main_v0_2, val_main_call0_v4, val_main_call0_v3, val_main_call0_v2, val_main_call0_v1, val_main_call0_v0,
    val_main_call0_cst, val_main_call0_cst_0, pointwise, Cert.Scalars.half_tanh, Cert.Scalars.div_one_exp]
  rw [mul_comm]
  blk_point [iblk, V, idx t]

open Cert.Reference2Ideal.Read in
/-- The array left for the gradient of `g` is the reference's, when the cotangent, the weight and `u` are finite. -/
theorem dg_eq (h : Cert.Pre_Kernel2Ideal_finite2 m) (c : Dev nD) : (dats m 0 c).arrAt 4 cfg0.N
    = val_main_v11 (F := Ideal) (m ((c.tc : Thread nD τ).loc main_arg0)) (m ((c.tc : Thread nD τ).loc main_arg1)) (m ((c.tc : Thread nD τ).loc main_arg2)) (m ((c.tc : Thread nD τ).loc main_arg3)) := by
  obtain ⟨r0, r1, r3⟩ := finite_of_pre m h c
  refine (dats m 0 c).arrAt_eq_of_covers 4 _ (by decide +kernel) fun t hf y => ?_
  blk_simp
  rw [after0_4]
  frame_out
  simp only [k0_pay4, k0_pay1, k0_pay2, k0_pay3, val_main_v11, val_main_v10, val_main_call1_v2, val_main_call1_v1, val_main_call1_v0, val_main_v9,
    val_main_v7, val_main_v6, val_main_v5, val_main_v3, val_main_v2, val_main_v0_0, val_main_v0_1, val_main_call0_v7, val_main_call0_v6,
    val_main_call0_cst_1, val_main_v0_2, val_main_call0_v4, val_main_call0_v3, val_main_call0_v2, val_main_call0_v1, val_main_call0_v0,
    val_main_call0_cst, val_main_call0_cst_0, pointwise, Cert.Scalars.half_tanh, Cert.Scalars.div_one_exp]
  refine Eq.trans ?_ (Cert.Scalars.silu_deriv_of_real (Cert.Scalars.mul_real ?_ (r3 _)) _)
  · blk_point [iblk, V, idx t]
  · rw [zero_add]
    exact Cert.Scalars.sum_real _ fun k => Cert.Scalars.mul_real (r0 _) (r1 _)

/-- The two arrays the kernel leaves are those of the reference, on every device. -/
theorem algebraic : Cert.algebraic_Kernel2Ideal_Reference2Ideal_pre_finite2 := by
  intro m g m' g' hpre heq
  refine ⟨fun c => (dats m 0 c).arrAt 4 cfg0.N, fun c => (dats m 0 c).arrAt 5 cfg0.N, Cert.Kernel2Ideal.Value.run_blocks m g,
    (θ_run Cert.Reference2Ideal.defs _ _).mono (fun r h c => ?_) (Cert.Reference2Ideal.Value.run m' g')⟩
  obtain ⟨h0, h1, ha⟩ := h c
  obtain ⟨e0, e1, e2, e3⟩ := heq c
  refine ⟨h0.trans ?_, h1.trans ?_, ha⟩
  · rw [e0, e1, e2, e3]; exact (Cert.Reference2Ideal.Read.val_main_v11_eq _ _ _ _).trans (dg_eq m hpre c).symm
  · rw [e0, e1, e2]; exact (Cert.Reference2Ideal.Read.val_main_v12_eq _ _ _).trans (du_eq m c).symm

end Cert.Dact

end
-- ==== Proof.Dwd.lean ====
/- The value of the gradient of the down projection's weight (`Kernel3`): the tiles of the rows are summed one after the
   other, and the reference sums all rows at once. -/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise.Tactic

@[expose] public section

set_option maxRecDepth 16384

noncomputable section

namespace Cert.Dwd

open Idealize.ShloMosaic Idealize.ShloMosaic.TcCoe Idealize.SL.Sem
open Cert.Kernel3Ideal Cert.Kernel3Ideal.Gen

variable (m : (ℓ : Loc nD τ sig) → Buf (Elt Ideal) ℓ)

/-- The block each window takes at a grid point `(hidden block, row tile)`. -/
theorem idx : ∀ t : Fin cfg0.N, win0_0.index t = ![t.val / 4, t.val % 4, 0] ∧ win0_1.index t = ![t.val % 4, 0]
    ∧ win0_2.index t = ![t.val / 4, 0, 0, 0] :=
  (by decide +kernel : ∀ t : Fin grid0.N, _)

open Cert.Reference3Ideal.Read in
/-- The array the kernel leaves is the reference's. -/
theorem out_eq (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
      (fun t h j => by rw [outsAt0_A m c t h]; frame_out; simp only [k0_pay2, k0_pay1, pointwise]; rfl)
      (fun t h j => by rw [outsAt0_B m c t h]; frame_out; simp only [k0_pay2, pointwise]) t ((flush0_2 t).mp hf) _]
  simp only [val_main_v4_apply, val_main_v3, val_main_v2, val_main_v1, val_main_v0, pointwise]
  rw [zero_add, zero_add]
  simp only [zero_add]
  refine Fin.sum_mul_add_congr fun s k hl => ?_
  have ht : t.val < 32 := t.isLt
  have hp : 4 * (t.val / 4) + s.val < cfg0.N := lt_of_lt_of_eq (by omega : 4 * (t.val / 4) + s.val < 32) N_0.symm
  rw [mul_comm]
  blk_point [iblk, V, idx t, idx ⟨4 * (t.val / 4) + s.val, hp⟩]

/-- The array the kernel leaves is that of the reference, on every device. -/
theorem algebraic : Cert.algebraic_Kernel3Ideal_Reference3Ideal := by
  intro m g m' g' _ heq
  refine ⟨fun c => (dats m 0 c).arrAt 2 cfg0.N, Cert.Kernel3Ideal.Value.run_blocks m g,
    (θ_run Cert.Reference3Ideal.defs _ _).mono (fun r h c => ?_) (Cert.Reference3Ideal.Value.run m' g')⟩
  obtain ⟨h0, ha⟩ := h c
  obtain ⟨e0, e1⟩ := heq c
  refine ⟨h0.trans ?_, ha⟩
  rw [e0, e1]; exact (Cert.Reference3Ideal.Read.val_main_v4_eq _ _).trans (out_eq m c).symm

end Cert.Dwd

end
-- ==== Proof.Dwg.lean ====
/- The value of the gradient of the weight of an up projection (`Kernel4`): the tiles of the rows are summed one after the
   other, and the reference sums all rows at once. -/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise.Tactic

@[expose] public section

set_option maxRecDepth 16384

noncomputable section

namespace Cert.Dwg

open Idealize.ShloMosaic Idealize.ShloMosaic.TcCoe Idealize.SL.Sem
open Cert.Kernel4Ideal Cert.Kernel4Ideal.Gen

variable (m : (ℓ : Loc nD τ sig) → Buf (Elt Ideal) ℓ)

/-- The block each window takes at a grid point `(hidden block, row tile)`. -/
theorem idx : ∀ t : Fin cfg0.N, win0_0.index t = ![t.val / 4, t.val % 4, 0] ∧ win0_1.index t = ![t.val % 4, 0]
    ∧ win0_2.index t = ![t.val / 4, 0, 0, 0] :=
  (by decide +kernel : ∀ t : Fin grid0.N, _)

open Cert.Reference4Ideal.Read in
/-- The array the kernel leaves is the reference's. -/
theorem out_eq (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
      (fun t h j => by rw [outsAt0_A m c t h]; frame_out; simp only [k0_pay2, k0_pay1, pointwise]; rfl)
      (fun t h j => by rw [outsAt0_B m c t h]; frame_out; simp only [k0_pay2, pointwise]) t ((flush0_2 t).mp hf) _]
  simp only [val_main_v4_apply, val_main_v3, val_main_v2, val_main_v1, val_main_v0, pointwise]
  rw [zero_add, zero_add]
  simp only [zero_add]
  refine Fin.sum_mul_add_congr fun s k hl => ?_
  have ht : t.val < 32 := t.isLt
  have hp : 4 * (t.val / 4) + s.val < cfg0.N := lt_of_lt_of_eq (by omega : 4 * (t.val / 4) + s.val < 32) N_0.symm
  blk_point [iblk, V, idx t, idx ⟨4 * (t.val / 4) + s.val, hp⟩]
  refine .trans ?_ (ValueKit.rect_emb_unit_val _ _ _ y 3).symm
  show _ = win0_2.index t 3 * 2048 + _
  have h3 : win0_2.index t 3 = 0 := congrFun (idx t).2.2 3
  omega

/-- The array the kernel leaves is that of the reference, on every device. -/
theorem algebraic : Cert.algebraic_Kernel4Ideal_Reference4Ideal := by
  intro m g m' g' _ heq
  refine ⟨fun c => (dats m 0 c).arrAt 2 cfg0.N, Cert.Kernel4Ideal.Value.run_blocks m g,
    (θ_run Cert.Reference4Ideal.defs _ _).mono (fun r h c => ?_) (Cert.Reference4Ideal.Value.run m' g')⟩
  obtain ⟨h0, ha⟩ := h c
  obtain ⟨e0, e1⟩ := heq c
  refine ⟨h0.trans ?_, ha⟩
  rw [e0, e1]; exact (Cert.Reference4Ideal.Read.val_main_v4_eq _ _).trans (out_eq m c).symm

end Cert.Dwg

end
-- ==== Proof.DwOut.lean ====
/- The value of the gradient of the output projection's weight (`Kernel5`): the tiles of the rows are summed one after the
   other, and the reference sums all rows at once and cuts the result into eight blocks of rows. -/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise.Tactic

@[expose] public section

set_option maxRecDepth 16384

noncomputable section

namespace Cert.DwOut

open Idealize.ShloMosaic Idealize.ShloMosaic.TcCoe Idealize.SL.Sem
open Cert.Kernel5Ideal Cert.Kernel5Ideal.Gen

variable (m : (ℓ : Loc nD τ sig) → Buf (Elt Ideal) ℓ)

/-- The block each window takes at a grid point `(hidden block, row tile)`. -/
theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

open Cert.Reference5Ideal.Read in
/-- The array the kernel leaves is the reference's. -/
theorem out_eq (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
      (fun t h j => by rw [outsAt0_A m c t h]; frame_out; simp only [k0_pay2, k0_pay1, pointwise]; rfl)
      (fun t h j => by rw [outsAt0_B m c t h]; frame_out; simp only [k0_pay2, pointwise]) t ((flush0_2 t).mp hf) _]
  simp only [val_main_v4_apply, val_main_v3, val_main_v2, val_main_v1, val_main_v0, pointwise]
  rw [zero_add, zero_add]
  simp only [zero_add]
  refine Fin.sum_mul_add_congr fun s k hl => ?_
  have ht : t.val < 32 := t.isLt
  have hp : 4 * (t.val / 4) + s.val < cfg0.N := lt_of_lt_of_eq (by omega : 4 * (t.val / 4) + s.val < 32) N_0.symm
  rw [mul_comm]
  blk_point [iblk, V, idx t, idx ⟨4 * (t.val / 4) + s.val, hp⟩]

/-- The array the kernel leaves is that of the reference, on every device. -/
theorem algebraic : Cert.algebraic_Kernel5Ideal_Reference5Ideal := by
  intro m g m' g' _ heq
  refine ⟨fun c => (dats m 0 c).arrAt 2 cfg0.N, Cert.Kernel5Ideal.Value.run_blocks m g,
    (θ_run Cert.Reference5Ideal.defs _ _).mono (fun r h c => ?_) (Cert.Reference5Ideal.Value.run m' g')⟩
  obtain ⟨h0, ha⟩ := h c
  obtain ⟨e0, e1⟩ := heq c
  refine ⟨h0.trans ?_, ha⟩
  rw [e0, e1]; exact (Cert.Reference5Ideal.Read.val_main_v4_eq _ _).trans (out_eq m c).symm

end Cert.DwOut

end
-- ==== Proof.DwIn.lean ====
/- The value of the gradient of the input projection's weight (`Kernel6`): the tiles of the rows are summed one after the
   other, and the reference sums all rows at once and cuts the result into eight blocks of columns. -/
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise.Tactic

@[expose] public section

set_option maxRecDepth 16384

noncomputable section

namespace Cert.DwIn

open Idealize.ShloMosaic Idealize.ShloMosaic.TcCoe Idealize.SL.Sem
open Cert.Kernel6Ideal Cert.Kernel6Ideal.Gen

variable (m : (ℓ : Loc nD τ sig) → Buf (Elt Ideal) ℓ)

/-- The block each window takes at a grid point `(hidden block, row tile)`. -/
theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

open Cert.Reference6Ideal.Read in
/-- The array the kernel leaves is the reference's. -/
theorem out_eq (c : Dev nD) : (dats m 0 c).arrAt 2 cfg0.N
    = val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
      (fun t h j => by rw [outsAt0_A m c t h]; frame_out; simp only [k0_pay2, k0_pay1, pointwise]; rfl)
      (fun t h j => by rw [outsAt0_B m c t h]; frame_out; simp only [k0_pay2, pointwise]) t ((flush0_2 t).mp hf) _]
  simp only [val_main_v5, val_main_v4_apply, val_main_v3, val_main_v2, val_main_v1, val_main_v0, pointwise]
  rw [zero_add, zero_add]
  simp only [zero_add]
  refine Fin.sum_mul_add_congr fun s k hl => ?_
  have ht : t.val < 32 := t.isLt
  have hp : 4 * (t.val / 4) + s.val < cfg0.N := lt_of_lt_of_eq (by omega : 4 * (t.val / 4) + s.val < 32) N_0.symm
  rw [mul_comm]
  blk_point [iblk, V, idx t, idx ⟨4 * (t.val / 4) + s.val, hp⟩]

/-- The array the kernel leaves is that of the reference, on every device. -/
theorem algebraic : Cert.algebraic_Kernel6Ideal_Reference6Ideal := by
  intro m g m' g' _ heq
  refine ⟨fun c => (dats m 0 c).arrAt 2 cfg0.N, Cert.Kernel6Ideal.Value.run_blocks m g,
    (θ_run Cert.Reference6Ideal.defs _ _).mono (fun r h c => ?_) (Cert.Reference6Ideal.Value.run m' g')⟩
  obtain ⟨h0, ha⟩ := h c
  obtain ⟨e0, e1⟩ := heq c
  refine ⟨h0.trans ?_, ha⟩
  rw [e0, e1]; exact (Cert.Reference6Ideal.Read.val_main_v5_eq _ _).trans (out_eq m c).symm

end Cert.DwIn

end
-- ==== Proof.DprojOut.lean ====
/- The value of the gradient of the left factor of the output projection (`Kernel7`): each tile of rows is one product. -/
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise.Tactic

@[expose] public section

set_option maxRecDepth 16384

noncomputable section

namespace Cert.DprojOut

open Idealize.ShloMosaic Idealize.ShloMosaic.TcCoe Idealize.SL.Sem
open Cert.Kernel7Ideal Cert.Kernel7Ideal.Gen

variable (m : (ℓ : Loc nD τ sig) → Buf (Elt Ideal) ℓ)

/-- The block each window takes at a grid point, a tile of rows. -/
theorem idx : ∀ t : Fin cfg0.N, win0_0.index t = ![t.val, 0] ∧ win0_1.index t = ![0, 0] ∧ win0_2.index t = ![t.val, 0] :=
  (by decide +kernel : ∀ t : Fin grid0.N, _)

open Cert.Reference7Ideal.Read in
/-- The array the kernel leaves is the reference's. -/
theorem out_eq (c : Dev nD) : (dats m 0 c).arrAt 2 cfg0.N
    = val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  simp only [k0_pay1, val_main_v2, val_main_v1, val_main_v0, pointwise]
  blk_point [iblk, V, idx t]

/-- The array the kernel leaves is that of the reference, on every device. -/
theorem algebraic : Cert.algebraic_Kernel7Ideal_Reference7Ideal := by
  intro m g m' g' _ heq
  refine ⟨fun c => (dats m 0 c).arrAt 2 cfg0.N, Cert.Kernel7Ideal.Value.run_blocks m g,
    (θ_run Cert.Reference7Ideal.defs _ _).mono (fun r h c => ?_) (Cert.Reference7Ideal.Value.run m' g')⟩
  obtain ⟨h0, ha⟩ := h c
  obtain ⟨e0, e1⟩ := heq c
  refine ⟨h0.trans ?_, ha⟩
  rw [e0, e1]; exact (Cert.Reference7Ideal.Read.val_main_v2_eq _ _).trans (out_eq m c).symm

end Cert.DprojOut

end
-- ==== Proof.AttnMath.lean ====
/- The real numbers of the attention's gradient: the weights of a softmax row, the row's gradient, and the two ways of
   writing them that the programs use. -/
module

public import Idealize.ShloMosaic.PureOps.Ideal.Laws
public import Idealize.ShloMosaic.Lib.IdealHost

@[expose] public section

noncomputable section

namespace Cert.Attn

open Idealize.ShloMosaic

/-- A matrix of the queries' shape: 4096 rows of 16 heads of 128. -/
abbrev Rows : Type := Fin 4096 → Fin 2048 → ℝ

/-- A matrix of the keys' shape: 4352 rows of 4 heads of 128. -/
abbrev Keys : Type := Fin 4352 → Fin 512 → ℝ

/-- The column of coordinate `d` of query head `(h, g)`. -/
def qcol (h g : Fin 4) (d : Fin 128) : Fin 2048 := ⟨(h.val * 4 + g.val) * 128 + d.val, by omega⟩

/-- The column of coordinate `d` of key head `h`. -/
def kcol (h : Fin 4) (d : Fin 128) : Fin 512 := ⟨h.val * 128 + d.val, by omega⟩

variable (c : ℝ) (q dO : Rows) (k v : Keys) (M : Fin 4 → Fin 4 → Fin 4096 → ℝ) (h g : Fin 4) (s : Fin 4096)

/-- The scaled score of query row `s` of head `(h, g)` against key row `t`. -/
def score (t : Fin 4352) : ℝ := (∑ d, k t (kcol h d) * q s (qcol h g d)) * c

/-- The exponential of a score less the row's shift `M`. -/
def wexp (t : Fin 4352) : ℝ := Real.exp (score c q k h g s t - M h g s)

/-- The sum of a row's exponentials. -/
def total : ℝ := ∑ t, wexp c q k M h g s t

/-- The softmax weight. -/
def prob (t : Fin 4352) : ℝ := wexp c q k M h g s t / total c q k M h g s

/-- The gradient of a weight: the cotangent row against the value row. -/
def dprob (t : Fin 4352) : ℝ := ∑ d, dO s (qcol h g d) * v t (kcol h d)

/-- The gradient of an unscaled score. -/
def dscore (t : Fin 4352) : ℝ :=
  prob c q k M h g s t * (dprob dO v h g s t - ∑ u, prob c q k M h g s u * dprob dO v h g s u) * c

/-- The attention's output: the value rows under the weights. -/
def attended (d : Fin 128) : ℝ := ∑ t, v t (kcol h d) * prob c q k M h g s t

theorem total_pos : 0 < total c q k M h g s :=
  Finset.sum_pos (fun _ _ => Real.exp_pos _) ⟨0, Finset.mem_univ _⟩

/-- The exponential of a score less the row's log-sum-exp is the weight. -/
theorem exp_sub_log (t : Fin 4352) :
    Real.exp (score c q k h g s t - (M h g s + Real.log (total c q k M h g s))) = prob c q k M h g s t := by
  rw [← sub_sub, Real.exp_sub, Real.exp_log (total_pos ..)]; rfl

/-- The cotangent against the output is the weighted mean of the weights' gradients. -/
theorem sum_attended :
    ∑ d, dO s (qcol h g d) * attended c q k v M h g s d = ∑ t, prob c q k M h g s t * dprob dO v h g s t := by
  simp only [attended, dprob, Finset.mul_sum]
  rw [Finset.sum_comm]
  exact Finset.sum_congr rfl fun t _ => Finset.sum_congr rfl fun d _ => by ring

/-- The gradient of a score written with the quotient rule over the exponentials and their sum. -/
theorem quotient_rule (t : Fin 4352) :
    (dprob dO v h g s t * (1 / total c q k M h g s)
        + -∑ u, dprob dO v h g s u * (1 * (1 / (total c q k M h g s * total c q k M h g s))) * wexp c q k M h g s u)
      * wexp c q k M h g s t * c = dscore c q dO k v M h g s t := by
  have hl := (total_pos c q k M h g s).ne'
  have hs : ∑ u, dprob dO v h g s u * (1 * (1 / (total c q k M h g s * total c q k M h g s))) * wexp c q k M h g s u
      = (∑ u, prob c q k M h g s u * dprob dO v h g s u) * (1 / total c q k M h g s) := by
    rw [Finset.sum_mul]
    exact Finset.sum_congr rfl fun u _ => by unfold prob; field_simp
  rw [hs]; unfold dscore
  generalize ∑ u, prob c q k M h g s u * dprob dO v h g s u = z
  unfold prob; field_simp; ring

/-- The gradient of the queries. -/
def dq (d : Fin 128) : ℝ := ∑ t, dscore c q dO k v M h g s t * k t (kcol h d)

/-- The gradient of the keys. -/
def dk (t : Fin 4352) (d : Fin 128) : ℝ := ∑ s, ∑ g, dscore c q dO k v M h g s t * q s (qcol h g d)

/-- The gradient of the values. -/
def dv (t : Fin 4352) (d : Fin 128) : ℝ := ∑ s, ∑ g, prob c q k M h g s t * dO s (qcol h g d)

/-- The embedding of the reals carries finite sums. -/
theorem coe_sum {ι : Type} [Fintype ι] (f : ι → ℝ) : ∑ i, (f i : EReal) = ((∑ i, f i : ℝ) : EReal) :=
  (map_sum (⟨⟨((↑) : ℝ → EReal), EReal.coe_zero⟩, EReal.coe_add⟩ : ℝ →+ EReal) f Finset.univ).symm

/-- The maximum of finitely many reals, at least one, is real. -/
theorem fold_max_real {n : ℕ} [NeZero n] (f : Fin n → ℝ) :
    ∃ r : ℝ, Finset.univ.fold max (⊥ : EReal) (fun i => (f i : EReal)) = (r : EReal) := by
  have h1 : (⊥ : EReal) < Finset.univ.fold max (⊥ : EReal) (fun i => (f i : EReal)) :=
    (Finset.lt_fold_max _).2 (Or.inr ⟨0, Finset.mem_univ _, EReal.bot_lt_coe _⟩)
  have h2 : Finset.univ.fold max (⊥ : EReal) (fun i => (f i : EReal)) < ⊤ :=
    (Finset.fold_max_lt _).2 ⟨bot_lt_top, fun i _ => EReal.coe_lt_top _⟩
  exact ⟨_, (EReal.coe_toReal h2.ne h1.ne').symm⟩

end Cert.Attn

end
-- ==== Proof.AttnRef.lean ====
/- What the reference program of the attention's gradient (`Reference8`) computes from finite inputs: its stages as the real
   numbers of `AttnMath`. -/
module

public import proofs.«01_k».proof.Proof.AttnMath
public import proofs.«01_k».proof.Proof.Gen.Reference8Ideal.Read
public import Idealize.ShloMosaic.Lib.Pointwise.Tactic
public import Idealize.ShloMosaic.Lib.TwoAxisContraction

@[expose] public section

set_option maxRecDepth 16384

noncomputable section

namespace Cert.Attn

open Idealize.ShloMosaic Idealize.ShloMosaic.TcCoe Idealize.SL.Sem
open Cert.Reference8Ideal Cert.Reference8Ideal.Gen Cert.Reference8Ideal.Read

/-- The scale of the scores, one over the root of 128 rounded to f32. -/
def scale : ℝ := 11863283 / 134217728

theorem scale_bits : Ideal.ofBits .f32 0x3DB504F3#32 = (scale : EReal) := by
  unfold scale
  simp [Ideal.ofBits, Ideal.ieee]
  rw [← EReal.coe_mul]
  norm_num

theorem one_bits : Ideal.ofBits .f32 0x3F800000#32 = ((1 : ℝ) : EReal) := by
  simp [Ideal.ofBits, Ideal.ieee]
  rw [← EReal.coe_one, ← EReal.coe_mul]
  norm_num

/-- The array is that of the reals `f`, in the queries' shape. -/
def IsRows (x : (⟨S4096x2048, .bf16⟩ : BufTy).Contents (Elt Ideal)) (f : Rows) : Prop := ∀ s j, x (ix2 s j) = (f s j : EReal)

/-- The array is that of the reals `f`, in the keys' shape. -/
def IsKeys (x : (⟨S4352x512, .bf16⟩ : BufTy).Contents (Elt Ideal)) (f : Keys) : Prop := ∀ t j, x (ix2 t j) = (f t j : EReal)

variable {x0 x3 : (⟨S4096x2048, .bf16⟩ : BufTy).Contents (Elt Ideal)} {x1 x2 : (⟨S4352x512, .bf16⟩ : BufTy).Contents (Elt Ideal)}
variable {q dO : Rows} {k v : Keys} (M : Fin 4 → Fin 4 → Fin 4096 → ℝ)

theorem v3_eq (h0 : IsRows x0 q) (s : Fin 4096) (h g : Fin 4) (d : Fin 128) :
    val_main_v3 (F := Ideal) x0 (ix4 s h g d) = (q s (qcol h g d) : EReal) := by
  rw [val_main_v3_apply, val_main_v0_apply, show idx_main_v3 (ix4 s h g d) = ix2 s (qcol h g d) from
    funext fun a => Fin.ext (by
      match a with
      | ⟨0, _⟩ => show (((s.val * 4 + h.val) * 4 + g.val) * 128 + d.val) / 2048 = s.val; omega
      | ⟨1, _⟩ => show (((s.val * 4 + h.val) * 4 + g.val) * 128 + d.val) % 2048 = (h.val * 4 + g.val) * 128 + d.val; omega)]
  exact h0 s _

theorem v4_eq (h1 : IsKeys x1 k) (t : Fin 4352) (h : Fin 4) (d : Fin 128) :
    val_main_v4 (F := Ideal) x1 (ix3 t h d) = (k t (kcol h d) : EReal) := by
  rw [val_main_v4_apply, val_main_v1_apply, show idx_main_v4 (ix3 t h d) = ix2 t (kcol h d) from
    funext fun a => Fin.ext (by
      match a with
      | ⟨0, _⟩ => show ((t.val * 4 + h.val) * 128 + d.val) / 512 = t.val; omega
      | ⟨1, _⟩ => show ((t.val * 4 + h.val) * 128 + d.val) % 512 = h.val * 128 + d.val; omega)]
  exact h1 t _

theorem v37_eq (h2 : IsKeys x2 v) (t : Fin 4352) (h : Fin 4) (d : Fin 128) :
    val_main_v37 (F := Ideal) x2 (ix3 t h d) = (v t (kcol h d) : EReal) := by
  rw [val_main_v37_apply, val_main_v2_apply, show idx_main_v37 (ix3 t h d) = ix2 t (kcol h d) from
    funext fun a => Fin.ext (by
      match a with
      | ⟨0, _⟩ => show ((t.val * 4 + h.val) * 128 + d.val) / 512 = t.val; omega
      | ⟨1, _⟩ => show ((t.val * 4 + h.val) * 128 + d.val) % 512 = h.val * 128 + d.val; omega)]
  exact h2 t _

theorem v43_eq (h3 : IsRows x3 dO) (h : Fin 4) (d : Fin 128) (g : Fin 4) (s : Fin 4096) :
    val_main_v43 (F := Ideal) x3 (ix4 h d g s) = (dO s (qcol h g d) : EReal) := by
  rw [val_main_v43_apply, val_main_v42_apply, val_main_v41_apply,
    show idx_main_v42 (idx_main_v43 (ix4 h d g s)) = ix2 s (qcol h g d) from
    funext fun a => Fin.ext (by
      match a with
      | ⟨0, _⟩ => show (((s.val * 4 + h.val) * 4 + g.val) * 128 + d.val) / 2048 = s.val; omega
      | ⟨1, _⟩ => show (((s.val * 4 + h.val) * 4 + g.val) * 128 + d.val) % 2048 = (h.val * 4 + g.val) * 128 + d.val; omega)]
  exact h3 s _

/-- The scaled scores. -/
theorem v8_eq (h0 : IsRows x0 q) (h1 : IsKeys x1 k) (h g : Fin 4) (s : Fin 4096) (t : Fin 4352) :
    val_main_v8 (F := Ideal) x0 x1 (ix4 h g s t) = (score scale q k h g s t : EReal) := by
  rw [val_main_v8_apply, val_main_v6_apply, val_main_v5_apply, val_main_v7_apply, val_main_cst_apply]
  simp only [Ideal.mulf_def, Ideal.ofBits_def]
  rw [scale_bits, Finset.sum_congr rfl fun d _ => congrArg₂ (· * ·)
    ((congrArg (val_main_v4 (F := Ideal) x1) (funext fun a => by match a with | ⟨0, _⟩ => rfl | ⟨1, _⟩ => rfl | ⟨2, _⟩ => rfl)).trans (v4_eq h1 t h d))
    ((congrArg (val_main_v3 (F := Ideal) x0) (funext fun a => by match a with | ⟨0, _⟩ => rfl | ⟨1, _⟩ => rfl | ⟨2, _⟩ => rfl | ⟨3, _⟩ => rfl)).trans (v3_eq h0 s h g d))]
  simp only [← EReal.coe_mul, coe_sum]
  rfl

/-- The rows' maxima are real. -/
theorem v9_real (h0 : IsRows x0 q) (h1 : IsKeys x1 k) :
    ∃ M : Fin 4 → Fin 4 → Fin 4096 → ℝ, ∀ h g s, val_main_v9 (F := Ideal) x0 x1 (ix3 h g s) = (M h g s : EReal) := by
  have key : ∀ h g s, ∃ r : ℝ, val_main_v9 (F := Ideal) x0 x1 (ix3 h g s) = (r : EReal) := fun h g s => by
    obtain ⟨r, hr⟩ := fold_max_real (n := 4352) fun t => score scale q k h g s t
    refine ⟨r, ?_⟩
    rw [← hr]
    unfold val_main_v9
    rw [Host.reduce_eq_fold_single FloatOps.maximumf _ _ _ (by decide +kernel) _ _]
    have hb : val_main_cst_0 (F := Ideal) (Shape.Idx.first h_S_) = (⊥ : EReal) := by
      rw [val_main_cst_0_apply]; simp [Ideal.ofBits, Ideal.ieee]
    rw [hb]
    refine congrArg (fun f => Finset.fold max (⊥ : EReal) f (Finset.univ : Finset (Fin 4352))) (funext fun t => ?_)
    refine Eq.trans (congrArg (val_main_v8 (F := Ideal) x0 x1) (funext fun a => Fin.ext ?_)) (v8_eq h0 h1 h g s t)
    match a with
    | ⟨0, _⟩ => rfl
    | ⟨1, _⟩ => rfl
    | ⟨2, _⟩ => rfl
    | ⟨3, _⟩ => rfl
  choose M hM using key
  exact ⟨M, hM⟩

/-- A maximum with minus infinity changes nothing. -/
theorem v16_eq (x0 : (⟨S4096x2048, .bf16⟩ : BufTy).Contents (Elt Ideal)) (x1 : (⟨S4352x512, .bf16⟩ : BufTy).Contents (Elt Ideal)) :
    val_main_v16 (F := Ideal) x0 x1 = val_main_v9 (F := Ideal) x0 x1 := by
  funext i
  rw [val_main_v16_apply, val_main_v15_apply, val_main_cst_2_apply]
  simp [Ideal.ofBits, Ideal.ieee]

variable {M}
variable (hM : ∀ h g s, val_main_v9 (F := Ideal) x0 x1 (ix3 h g s) = (M h g s : EReal))
include hM

/-- The exponentials. -/
theorem v29_eq (h0 : IsRows x0 q) (h1 : IsKeys x1 k) (h g : Fin 4) (s : Fin 4096) (t : Fin 4352) :
    val_main_v29 (F := Ideal) x0 x1 (ix4 h g s t) = (wexp scale q k M h g s t : EReal) := by
  rw [val_main_v29_apply, val_main_v28_apply, v8_eq h0 h1, val_main_v27_apply, val_main_v26_apply, v16_eq,
    show idx_main_v26 (idx_main_v27 (ix4 h g s t)) = ix3 h g s from
      funext fun a => by match a with | ⟨0, _⟩ => rfl | ⟨1, _⟩ => rfl | ⟨2, _⟩ => rfl, hM]
  simp only [Ideal.subf_def, Ideal.hostUnary_exp_def]
  rw [← EReal.coe_sub, Ideal.exp_coe]; rfl

/-- The rows' sums of exponentials. -/
theorem v30_eq (h0 : IsRows x0 q) (h1 : IsKeys x1 k) (h g : Fin 4) (s : Fin 4096) :
    val_main_v30 (F := Ideal) x0 x1 (ix3 h g s) = (total scale q k M h g s : EReal) := by
  rw [val_main_v30_apply, val_main_cst_8_apply, Finset.sum_congr rfl fun t _ =>
    ((congrArg (val_main_v29 (F := Ideal) x0 x1) (funext fun a => by match a with | ⟨0, _⟩ => rfl | ⟨1, _⟩ => rfl | ⟨2, _⟩ => rfl | ⟨3, _⟩ => rfl)).trans
      (v29_eq hM h0 h1 h g s t)), coe_sum]
  simp [Ideal.ofBits, Ideal.ieee]; rfl

theorem v31_eq (h0 : IsRows x0 q) (h1 : IsKeys x1 k) (h g : Fin 4) (s : Fin 4096) :
    val_main_v31 (F := Ideal) x0 x1 (ix4 h g s 0) = (total scale q k M h g s : EReal) := by
  rw [val_main_v31_apply, ← v30_eq hM h0 h1]
  exact congrArg (val_main_v30 (F := Ideal) x0 x1) (funext fun a => by match a with | ⟨0, _⟩ => rfl | ⟨1, _⟩ => rfl | ⟨2, _⟩ => rfl)

/-- The weights. -/
theorem v33_eq (h0 : IsRows x0 q) (h1 : IsKeys x1 k) (h g : Fin 4) (s : Fin 4096) (t : Fin 4352) :
    val_main_v33 (F := Ideal) x0 x1 (ix4 h g s t) = (prob scale q k M h g s t : EReal) := by
  rw [val_main_v33_apply, v29_eq hM h0 h1, val_main_v32_apply, show idx_main_v32 (ix4 h g s t) = ix4 h g s 0 from
      funext fun a => by match a with | ⟨0, _⟩ => rfl | ⟨1, _⟩ => rfl | ⟨2, _⟩ => rfl | ⟨3, _⟩ => rfl, v31_eq hM h0 h1]
  simp only [Ideal.hostDivf_def]
  rw [Ideal.div_coe (total_pos scale q k M h g s).ne', ← EReal.coe_mul]
  unfold prob; rw [mul_one_div]

/-- The attention's output. -/
theorem v40_eq (h0 : IsRows x0 q) (h1 : IsKeys x1 k) (h2 : IsKeys x2 v) (h g : Fin 4) (s : Fin 4096) (d : Fin 128) :
    val_main_v40 (F := Ideal) x0 x1 x2 (ix2 s (qcol h g d)) = (attended scale q k v M h g s d : EReal) := by
  rw [val_main_v40_apply, val_main_v39_apply, show idx_main_v39 (idx_main_v40 (ix2 s (qcol h g d))) = ix4 h d g s from
    funext fun a => Fin.ext (by
      match a with
      | ⟨0, _⟩ => show (s.val * 2048 + ((h.val * 4 + g.val) * 128 + d.val)) / 512 % 4 = h.val; omega
      | ⟨1, _⟩ => show (s.val * 2048 + ((h.val * 4 + g.val) * 128 + d.val)) % 128 = d.val; omega
      | ⟨2, _⟩ => show (s.val * 2048 + ((h.val * 4 + g.val) * 128 + d.val)) / 128 % 4 = g.val; omega
      | ⟨3, _⟩ => show (s.val * 2048 + ((h.val * 4 + g.val) * 128 + d.val)) / 2048 = s.val; omega), val_main_v38_apply,
    Finset.sum_congr rfl fun t _ => congrArg₂ (· * ·)
      ((congrArg (val_main_v37 (F := Ideal) x2) (funext fun a => by match a with | ⟨0, _⟩ => rfl | ⟨1, _⟩ => rfl | ⟨2, _⟩ => rfl)).trans (v37_eq h2 t h d))
      ((congrArg (val_main_v33 (F := Ideal) x0 x1) (funext fun a => by match a with | ⟨0, _⟩ => rfl | ⟨1, _⟩ => rfl | ⟨2, _⟩ => rfl | ⟨3, _⟩ => rfl)).trans
        (v33_eq hM h0 h1 h g s t))]
  simp only [← EReal.coe_mul, coe_sum]
  rfl

omit hM in
/-- The weights' gradients. -/
theorem v44_eq (h2 : IsKeys x2 v) (h3 : IsRows x3 dO) (h g : Fin 4) (s : Fin 4096) (t : Fin 4352) :
    val_main_v44 (F := Ideal) x2 x3 (ix4 h g s t) = (dprob dO v h g s t : EReal) := by
  rw [val_main_v44_apply, Finset.sum_congr rfl fun d _ => congrArg₂ (· * ·)
      ((congrArg (val_main_v43 (F := Ideal) x3) (funext fun a => by match a with | ⟨0, _⟩ => rfl | ⟨1, _⟩ => rfl | ⟨2, _⟩ => rfl | ⟨3, _⟩ => rfl)).trans
        (v43_eq h3 h d g s))
      ((congrArg (val_main_v37 (F := Ideal) x2) (funext fun a => by match a with | ⟨0, _⟩ => rfl | ⟨1, _⟩ => rfl | ⟨2, _⟩ => rfl)).trans (v37_eq h2 t h d))]
  simp only [← EReal.coe_mul, coe_sum]
  rfl

/-- The terms of the quotient rule's sum. -/
theorem v50_eq (h0 : IsRows x0 q) (h1 : IsKeys x1 k) (h2 : IsKeys x2 v) (h3 : IsRows x3 dO) (h g : Fin 4) (s : Fin 4096) (t : Fin 4352) :
    val_main_v50 (F := Ideal) x0 x1 x2 x3 (ix4 h g s t) = ((dprob dO v h g s t
      * (1 * (1 / (total scale q k M h g s * total scale q k M h g s))) * wexp scale q k M h g s t : ℝ) : EReal) := by
  have hl := (total_pos scale q k M h g s).ne'
  rw [val_main_v50_apply, val_main_v49_apply, v29_eq hM h0 h1, v44_eq h2 h3, val_main_v48_apply,
    show idx_main_v48 (ix4 h g s t) = ix4 h g s 0 from
      funext fun a => by match a with | ⟨0, _⟩ => rfl | ⟨1, _⟩ => rfl | ⟨2, _⟩ => rfl | ⟨3, _⟩ => rfl,
    val_main_v36_apply, val_main_v35_apply, val_main_cst_9_apply, val_main_v34_apply, v31_eq hM h0 h1]
  simp only [Ideal.hostDivf_def, Ideal.mulf_def, Ideal.ofBits_def]
  rw [← EReal.coe_mul, Ideal.div_coe (mul_ne_zero hl hl), one_bits]
  simp only [← EReal.coe_mul]

/-- The scores' gradients. -/
theorem v61_eq (h0 : IsRows x0 q) (h1 : IsKeys x1 k) (h2 : IsKeys x2 v) (h3 : IsRows x3 dO) (h g : Fin 4) (s : Fin 4096) (t : Fin 4352) :
    val_main_v61 (F := Ideal) x0 x1 x2 x3 (ix4 h g s t) = (dscore scale q dO k v M h g s t : EReal) := by
  have hl := (total_pos scale q k M h g s).ne'
  have h51 : val_main_v51 (F := Ideal) x0 x1 x2 x3 (ix3 h g s) = ((∑ u, dprob dO v h g s u
      * (1 * (1 / (total scale q k M h g s * total scale q k M h g s))) * wexp scale q k M h g s u : ℝ) : EReal) := by
    rw [val_main_v51_apply, val_main_cst_10_apply, Finset.sum_congr rfl fun t _ =>
      ((congrArg (val_main_v50 (F := Ideal) x0 x1 x2 x3) (funext fun a => by match a with | ⟨0, _⟩ => rfl | ⟨1, _⟩ => rfl | ⟨2, _⟩ => rfl | ⟨3, _⟩ => rfl)).trans
        (v50_eq hM h0 h1 h2 h3 h g s t)), coe_sum]
    simp [Ideal.ofBits, Ideal.ieee]
  have h57 : val_main_v57 (F := Ideal) x0 x1 x2 x3 (ix4 h g s t) = ((-∑ u, dprob dO v h g s u
      * (1 * (1 / (total scale q k M h g s * total scale q k M h g s))) * wexp scale q k M h g s u : ℝ) : EReal) := by
    rw [val_main_v57_apply, val_main_v56_apply, Fin.sum_univ_one, val_main_cst_11_apply, val_main_v53_apply, val_main_v52_apply,
      show idx_main_v52 (idx_main_v56 (idx_main_v57 (ix4 h g s t)) 0) = ix3 h g s from
        funext fun a => Fin.ext (by
          match a with
          | ⟨0, _⟩ => show (((h.val * 4 + g.val) * 4096 + s.val) * 1 + 0) / 16384 = h.val; omega
          | ⟨1, _⟩ => show (((h.val * 4 + g.val) * 4096 + s.val) * 1 + 0) / 4096 % 4 = g.val; omega
          | ⟨2, _⟩ => show (((h.val * 4 + g.val) * 4096 + s.val) * 1 + 0) % 4096 = s.val; omega), h51, EReal.coe_neg]
    simp [Ideal.ofBits, Ideal.ieee]
  rw [val_main_v61_apply, val_main_v59_apply, val_main_v58_apply, val_main_v55_apply, v44_eq h2 h3, h57, v29_eq hM h0 h1,
    val_main_v54_apply, show idx_main_v54 (ix4 h g s t) = ix4 h g s 0 from
      funext fun a => by match a with | ⟨0, _⟩ => rfl | ⟨1, _⟩ => rfl | ⟨2, _⟩ => rfl | ⟨3, _⟩ => rfl, v31_eq hM h0 h1,
    val_main_v60_apply, val_main_cst_12_apply]
  simp only [Ideal.hostDivf_def, Ideal.mulf_def, Ideal.addf_def, Ideal.ofBits_def]
  rw [scale_bits, Ideal.div_coe hl, ← EReal.coe_mul, ← EReal.coe_add, ← EReal.coe_mul, ← EReal.coe_mul, quotient_rule]

/-- The gradient of the queries. -/
theorem v68_eq (h0 : IsRows x0 q) (h1 : IsKeys x1 k) (h2 : IsKeys x2 v) (h3 : IsRows x3 dO) (h g : Fin 4) (s : Fin 4096) (d : Fin 128) :
    val_main_v68 (F := Ideal) x0 x1 x2 x3 (ix2 s (qcol h g d)) = (dq scale q dO k v M h g s d : EReal) := by
  rw [val_main_v68_apply, val_main_v64_apply, show idx_main_v64 (idx_main_v68 (ix2 s (qcol h g d))) = ix4 h s g d from
    funext fun a => Fin.ext (by
      match a with
      | ⟨0, _⟩ => show (s.val * 2048 + ((h.val * 4 + g.val) * 128 + d.val)) / 512 % 4 = h.val; omega
      | ⟨1, _⟩ => show (s.val * 2048 + ((h.val * 4 + g.val) * 128 + d.val)) / 2048 = s.val; omega
      | ⟨2, _⟩ => show (s.val * 2048 + ((h.val * 4 + g.val) * 128 + d.val)) / 128 % 4 = g.val; omega
      | ⟨3, _⟩ => show (s.val * 2048 + ((h.val * 4 + g.val) * 128 + d.val)) % 128 = d.val; omega), val_main_v63_apply,
    Finset.sum_congr rfl fun t _ => congrArg₂ (· * ·)
      ((val_main_v62_apply ..).trans <| (congrArg (val_main_v61 (F := Ideal) x0 x1 x2 x3)
        (funext fun a => by match a with | ⟨0, _⟩ => rfl | ⟨1, _⟩ => rfl | ⟨2, _⟩ => rfl | ⟨3, _⟩ => rfl)).trans (v61_eq hM h0 h1 h2 h3 h g s t))
      ((congrArg (val_main_v4 (F := Ideal) x1) (funext fun a => by match a with | ⟨0, _⟩ => rfl | ⟨1, _⟩ => rfl | ⟨2, _⟩ => rfl)).trans (v4_eq h1 t h d))]
  simp only [← EReal.coe_mul, coe_sum]
  rfl

/-- The gradient of the keys. -/
theorem v67_eq (h0 : IsRows x0 q) (h1 : IsKeys x1 k) (h2 : IsKeys x2 v) (h3 : IsRows x3 dO) (h : Fin 4) (t : Fin 4352) (d : Fin 128) :
    val_main_v67 (F := Ideal) x0 x1 x2 x3 (ix2 t (kcol h d)) = (dk scale q dO k v M h t d : EReal) := by
  have key : val_main_v65 (F := Ideal) x0 x1 x2 x3 (ix3 h t d) = (dk scale q dO k v M h t d : EReal) := by
    have h62 : ∀ s g, val_main_v62 (F := Ideal) x0 x1 x2 x3 (ix4 h t s g) = (dscore scale q dO k v M h g s t : EReal) := fun s g =>
      (val_main_v62_apply ..).trans <| (congrArg (val_main_v61 (F := Ideal) x0 x1 x2 x3)
        (funext fun a => by match a with | ⟨0, _⟩ => rfl | ⟨1, _⟩ => rfl | ⟨2, _⟩ => rfl | ⟨3, _⟩ => rfl)).trans (v61_eq hM h0 h1 h2 h3 h g s t)
    unfold val_main_v65
    generalize val_main_v62 (F := Ideal) x0 x1 x2 x3 = y at h62 ⊢
    simp only [Host.dotGeneral]
    rw [Ideal.dotGeneral_apply, ValueIdx.sum_contr2 dot_S4x4352x4096x4_S4096x4x4x128_S4x4352x128_23_02_1_3_0_1 4096 4 rfl rfl rfl]
    refine (Finset.sum_congr rfl fun s _ => Finset.sum_congr rfl fun g _ => congrArg₂ (· * ·)
      ((congrArg y (funext fun a => Fin.ext (by match a with | ⟨0, _⟩ => rfl | ⟨1, _⟩ => rfl | ⟨2, _⟩ => rfl | ⟨3, _⟩ => rfl))).trans (h62 s g))
      ((congrArg (val_main_v3 (F := Ideal) x0) (funext fun a => Fin.ext (by match a with | ⟨0, _⟩ => rfl | ⟨1, _⟩ => rfl | ⟨2, _⟩ => rfl | ⟨3, _⟩ => rfl))).trans
        (v3_eq h0 s h g d))).trans ?_
    simp only [← EReal.coe_mul, coe_sum]
    rfl
  rw [val_main_v67_apply, val_main_v66_apply, show idx_main_v66 (idx_main_v67 (ix2 t (kcol h d))) = ix3 h t d from
    funext fun a => Fin.ext (by
      match a with
      | ⟨0, _⟩ => show (t.val * 512 + (h.val * 128 + d.val)) / 128 % 4 = h.val; omega
      | ⟨1, _⟩ => show (t.val * 512 + (h.val * 128 + d.val)) / 512 = t.val; omega
      | ⟨2, _⟩ => show (t.val * 512 + (h.val * 128 + d.val)) % 128 = d.val; omega), key]

/-- The gradient of the values. -/
theorem v47_eq (h0 : IsRows x0 q) (h1 : IsKeys x1 k) (h3 : IsRows x3 dO) (h : Fin 4) (t : Fin 4352) (d : Fin 128) :
    val_main_v47 (F := Ideal) x0 x1 x3 (ix2 t (kcol h d)) = (dv scale q dO k M h t d : EReal) := by
  have key : val_main_v45 (F := Ideal) x0 x1 x3 (ix3 h d t) = (dv scale q dO k M h t d : EReal) := by
    unfold val_main_v45
    simp only [Host.dotGeneral]
    rw [Ideal.dotGeneral_apply, ValueIdx.sum_contr2 dot_S4x128x4x4096_S4x4x4096x4352_S4x128x4352_23_12_1_3_0_0 4 4096 rfl rfl rfl]
    refine (Finset.sum_congr rfl fun g _ => Finset.sum_congr rfl fun s _ => congrArg₂ (· * ·)
      ((congrArg (val_main_v43 (F := Ideal) x3) (funext fun a => Fin.ext (by match a with | ⟨0, _⟩ => rfl | ⟨1, _⟩ => rfl | ⟨2, _⟩ => rfl | ⟨3, _⟩ => rfl))).trans
        (v43_eq h3 h d g s))
      ((congrArg (val_main_v33 (F := Ideal) x0 x1) (funext fun a => Fin.ext (by match a with | ⟨0, _⟩ => rfl | ⟨1, _⟩ => rfl | ⟨2, _⟩ => rfl | ⟨3, _⟩ => rfl))).trans
        (v33_eq hM h0 h1 h g s t))).trans ?_
    simp only [← EReal.coe_mul, coe_sum]
    unfold dv
    rw [Finset.sum_comm]
    exact congrArg _ (Finset.sum_congr rfl fun s _ => Finset.sum_congr rfl fun g _ => mul_comm _ _)
  rw [val_main_v47_apply, val_main_v46_apply, show idx_main_v46 (idx_main_v47 (ix2 t (kcol h d))) = ix3 h d t from
    funext fun a => Fin.ext (by
      match a with
      | ⟨0, _⟩ => show (t.val * 512 + (h.val * 128 + d.val)) / 128 % 4 = h.val; omega
      | ⟨1, _⟩ => show (t.val * 512 + (h.val * 128 + d.val)) % 128 = d.val; omega
      | ⟨2, _⟩ => show (t.val * 512 + (h.val * 128 + d.val)) / 512 = t.val; omega), key]

end Cert.Attn

end
-- ==== Proof.AttnBlock.lean ====
/- What one grid point of the attention's gradient (`Kernel8`) computes from its blocks: the four query heads of a key head,
   64 rows of each stacked into 256, as the real numbers of `AttnMath`. -/
module

public import proofs.«01_k».proof.Proof.AttnRef
public import proofs.«01_k».proof.Proof.Gen.Kernel8Ideal.Frame
public import Idealize.ShloMosaic.Lib.Pipeline.ValueKit

@[expose] public section

set_option maxRecDepth 16384

noncomputable section

namespace Cert.Attn

open Idealize.ShloMosaic Idealize.ShloMosaic.TcCoe Idealize.SL.Sem
open Cert.Kernel8Ideal Cert.Kernel8Ideal.Gen

/-- The stacked row of row `s` of group `g`. -/
def srow (g : Fin 4) (s : Fin 64) : Fin 256 := ⟨g.val * 64 + s.val, by omega⟩

/-- The column of coordinate `d` of group `g` in a block of four heads. -/
def scol (g : Fin 4) (d : Fin 128) : Fin 512 := ⟨g.val * 128 + d.val, by omega⟩

/-- A sum over the stacked rows, group by group. -/
theorem sum_rows {β : Type} [AddCommMonoid β] (f : Fin 256 → β) : ∑ r, f r = ∑ g : Fin 4, ∑ s : Fin 64, f (srow g s) := by
  rw [← Fintype.sum_prod_type', ← Equiv.sum_comp (finProdFinEquiv (m := 4) (n := 64))]
  exact Finset.sum_congr rfl fun p _ => congrArg f (Fin.ext (by show p.2.val + 64 * p.1.val = p.1.val * 64 + p.2.val; omega))

/-- The stacked queries of a block. -/
abbrev stack (x : Vec Ideal S64x512 .bf16) : FVec Ideal S256x128 .bf16 :=
  k0_pay7 (View.ld x (Rect.unit ![0, 0] ![64, 128] inb_S64x512_S64x128_0_0)) (View.ld x (Rect.unit ![0, 128] ![64, 128] inb_S64x512_S64x128_0_128))
    (View.ld x (Rect.unit ![0, 256] ![64, 128] inb_S64x512_S64x128_0_256)) (View.ld x (Rect.unit ![0, 384] ![64, 128] inb_S64x512_S64x128_0_384))

/-- The stacked cotangents of a block. -/
abbrev stackD (x : Vec Ideal S64x512 .bf16) : FVec Ideal S256x128 .bf16 :=
  k0_pay8 (View.ld x (Rect.unit ![0, 0] ![64, 128] inb_S64x512_S64x128_0_0)) (View.ld x (Rect.unit ![0, 128] ![64, 128] inb_S64x512_S64x128_0_128))
    (View.ld x (Rect.unit ![0, 256] ![64, 128] inb_S64x512_S64x128_0_256)) (View.ld x (Rect.unit ![0, 384] ![64, 128] inb_S64x512_S64x128_0_384))

/-- The stacked outputs of a block. -/
abbrev stackO (x : Vec Ideal S64x512 .f32) : FVec Ideal S256x128 .f32 :=
  k0_pay9 (View.ld x (Rect.unit ![0, 0] ![64, 128] inb_S64x512_S64x128_0_0)) (View.ld x (Rect.unit ![0, 128] ![64, 128] inb_S64x512_S64x128_0_128))
    (View.ld x (Rect.unit ![0, 256] ![64, 128] inb_S64x512_S64x128_0_256)) (View.ld x (Rect.unit ![0, 384] ![64, 128] inb_S64x512_S64x128_0_384))

/-- The weights of a point. -/
abbrev weights (x0 : Vec Ideal S64x512 .bf16) (x1 : Vec Ideal S4352x128 .bf16) (x4 : Vec Ideal S1x4x64x128 .f32) : FVec Ideal S256x4352 .f32 :=
  k0_pay11 (stack x0)
    (k0_pay10 (View.ld x4 (Rect.unit ![0, 0, 0, 0] ![1, 1, 64, 128] inb_S1x4x64x128_S1x1x64x128_0_0_0_0)))
    (View.ld x4 (Rect.unit ![0, 1, 0, 0] ![1, 1, 64, 128] inb_S1x4x64x128_S1x1x64x128_0_1_0_0))
    (View.ld x4 (Rect.unit ![0, 2, 0, 0] ![1, 1, 64, 128] inb_S1x4x64x128_S1x1x64x128_0_2_0_0))
    (View.ld x4 (Rect.unit ![0, 3, 0, 0] ![1, 1, 64, 128] inb_S1x4x64x128_S1x1x64x128_0_3_0_0)) x1

/-- The scores' gradients of a point. -/
abbrev grads (x0 : Vec Ideal S64x512 .bf16) (x1 x2 : Vec Ideal S4352x128 .bf16) (x3 : Vec Ideal S64x512 .f32) (x4 : Vec Ideal S1x4x64x128 .f32)
    (x5 : Vec Ideal S64x512 .bf16) : FVec Ideal S256x4352 .bf16 :=
  k0_pay12 (stack x0) (stackD x5) (stackO x3)
    (k0_pay10 (View.ld x4 (Rect.unit ![0, 0, 0, 0] ![1, 1, 64, 128] inb_S1x4x64x128_S1x1x64x128_0_0_0_0)))
    (View.ld x4 (Rect.unit ![0, 1, 0, 0] ![1, 1, 64, 128] inb_S1x4x64x128_S1x1x64x128_0_1_0_0))
    (View.ld x4 (Rect.unit ![0, 2, 0, 0] ![1, 1, 64, 128] inb_S1x4x64x128_S1x1x64x128_0_2_0_0))
    (View.ld x4 (Rect.unit ![0, 3, 0, 0] ![1, 1, 64, 128] inb_S1x4x64x128_S1x1x64x128_0_3_0_0)) x1 x2

/-- Four arrays of 64 rows one under the other, at row `s` of the `g`th. -/
theorem concat_apply {α : Type} (x0 x1 x2 x3 : S64x128.Idx → α) (g : Fin 4) (s : Fin 64) (d : Fin 128) :
    concatenate S256x128 0 [⟨S64x128, x0⟩, ⟨S64x128, x1⟩, ⟨S64x128, x2⟩, ⟨S64x128, x3⟩]
      concatenates_S64x128_S64x128_S64x128_S64x128_S256x128_d0 (ix2 (srow g s) d) = (![x0, x1, x2, x3] g) (ix2 s d) := by
  have hs := s.isLt
  fin_cases g <;> simp only [pointwise, srow, if_true, Matrix.cons_val_zero]
  · rw [dif_pos (by first | omega | trivial)]
    exact congrArg x0 (funext fun a => Fin.ext (by match a with | ⟨0, _⟩ => show 0 * 64 + s.val = s.val; omega | ⟨1, _⟩ => rfl))
  · rw [dif_neg (by first | omega | trivial), dif_pos (by first | omega | trivial)]
    exact congrArg x1 (funext fun a => Fin.ext (by match a with | ⟨0, _⟩ => rfl | ⟨1, _⟩ => rfl))
  · rw [dif_neg (by first | omega | trivial), dif_neg (by first | omega | trivial), dif_pos (by first | omega | trivial)]
    exact congrArg x2 (funext fun a => Fin.ext (by match a with | ⟨0, _⟩ => show 2 * 64 + s.val - 64 - 64 = s.val; omega | ⟨1, _⟩ => rfl))
  · rw [dif_neg (by first | omega | trivial), dif_neg (by first | omega | trivial), dif_neg (by first | omega | trivial)]
    exact congrArg x3 (funext fun a => Fin.ext (by match a with | ⟨0, _⟩ => show 3 * 64 + s.val - 64 - 64 - 64 = s.val; omega | ⟨1, _⟩ => rfl))

/-- Four columns of 64 rows one under the other, at row `s` of the `g`th. -/
theorem concat_col {α : Type} (x0 x1 x2 x3 : S64x1.Idx → α) (g : Fin 4) (s : Fin 64) :
    concatenate S256x1 0 [⟨S64x1, x0⟩, ⟨S64x1, x1⟩, ⟨S64x1, x2⟩, ⟨S64x1, x3⟩]
      concatenates_S64x1_S64x1_S64x1_S64x1_S256x1_d0 (ix2 (srow g s) 0) = (![x0, x1, x2, x3] g) (ix2 s 0) := by
  have hs := s.isLt
  fin_cases g <;> simp only [pointwise, srow, if_true, Matrix.cons_val_zero]
  · rw [dif_pos (by first | omega | trivial)]
    exact congrArg x0 (funext fun a => Fin.ext (by match a with | ⟨0, _⟩ => show 0 * 64 + s.val = s.val; omega | ⟨1, _⟩ => rfl))
  · rw [dif_neg (by first | omega | trivial), dif_pos (by first | omega | trivial)]
    exact congrArg x1 (funext fun a => Fin.ext (by match a with | ⟨0, _⟩ => rfl | ⟨1, _⟩ => rfl))
  · rw [dif_neg (by first | omega | trivial), dif_neg (by first | omega | trivial), dif_pos (by first | omega | trivial)]
    exact congrArg x2 (funext fun a => Fin.ext (by match a with | ⟨0, _⟩ => show 2 * 64 + s.val - 64 - 64 = s.val; omega | ⟨1, _⟩ => rfl))
  · rw [dif_neg (by first | omega | trivial), dif_neg (by first | omega | trivial), dif_neg (by first | omega | trivial)]
    exact congrArg x3 (funext fun a => Fin.ext (by match a with | ⟨0, _⟩ => show 3 * 64 + s.val - 64 - 64 - 64 = s.val; omega | ⟨1, _⟩ => rfl))

/-- A stacked row is the row of its head. -/
theorem stack_apply (x : Vec Ideal S64x512 .bf16) (g : Fin 4) (s : Fin 64) (d : Fin 128) :
    stack x (ix2 (srow g s) d) = x (ix2 s (scol g d)) := by
  unfold stack k0_pay7
  refine (concat_apply _ _ _ _ g s d).trans ?_
  fin_cases g <;>
    exact congrArg x (funext fun a => Fin.ext (by match a with | ⟨0, _⟩ => simp [Rect.emb, Rect.unit, scol] | ⟨1, _⟩ => simp [Rect.emb, Rect.unit, scol]))

theorem stackD_apply (x : Vec Ideal S64x512 .bf16) (g : Fin 4) (s : Fin 64) (d : Fin 128) :
    stackD x (ix2 (srow g s) d) = x (ix2 s (scol g d)) := stack_apply x g s d

theorem stackO_apply (x : Vec Ideal S64x512 .f32) (g : Fin 4) (s : Fin 64) (d : Fin 128) :
    stackO x (ix2 (srow g s) d) = x (ix2 s (scol g d)) := by
  unfold stackO k0_pay9
  refine (concat_apply _ _ _ _ g s d).trans ?_
  simp only [pointwise]
  fin_cases g <;>
    exact congrArg x (funext fun a => Fin.ext (by match a with | ⟨0, _⟩ => simp [Rect.emb, Rect.unit, scol] | ⟨1, _⟩ => simp [Rect.emb, Rect.unit, scol]))

/-- The first column of a head's saved logarithms. -/
theorem lse_slice (z : Vec Ideal S1x1x64x128 .f32) (s : Fin 64) :
    extractStridedSlice S64x1 ![0, 0] (shapeCast S64x128 z shapeCasts_S1x1x64x128_S64x128) slices_S64x128_o0_0_S64x1 (ix2 s 0) = z (ix4 0 0 s 0) := by
  pointwise

/-- An exponential of the stacked scores, whatever rows stand against the keys. -/
theorem pay11_apply (y : FVec Ideal S256x128 .bf16) (x1 : Vec Ideal S4352x128 .bf16) (x4 : Vec Ideal S1x4x64x128 .f32) (g : Fin 4) (s : Fin 64)
   (t : Fin 4352) : k0_pay11 y
    (k0_pay10 (View.ld x4 (Rect.unit ![0, 0, 0, 0] ![1, 1, 64, 128] inb_S1x4x64x128_S1x1x64x128_0_0_0_0)))
    (View.ld x4 (Rect.unit ![0, 1, 0, 0] ![1, 1, 64, 128] inb_S1x4x64x128_S1x1x64x128_0_1_0_0))
    (View.ld x4 (Rect.unit ![0, 2, 0, 0] ![1, 1, 64, 128] inb_S1x4x64x128_S1x1x64x128_0_2_0_0))
    (View.ld x4 (Rect.unit ![0, 3, 0, 0] ![1, 1, 64, 128] inb_S1x4x64x128_S1x1x64x128_0_3_0_0)) x1 (ix2 (srow g s) t) =
    Ideal.exp ((0 + ∑ k : Fin 128, y (ix2 (srow g s) k) * x1 (ix2 t k)) * Ideal.ofBits .f32 0x3DB504F3#32 - x4 (ix4 0 g s 0)) := by
  unfold k0_pay11
  generalize hL : concatenate S256x1 0 _ _ = L
  have hv : L (ix2 (srow g s) 0) = x4 (ix4 0 g s 0) := by
    rw [← hL]
    refine (concat_col _ _ _ _ g s).trans ?_
    fin_cases g
    · refine Eq.trans (lse_slice (View.ld x4 (Rect.unit ![0, 0, 0, 0] ![1, 1, 64, 128] inb_S1x4x64x128_S1x1x64x128_0_0_0_0)) s) ?_
      exact congrArg x4 (funext fun a => Fin.ext (by match a with | ⟨0, _⟩ => rfl | ⟨1, _⟩ => rfl | ⟨2, _⟩ => simp [Rect.emb, Rect.unit] | ⟨3, _⟩ => rfl))
    · refine Eq.trans (lse_slice (View.ld x4 (Rect.unit ![0, 1, 0, 0] ![1, 1, 64, 128] inb_S1x4x64x128_S1x1x64x128_0_1_0_0)) s) ?_
      exact congrArg x4 (funext fun a => Fin.ext (by match a with | ⟨0, _⟩ => rfl | ⟨1, _⟩ => rfl | ⟨2, _⟩ => simp [Rect.emb, Rect.unit] | ⟨3, _⟩ => rfl))
    · refine Eq.trans (lse_slice (View.ld x4 (Rect.unit ![0, 2, 0, 0] ![1, 1, 64, 128] inb_S1x4x64x128_S1x1x64x128_0_2_0_0)) s) ?_
      exact congrArg x4 (funext fun a => Fin.ext (by match a with | ⟨0, _⟩ => rfl | ⟨1, _⟩ => rfl | ⟨2, _⟩ => simp [Rect.emb, Rect.unit] | ⟨3, _⟩ => rfl))
    · refine Eq.trans (lse_slice (View.ld x4 (Rect.unit ![0, 3, 0, 0] ![1, 1, 64, 128] inb_S1x4x64x128_S1x1x64x128_0_3_0_0)) s) ?_
      exact congrArg x4 (funext fun a => Fin.ext (by match a with | ⟨0, _⟩ => rfl | ⟨1, _⟩ => rfl | ⟨2, _⟩ => simp [Rect.emb, Rect.unit] | ⟨3, _⟩ => rfl))
  simp only [pointwise]
  rw [← hv]
  rfl

/-- The gradient of a stacked score from its weight. -/
theorem pay12_apply (y z : FVec Ideal S256x128 .bf16) (o : FVec Ideal S256x128 .f32) (l : FVec Ideal S64x1 .f32) (l1 l2 l3 : Vec Ideal S1x1x64x128 .f32)
    (x1 x2 : Vec Ideal S4352x128 .bf16) (r : Fin 256) (t : Fin 4352) : k0_pay12 y z o l l1 l2 l3 x1 x2 (ix2 r t) =
      k0_pay11 y l l1 l2 l3 x1 (ix2 r t) * (0 + ∑ k : Fin 128, z (ix2 r k) * x2 (ix2 t k) - ∑ k : Fin 128, z (ix2 r k) * o (ix2 r k))
        * Ideal.ofBits .f32 0x3DB504F3#32 := by
  unfold k0_pay12
  generalize k0_pay11 y l l1 l2 l3 x1 = w
  simp only [pointwise]
  rfl

/-- The stacked rows of the queries' gradient. -/
theorem pay13_apply (y z : FVec Ideal S256x128 .bf16) (o : FVec Ideal S256x128 .f32) (l : FVec Ideal S64x1 .f32) (l1 l2 l3 : Vec Ideal S1x1x64x128 .f32)
    (x1 x2 : Vec Ideal S4352x128 .bf16) (r : Fin 256) (d : Fin 128) : k0_pay13 y z o l l1 l2 l3 x1 x2 (ix2 r d) =
      0 + ∑ t : Fin 4352, k0_pay12 y z o l l1 l2 l3 x1 x2 (ix2 r t) * x1 (ix2 t d) := by
  unfold k0_pay13
  generalize k0_pay12 y z o l l1 l2 l3 x1 x2 = w
  simp only [pointwise]

/-- A step of the keys' accumulator. -/
theorem pay3_apply (y : FVec Ideal S256x128 .bf16) (w : FVec Ideal S256x4352 .bf16) (a : Vec Ideal S4352x128 .f32) (t : Fin 4352) (d : Fin 128) :
    k0_pay3 y w a (ix2 t d) = a (ix2 t d) + (0 + ∑ r : Fin 256, w (ix2 r t) * y (ix2 r d)) := by
  unfold k0_pay3
  simp only [pointwise]

/-- A step of the values' accumulator. -/
theorem pay4_apply (y : FVec Ideal S256x128 .bf16) (w : FVec Ideal S256x4352 .f32) (a : Vec Ideal S4352x128 .f32) (t : Fin 4352) (d : Fin 128) :
    k0_pay4 y w a (ix2 t d) = a (ix2 t d) + (0 + ∑ r : Fin 256, w (ix2 r t) * y (ix2 r d)) := by
  unfold k0_pay4
  simp only [pointwise]

/-- The blocks of key head `h` hold the reals of the attention, the point's row `s` being row `σ s`. -/
structure Blocks (q dO : Rows) (k v : Keys) (M : Fin 4 → Fin 4 → Fin 4096 → ℝ) (h : Fin 4) (σ : Fin 64 → Fin 4096)
    (x0 : Vec Ideal S64x512 .bf16) (x1 x2 : Vec Ideal S4352x128 .bf16) (x3 : Vec Ideal S64x512 .f32) (x4 : Vec Ideal S1x4x64x128 .f32)
    (x5 : Vec Ideal S64x512 .bf16) : Prop where
  h0 : ∀ s g d, x0 (ix2 s (scol g d)) = (q (σ s) (qcol h g d) : EReal)
  h1 : ∀ t d, x1 (ix2 t d) = (k t (kcol h d) : EReal)
  h2 : ∀ t d, x2 (ix2 t d) = (v t (kcol h d) : EReal)
  h3 : ∀ s g d, x3 (ix2 s (scol g d)) = (attended scale q k v M h g (σ s) d : EReal)
  h4 : ∀ g s, x4 (ix4 0 g s 0) = ((M h g (σ s) + Real.log (total scale q k M h g (σ s)) : ℝ) : EReal)
  h5 : ∀ s g d, x5 (ix2 s (scol g d)) = (dO (σ s) (qcol h g d) : EReal)

variable {q dO : Rows} {k v : Keys} {M : Fin 4 → Fin 4 → Fin 4096 → ℝ} {h : Fin 4} {σ : Fin 64 → Fin 4096}
  {x0 : Vec Ideal S64x512 .bf16} {x1 x2 : Vec Ideal S4352x128 .bf16} {x3 : Vec Ideal S64x512 .f32} {x4 : Vec Ideal S1x4x64x128 .f32}
  {x5 : Vec Ideal S64x512 .bf16}

/-- The point's weights. -/
theorem weights_eq (B : Blocks q dO k v M h σ x0 x1 x2 x3 x4 x5) (g : Fin 4) (s : Fin 64) (t : Fin 4352) :
    weights x0 x1 x4 (ix2 (srow g s) t) = (prob scale q k M h g (σ s) t : EReal) := by
  refine (pay11_apply _ x1 x4 g s t).trans ?_
  simp only [stack_apply, B.h0, B.h1, B.h4, scale_bits, zero_add]
  rw [← exp_sub_log, ← Ideal.exp_coe]
  simp only [← EReal.coe_mul, coe_sum, ← EReal.coe_sub]
  simp only [score, mul_comm (q _ _)]

/-- The point's gradients of the unscaled scores. -/
theorem grads_eq (B : Blocks q dO k v M h σ x0 x1 x2 x3 x4 x5) (g : Fin 4) (s : Fin 64) (t : Fin 4352) :
    grads x0 x1 x2 x3 x4 x5 (ix2 (srow g s) t) = (dscore scale q dO k v M h g (σ s) t : EReal) := by
  refine (pay12_apply _ _ _ _ _ _ _ x1 x2 _ t).trans ?_
  refine (congrArg₂ (· * ·) (congrArg (· * _) (weights_eq B g s t)) rfl).trans ?_
  simp only [stackD_apply, stackO_apply, B.h2, B.h3, B.h5, scale_bits, zero_add]
  simp only [← EReal.coe_mul, coe_sum, ← EReal.coe_sub, sum_attended]
  rfl

/-- The point's rows of the queries' gradient. -/
theorem rows_eq (B : Blocks q dO k v M h σ x0 x1 x2 x3 x4 x5) (g : Fin 4) (s : Fin 64) (d : Fin 128) :
    k0_pay13 (stack x0) (stackD x5) (stackO x3)
      (k0_pay10 (View.ld x4 (Rect.unit ![0, 0, 0, 0] ![1, 1, 64, 128] inb_S1x4x64x128_S1x1x64x128_0_0_0_0)))
      (View.ld x4 (Rect.unit ![0, 1, 0, 0] ![1, 1, 64, 128] inb_S1x4x64x128_S1x1x64x128_0_1_0_0))
      (View.ld x4 (Rect.unit ![0, 2, 0, 0] ![1, 1, 64, 128] inb_S1x4x64x128_S1x1x64x128_0_2_0_0))
      (View.ld x4 (Rect.unit ![0, 3, 0, 0] ![1, 1, 64, 128] inb_S1x4x64x128_S1x1x64x128_0_3_0_0)) x1 x2 (ix2 (srow g s) d) =
      (dq scale q dO k v M h g (σ s) d : EReal) := by
  refine (pay13_apply _ _ _ _ _ _ _ x1 x2 _ d).trans ?_
  rw [zero_add, Finset.sum_congr rfl fun t _ => congrArg₂ (· * ·) (grads_eq B g s t) (B.h1 t d)]
  simp only [← EReal.coe_mul, coe_sum]
  rfl

/-- What the point adds to the keys' gradient. -/
theorem keys_step (B : Blocks q dO k v M h σ x0 x1 x2 x3 x4 x5) (a : Vec Ideal S4352x128 .f32) (t : Fin 4352) (d : Fin 128) :
    k0_pay3 (stack x0) (grads x0 x1 x2 x3 x4 x5) a (ix2 t d) =
      a (ix2 t d) + ((∑ g, ∑ s, dscore scale q dO k v M h g (σ s) t * q (σ s) (qcol h g d) : ℝ) : EReal) := by
  rw [pay3_apply, zero_add, sum_rows, Finset.sum_congr rfl fun g _ => Finset.sum_congr rfl fun s _ =>
    congrArg₂ (· * ·) (grads_eq B g s t) ((stack_apply x0 g s d).trans (B.h0 s g d))]
  simp only [← EReal.coe_mul, coe_sum]

/-- What the point adds to the values' gradient. -/
theorem values_step (B : Blocks q dO k v M h σ x0 x1 x2 x3 x4 x5) (a : Vec Ideal S4352x128 .f32) (t : Fin 4352) (d : Fin 128) :
    k0_pay4 (stackD x5) (weights x0 x1 x4) a (ix2 t d) =
      a (ix2 t d) + ((∑ g, ∑ s, prob scale q k M h g (σ s) t * dO (σ s) (qcol h g d) : ℝ) : EReal) := by
  rw [pay4_apply, zero_add, sum_rows, Finset.sum_congr rfl fun g _ => Finset.sum_congr rfl fun s _ =>
    congrArg₂ (· * ·) (weights_eq B g s t) ((stackD_apply x5 g s d).trans (B.h5 s g d))]
  simp only [← EReal.coe_mul, coe_sum]

end Cert.Attn

end
-- ==== Proof.Attn.lean ====
/- The value of the attention's gradient (`Kernel8`): on finite inputs the three arrays the kernel leaves are the reference's. -/
module

public import proofs.«01_k».proof.Defs
public import proofs.«01_k».proof.Proof.AttnBlock
public import proofs.«01_k».proof.Proof.Gen.Kernel8Ideal.Value
public import proofs.«01_k».proof.Proof.Gen.Pre_finite8
public import proofs.«01_k».proof.Proof.Scalars
public import Idealize.ShloMosaic.Lib.Pipeline.ValueKit
public import Idealize.ShloMosaic.Lib.ReduceAll

@[expose] public section

set_option maxRecDepth 16384

noncomputable section

namespace Cert.Attn

open Idealize.ShloMosaic Idealize.ShloMosaic.TcCoe Idealize.SL.Sem
open Cert.Kernel8Ideal Cert.Kernel8Ideal.Gen

variable (m : (ℓ : Loc nD τ sig) → Buf (Elt Ideal) ℓ)

/-- The block each window takes at a grid point `(key head, row tile)`. -/
theorem idx : ∀ t : Fin cfg0.N, win0_0.index t = ![t.val % 64, t.val / 64] ∧ win0_1.index t = ![0, t.val / 64]
    ∧ win0_2.index t = ![0, t.val / 64] ∧ win0_3.index t = ![t.val % 64, t.val / 64] ∧ win0_4.index t = ![t.val / 64, 0, t.val % 64, 0]
    ∧ win0_5.index t = ![t.val % 64, t.val / 64] ∧ win0_6.index t = ![t.val % 64, t.val / 64] ∧ win0_7.index t = ![0, t.val / 64]
    ∧ win0_8.index t = ![0, t.val / 64] :=
  (by decide +kernel : ∀ t : Fin grid0.N, _)

/-- The key head of a grid point. -/
def head (t : Fin cfg0.N) : Fin 4 := ⟨t.val / 64, by have : t.val < 256 := t.isLt; omega⟩

/-- The array's row of a point's row. -/
def srowOf (t : Fin cfg0.N) (s : Fin 64) : Fin 4096 := ⟨t.val % 64 * 64 + s.val, by omega⟩

/-- The finite inputs of a device, as reals, and its scores' row maxima. -/
structure Inputs (c : Dev nD) (q dO : Rows) (k v : Keys) (M : Fin 4 → Fin 4 → Fin 4096 → ℝ) : Prop where
  h0 : IsRows (m ((c.tc : Thread nD τ).loc main_arg0)) q
  h1 : IsKeys (m ((c.tc : Thread nD τ).loc main_arg1)) k
  h2 : IsKeys (m ((c.tc : Thread nD τ).loc main_arg2)) v
  h3 : IsRows (m ((c.tc : Thread nD τ).loc main_arg3)) dO
  hM : ∀ h g s, Cert.Reference8Ideal.Read.val_main_v9 (F := Ideal) (m ((c.tc : Thread nD τ).loc main_arg0)) (m ((c.tc : Thread nD τ).loc main_arg1)) (ix3 h g s) = (M h g s : EReal)

open Cert.Reference8Ideal.Read in
/-- The outputs handed to the kernel are those of the reference's forward lines. -/
theorem entry_out (c : Dev nD) : V m c main_v21 = val_main_v40 (F := Ideal) (m ((c.tc : Thread nD τ).loc main_arg0)) (m ((c.tc : Thread nD τ).loc main_arg1)) (m ((c.tc : Thread nD τ).loc main_arg2)) := by
  entry_read
  simp only [val_main_v40, val_main_v39, val_main_v38, val_main_v33, val_main_v32, val_main_v31, val_main_v30, val_main_v29, val_main_v28, val_main_v27, val_main_v26, v16_eq]
  rfl

open Cert.Reference8Ideal.Read in
/-- The logarithms handed to the kernel: a row's maximum and the logarithm of its sum of exponentials, in every lane. -/
theorem entry_lse (c : Dev nD) : V m c main_v24 = broadcastInDim S4x4x4096x128 ![0, 1, 2, 3] bcast_S4x4x4096x1_S4x4x4096x128_0_1_2_3
      (addf (F := Ideal) (φ := .f32) (broadcastInDim S4x4x4096x1 ![0, 1, 2] bcast_S4x4x4096_S4x4x4096x1_0_1_2
          (val_main_v9 (F := Ideal) (m ((c.tc : Thread nD τ).loc main_arg0)) (m ((c.tc : Thread nD τ).loc main_arg1))))
        (Host.log (φ := .f32) (val_main_v31 (F := Ideal) (m ((c.tc : Thread nD τ).loc main_arg0)) (m ((c.tc : Thread nD τ).loc main_arg1))))) := by
  entry_read
  simp only [val_main_v31, val_main_v30, val_main_v29, val_main_v28, val_main_v27, val_main_v26, v16_eq]
  rfl

/-- The handed logarithms read at an entry. -/
theorem lse_read (a : FVec Ideal S4x4x4096 .f32) (b : FVec Ideal S4x4x4096x1 .f32) (h g : Fin 4) (s : Fin 4096) (l : Fin 128) :
    broadcastInDim S4x4x4096x128 ![0, 1, 2, 3] bcast_S4x4x4096x1_S4x4x4096x128_0_1_2_3
      (addf (F := Ideal) (φ := .f32) (broadcastInDim S4x4x4096x1 ![0, 1, 2] bcast_S4x4x4096_S4x4x4096x1_0_1_2 a) (Host.log (φ := .f32) b)) (ix4 h g s l)
      = a (ix3 h g s) + Ideal.log (b (ix4 h g s 0)) := by
  refine congrArg₂ (· + ·) (congrArg a (funext fun x => ?_)) (congrArg (fun z => Ideal.log (b z)) (funext fun x => ?_))
  · match x with | ⟨0, _⟩ => rfl | ⟨1, _⟩ => rfl | ⟨2, _⟩ => rfl
  · match x with | ⟨0, _⟩ => rfl | ⟨1, _⟩ => rfl | ⟨2, _⟩ => rfl | ⟨3, _⟩ => rfl

variable {m} {c : Dev nD} {q dO : Rows} {k v : Keys} {M : Fin 4 → Fin 4 → Fin 4096 → ℝ}

open Cert.Reference8Ideal.Read in
theorem entry_lse_read (h g : Fin 4) (s : Fin 4096) (l : Fin 128) (x : EReal)
    (hx : val_main_v9 (F := Ideal) (m ((c.tc : Thread nD τ).loc main_arg0)) (m ((c.tc : Thread nD τ).loc main_arg1)) (ix3 h g s)
      + Ideal.log (val_main_v31 (F := Ideal) (m ((c.tc : Thread nD τ).loc main_arg0)) (m ((c.tc : Thread nD τ).loc main_arg1)) (ix4 h g s 0)) = x) :
    V m c main_v24 (ix4 h g s l) = x := by
  have h2 := lse_read (val_main_v9 (F := Ideal) (m ((c.tc : Thread nD τ).loc main_arg0)) (m ((c.tc : Thread nD τ).loc main_arg1)))
    (val_main_v31 (F := Ideal) (m ((c.tc : Thread nD τ).loc main_arg0)) (m ((c.tc : Thread nD τ).loc main_arg1))) h g s l
  exact (congrFun (entry_lse m c) _).trans (h2.trans hx)

open Cert.Reference8Ideal.Read in
theorem lse_eq (I : Inputs m c q dO k v M) (h g : Fin 4) (s : Fin 4096) :
    val_main_v9 (F := Ideal) (m ((c.tc : Thread nD τ).loc main_arg0)) (m ((c.tc : Thread nD τ).loc main_arg1)) (ix3 h g s)
      + Ideal.log (val_main_v31 (F := Ideal) (m ((c.tc : Thread nD τ).loc main_arg0)) (m ((c.tc : Thread nD τ).loc main_arg1)) (ix4 h g s 0))
      = ((M h g s + Real.log (total scale q k M h g s) : ℝ) : EReal) := by
  rw [I.hM, v31_eq I.hM I.h0 I.h1, Ideal.log_coe, if_neg (not_le.2 (total_pos ..)), EReal.coe_add]

theorem entry_lse_eq (I : Inputs m c q dO k v M) (h g : Fin 4) (s : Fin 4096) (l : Fin 128) :
    V m c main_v24 (ix4 h g s l) = ((M h g s + Real.log (total scale q k M h g s) : ℝ) : EReal) :=
  entry_lse_read h g s l _ (lse_eq I h g s)

/-- A point's block of the outputs, wherever its array stands. -/
theorem read3 (A : (b : Ref sig .tc) → Buf (Elt Ideal) ((c.tc : Thread nD τ).loc b)) (t : Fin cfg0.N) (s : Fin 64) (g : Fin 4) (d : Fin 128) :
    View.read (Elt Ideal) ((cfg0.win 3).blk t).view (A (Pipeline.arrRef spec0 3)) (ix2 s (scol g d)) = A main_v21 (ix2 (srowOf t s) (qcol (head t) g d)) := by
  simp only [scol, srowOf, qcol, head]
  blk_ext [idx t]

/-- A point's block of the logarithms, wherever its array stands. -/
theorem read4 (A : (b : Ref sig .tc) → Buf (Elt Ideal) ((c.tc : Thread nD τ).loc b)) (t : Fin cfg0.N) (g : Fin 4) (s : Fin 64) :
    View.read (Elt Ideal) ((cfg0.win 4).blk t).view (A (Pipeline.arrRef spec0 4)) (ix4 0 g s 0) = A main_v24 (ix4 (head t) g (srowOf t s) 0) := by
  simp only [srowOf, head]
  blk_ext [idx t]

theorem block0 (I : Inputs m c q dO k v M) (t : Fin cfg0.N) (s : Fin 64) (g : Fin 4) (d : Fin 128) :
    iblk m c 0 t (ix2 s (scol g d)) = (q (srowOf t s) (qcol (head t) g d) : EReal) := by
  rw [← I.h0]
  simp only [scol, srowOf, qcol, head]
  blk_ext [iblk, V, idx t]

theorem block1 (I : Inputs m c q dO k v M) (t : Fin cfg0.N) (u : Fin 4352) (d : Fin 128) :
    iblk m c 1 t (ix2 u d) = (k u (kcol (head t) d) : EReal) := by
  rw [← I.h1]
  simp only [kcol, head]
  blk_ext [iblk, V, idx t]

theorem block2 (I : Inputs m c q dO k v M) (t : Fin cfg0.N) (u : Fin 4352) (d : Fin 128) :
    iblk m c 2 t (ix2 u d) = (v u (kcol (head t) d) : EReal) := by
  rw [← I.h2]
  simp only [kcol, head]
  blk_ext [iblk, V, idx t]

theorem block5 (I : Inputs m c q dO k v M) (t : Fin cfg0.N) (s : Fin 64) (g : Fin 4) (d : Fin 128) :
    iblk m c 5 t (ix2 s (scol g d)) = (dO (srowOf t s) (qcol (head t) g d) : EReal) := by
  rw [← I.h3]
  simp only [scol, srowOf, qcol, head]
  blk_ext [iblk, V, idx t]

theorem block3 (I : Inputs m c q dO k v M) (t : Fin cfg0.N) (s : Fin 64) (g : Fin 4) (d : Fin 128) :
    iblk m c 3 t (ix2 s (scol g d)) = (attended scale q k v M (head t) g (srowOf t s) d : EReal) :=
  (read3 (V m c) t s g d).trans ((congrFun (entry_out m c) _).trans (v40_eq I.hM I.h0 I.h1 I.h2 _ _ _ _))

theorem block4 (I : Inputs m c q dO k v M) (t : Fin cfg0.N) (g : Fin 4) (s : Fin 64) :
    iblk m c 4 t (ix4 0 g s 0) = ((M (head t) g (srowOf t s) + Real.log (total scale q k M (head t) g (srowOf t s)) : ℝ) : EReal) :=
  (read4 (V m c) t g s).trans (entry_lse_eq I _ _ _ 0)

/-- A point's blocks hold the reals of the attention. -/
theorem blocks (I : Inputs m c q dO k v M) (t : Fin cfg0.N) :
    Blocks q dO k v M (head t) (srowOf t) (iblk m c 0 t) (iblk m c 1 t) (iblk m c 2 t) (iblk m c 3 t) (iblk m c 4 t) (iblk m c 5 t) :=
  ⟨block0 I t, block1 I t, block2 I t, block3 I t, block4 I t, block5 I t⟩

/-- Where an entry of a head's tile of a block stands. -/
theorem tile_at (x : S64x128.Idx) (s : Fin 64) (g n : Fin 4) (d : Fin 128) (h0 : s.val = (x 0).val) (h1 : g.val * 128 + d.val = n.val * 128 + (x 1).val) :
    g = n ∧ x = ix2 s d := by
  have hx : (x 1).val < 128 := (x 1).isLt
  have hd := d.isLt
  exact ⟨Fin.ext (by omega), funext fun a => Fin.ext (by match a with | ⟨0, _⟩ => exact h0.symm | ⟨1, _⟩ => show (x 1).val = d.val; omega)⟩

/-- What a point leaves of the queries' gradient, at the first tile of a head. -/
theorem point6_A (I : Inputs m c q dO k v M) (t : Fin cfg0.N) (h0 : t.val % 64 = 0) (s : Fin 64) (g : Fin 4) (d : Fin 128) :
    (outsAt0 m c t.val t.isLt).1 (ix2 s (scol g d)) = (dq scale q dO k v M (head t) g (srowOf t s) d : EReal) := by
  have B := rows_eq (blocks I t)
  rw [outsAt0_A m c t h0]
  frame_out
  generalize dq scale q dO k v M (head t) = R at B ⊢
  unfold k0_pay14 k0_pay15
  generalize k0_pay13 (F := Ideal) _ _ _ _ _ _ _ _ _ = w at B ⊢
  canon_tiles x h
  · obtain ⟨rfl, rfl⟩ := tile_at x s g 3 d h0 (by have e : g.val * 128 + d.val = 384 + (x 1).val := h1; simpa using e)
    exact (congrArg w (funext fun a => Fin.ext (by match a with | ⟨0, _⟩ => simp [srow] | ⟨1, _⟩ => simp [srow]))).trans (B 3 s d)
  · obtain ⟨rfl, rfl⟩ := tile_at x s g 2 d h0 (by have e : g.val * 128 + d.val = 256 + (x 1).val := h1; simpa using e)
    exact (congrArg w (funext fun a => Fin.ext (by match a with | ⟨0, _⟩ => simp [srow] | ⟨1, _⟩ => simp [srow]))).trans (B 2 s d)
  · obtain ⟨rfl, rfl⟩ := tile_at x s g 1 d h0 (by have e : g.val * 128 + d.val = 128 + (x 1).val := h1; simpa using e)
    exact (congrArg w (funext fun a => Fin.ext (by match a with | ⟨0, _⟩ => simp [srow] | ⟨1, _⟩ => simp [srow]))).trans (B 1 s d)
  · obtain ⟨rfl, rfl⟩ := tile_at x s g 0 d h0 (by have e : g.val * 128 + d.val = 0 + (x 1).val := h1.trans (Nat.zero_add _).symm; simpa using e)
    exact (congrArg w (funext fun a => Fin.ext (by match a with | ⟨0, _⟩ => simp [srow] | ⟨1, _⟩ => simp [srow]))).trans (B 0 s d)

/-- What a point leaves of the queries' gradient, at a later tile. -/
theorem point6_B (I : Inputs m c q dO k v M) (t : Fin cfg0.N) (h0 : ¬ t.val % 64 = 0) (s : Fin 64) (g : Fin 4) (d : Fin 128) :
    (outsAt0 m c t.val t.isLt).1 (ix2 s (scol g d)) = (dq scale q dO k v M (head t) g (srowOf t s) d : EReal) := by
  have B := rows_eq (blocks I t)
  rw [outsAt0_B m c t h0]
  frame_out
  generalize dq scale q dO k v M (head t) = R at B ⊢
  unfold k0_pay14 k0_pay15
  generalize k0_pay13 (F := Ideal) _ _ _ _ _ _ _ _ _ = w at B ⊢
  canon_tiles x h
  · obtain ⟨rfl, rfl⟩ := tile_at x s g 3 d h0 (by have e : g.val * 128 + d.val = 384 + (x 1).val := h1; simpa using e)
    exact (congrArg w (funext fun a => Fin.ext (by match a with | ⟨0, _⟩ => simp [srow] | ⟨1, _⟩ => simp [srow]))).trans (B 3 s d)
  · obtain ⟨rfl, rfl⟩ := tile_at x s g 2 d h0 (by have e : g.val * 128 + d.val = 256 + (x 1).val := h1; simpa using e)
    exact (congrArg w (funext fun a => Fin.ext (by match a with | ⟨0, _⟩ => simp [srow] | ⟨1, _⟩ => simp [srow]))).trans (B 2 s d)
  · obtain ⟨rfl, rfl⟩ := tile_at x s g 1 d h0 (by have e : g.val * 128 + d.val = 128 + (x 1).val := h1; simpa using e)
    exact (congrArg w (funext fun a => Fin.ext (by match a with | ⟨0, _⟩ => simp [srow] | ⟨1, _⟩ => simp [srow]))).trans (B 1 s d)
  · obtain ⟨rfl, rfl⟩ := tile_at x s g 0 d h0 (by have e : g.val * 128 + d.val = 0 + (x 1).val := h1.trans (Nat.zero_add _).symm; simpa using e)
    exact (congrArg w (funext fun a => Fin.ext (by match a with | ⟨0, _⟩ => simp [srow] | ⟨1, _⟩ => simp [srow]))).trans (B 0 s d)

theorem point6 (I : Inputs m c q dO k v M) (t : Fin cfg0.N) (s : Fin 64) (g : Fin 4) (d : Fin 128) :
    (outsAt0 m c t.val t.isLt).1 (ix2 s (scol g d)) = (dq scale q dO k v M (head t) g (srowOf t s) d : EReal) :=
  if h : t.val % 64 = 0 then point6_A I t h s g d else point6_B I t h s g d

open Cert.Reference8Ideal.Read in
/-- The array left for the queries' gradient is the reference's. -/
theorem dq_eq (I : Inputs m c q dO k v M) : (dats m 0 c).arrAt 6 cfg0.N
    = val_main_v68 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  have y0 : (y 0).val < 64 := (y 0).isLt
  have y1 : (y 1).val < 512 := (y 1).isLt
  have hy : y = ix2 (⟨(y 0).val, y0⟩ : Fin 64) (scol ⟨(y 1).val / 128, by omega⟩ ⟨(y 1).val % 128, by omega⟩) :=
    funext fun a => Fin.ext (by match a with | ⟨0, _⟩ => rfl | ⟨1, _⟩ => show (y 1).val = (y 1).val / 128 * 128 + (y 1).val % 128; omega)
  refine ((congrArg _ hy).trans (point6 I t _ _ _)).trans ((v68_eq I.hM I.h0 I.h1 I.h2 I.h3 _ _ _ _).symm.trans ?_)
  simp only [srowOf, qcol, head]
  blk_ext [idx t]

/-- What a point adds to the keys' gradient. -/
def keysTerm (q dO : Rows) (k v : Keys) (M : Fin 4 → Fin 4 → Fin 4096 → ℝ) (t : Fin cfg0.N) (j : S4352x128.Idx) : EReal :=
  ((∑ g, ∑ s, dscore scale q dO k v M (head t) g (srowOf t s) (j 0) * q (srowOf t s) (qcol (head t) g (j 1)) : ℝ) : EReal)

/-- What a point adds to the values' gradient. -/
def valuesTerm (q dO : Rows) (k : Keys) (M : Fin 4 → Fin 4 → Fin 4096 → ℝ) (t : Fin cfg0.N) (j : S4352x128.Idx) : EReal :=
  ((∑ g, ∑ s, prob scale q k M (head t) g (srowOf t s) (j 0) * dO (srowOf t s) (qcol (head t) g (j 1)) : ℝ) : EReal)

theorem ix2_eta (j : S4352x128.Idx) : ix2 (n0 := 4352) (n1 := 128) (j 0) (j 1) = j :=
  funext fun a => by match a with | ⟨0, _⟩ => rfl | ⟨1, _⟩ => rfl

theorem point7_A (I : Inputs m c q dO k v M) (t : Fin cfg0.N) (h0 : t.val % 64 = 0) (j : S4352x128.Idx) :
    (outsAt0 m c t.val t.isLt).2.1 j = 0 + keysTerm q dO k v M t j := by
  rw [outsAt0_A m c t h0]
  frame_out
  refine (congrArg _ (ix2_eta j).symm).trans ((keys_step (blocks I t) _ (j 0) (j 1)).trans (congrArg (· + keysTerm q dO k v M t j) ?_))
  simp [k0_pay5, pointwise]

theorem point7_B (I : Inputs m c q dO k v M) (t : Fin cfg0.N) (h0 : ¬ t.val % 64 = 0) (j : S4352x128.Idx) :
    (outsAt0 m c t.val t.isLt).2.1 j = (outsAt0 m c (t.val - 1) (lt_of_le_of_lt (Nat.sub_le _ _) t.isLt)).2.1 j + keysTerm q dO k v M t j := by
  rw [outsAt0_B m c t h0]
  frame_out
  exact (congrArg _ (ix2_eta j).symm).trans ((keys_step (blocks I t) _ (j 0) (j 1)).trans (congrArg (· + keysTerm q dO k v M t j) (congrArg _ (ix2_eta j))))

theorem point8_A (I : Inputs m c q dO k v M) (t : Fin cfg0.N) (h0 : t.val % 64 = 0) (j : S4352x128.Idx) :
    (outsAt0 m c t.val t.isLt).2.2 j = 0 + valuesTerm q dO k M t j := by
  rw [outsAt0_A m c t h0]
  frame_out
  refine (congrArg _ (ix2_eta j).symm).trans ((values_step (blocks I t) _ (j 0) (j 1)).trans (congrArg (· + valuesTerm q dO k M t j) ?_))
  simp [k0_pay6, pointwise]

theorem point8_B (I : Inputs m c q dO k v M) (t : Fin cfg0.N) (h0 : ¬ t.val % 64 = 0) (j : S4352x128.Idx) :
    (outsAt0 m c t.val t.isLt).2.2 j = (outsAt0 m c (t.val - 1) (lt_of_le_of_lt (Nat.sub_le _ _) t.isLt)).2.2 j + valuesTerm q dO k M t j := by
  rw [outsAt0_B m c t h0]
  frame_out
  exact (congrArg _ (ix2_eta j).symm).trans ((values_step (blocks I t) _ (j 0) (j 1)).trans (congrArg (· + valuesTerm q dO k M t j) (congrArg _ (ix2_eta j))))

/-- A sum over all rows and groups, tile by tile. -/
theorem sum_tiles (f : Fin 4096 → Fin 4 → ℝ) :
    ∑ s, ∑ g, f s g = ∑ i : Fin 64, ∑ g, ∑ s : Fin 64, f ⟨i.val * 64 + s.val, by omega⟩ g := by
  rw [← Equiv.sum_comp (finProdFinEquiv (m := 64) (n := 64)), Fintype.sum_prod_type]
  refine Finset.sum_congr rfl fun i _ => ?_
  rw [Finset.sum_comm]
  exact Finset.sum_congr rfl fun g _ => Finset.sum_congr rfl fun s _ =>
    congrArg (f · g) (Fin.ext (by show s.val + 64 * i.val = i.val * 64 + s.val; omega))

theorem tile_point (t : Fin cfg0.N) (i : Fin 64) (h : 64 * (t.val / 64) + i.val < cfg0.N) (s : Fin 64) :
    head ⟨64 * (t.val / 64) + i.val, h⟩ = head t ∧ srowOf ⟨64 * (t.val / 64) + i.val, h⟩ s = ⟨i.val * 64 + s.val, by omega⟩ :=
  ⟨Fin.ext (by show (64 * (t.val / 64) + i.val) / 64 = t.val / 64; omega), Fin.ext (by show (64 * (t.val / 64) + i.val) % 64 * 64 + s.val = i.val * 64 + s.val; omega)⟩

open Cert.Reference8Ideal.Read in
/-- The array left for the keys' gradient is the reference's. -/
theorem dk_eq (I : Inputs m c q dO k v M) : (dats m 0 c).arrAt 7 cfg0.N
    = val_main_v67 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.1) 64 (fun _ => 0) (keysTerm q dO k v M)
      (fun t h j => point7_A I t h j) (fun t h j => point7_B I t h j) t ((flush0_7 t).mp hf) _]
  rw [zero_add]
  have y1 : (y 1).val < 128 := (y 1).isLt
  refine Eq.trans (b := ((dk scale q dO k v M (head t) (y 0) (y 1) : ℝ) : EReal)) ?_ ?_
  · unfold keysTerm dk
    rw [coe_sum, sum_tiles]
    refine congrArg _ (Finset.sum_congr rfl fun i _ => Finset.sum_congr rfl fun g _ => Finset.sum_congr rfl fun s _ => ?_)
    obtain ⟨e1, e2⟩ := tile_point t i (by have : t.val < 256 := t.isLt; exact lt_of_lt_of_eq (by omega : 64 * (t.val / 64) + i.val < 256) N_0.symm) s
    rw [e1, e2]
  · refine (v67_eq I.hM I.h0 I.h1 I.h2 I.h3 _ _ _).symm.trans ?_
    simp only [kcol, head]
    blk_ext [idx t]

open Cert.Reference8Ideal.Read in
/-- The array left for the values' gradient is the reference's. -/
theorem dv_eq (I : Inputs m c q dO k v M) : (dats m 0 c).arrAt 8 cfg0.N
    = val_main_v47 (F := Ideal) (m ((c.tc : Thread nD τ).loc main_arg0)) (m ((c.tc : Thread nD τ).loc main_arg1)) (m ((c.tc : Thread nD τ).loc main_arg3)) := by
  refine (dats m 0 c).arrAt_eq_of_covers 8 _ (by decide +kernel) fun t hf y => ?_
  blk_simp
  rw [after0_8, Pipeline.eq_sum_fin_of_reset_step_apply_of_flush (fun n h => (outsAt0 m c n h).2.2) 64 (fun _ => 0) (valuesTerm q dO k M)
      (fun t h j => point8_A I t h j) (fun t h j => point8_B I t h j) t ((flush0_8 t).mp hf) _]
  rw [zero_add]
  have y1 : (y 1).val < 128 := (y 1).isLt
  refine Eq.trans (b := ((dv scale q dO k M (head t) (y 0) (y 1) : ℝ) : EReal)) ?_ ?_
  · unfold valuesTerm dv
    rw [coe_sum, sum_tiles]
    refine congrArg _ (Finset.sum_congr rfl fun i _ => Finset.sum_congr rfl fun g _ => Finset.sum_congr rfl fun s _ => ?_)
    obtain ⟨e1, e2⟩ := tile_point t i (by have : t.val < 256 := t.isLt; exact lt_of_lt_of_eq (by omega : 64 * (t.val / 64) + i.val < 256) N_0.symm) s
    rw [e1, e2]
  · refine (v47_eq I.hM I.h0 I.h1 I.h3 _ _ _).symm.trans ?_
    simp only [kcol, head]
    blk_ext [idx t]

/-- The precondition read at the elements: the inputs hold real numbers, and the scores' row maxima are real. -/
theorem inputs_of_pre (h : Cert.Pre_Kernel8Ideal_finite8 m) (c : Dev nD) : ∃ q dO k v M, Inputs m c q dO k v M := by
  have h' := congrFun (h c) (Shape.Idx.first Cert.Pre_finite8.Facts.h_S_)
  dsimp only [Cert.Pre_finite8.fn, Cert.Pre_finite8.fn_part1] at h'
  obtain ⟨h012, h3⟩ := IntOp.andi_eq_one.1 h'
  obtain ⟨h01, h2⟩ := IntOp.andi_eq_one.1 h012
  obtain ⟨h0, h1⟩ := IntOp.andi_eq_one.1 h01
  haveI : Subsingleton Cert.Pre_finite8.S_.Idx := ⟨fun a b => funext fun i => i.elim0⟩
  have r0 : ∀ i, ∃ r : ℝ, (m ((c.tc : Thread nD τ).loc main_arg0)) i = (r : EReal) := fun i => Cert.Scalars.real_of_abs_lt _ (Host.reduce_andi_all _ _ _ _ _ h0 i)
  have r1 : ∀ i, ∃ r : ℝ, (m ((c.tc : Thread nD τ).loc main_arg1)) i = (r : EReal) := fun i => Cert.Scalars.real_of_abs_lt _ (Host.reduce_andi_all _ _ _ _ _ h1 i)
  have r2 : ∀ i, ∃ r : ℝ, (m ((c.tc : Thread nD τ).loc main_arg2)) i = (r : EReal) := fun i => Cert.Scalars.real_of_abs_lt _ (Host.reduce_andi_all _ _ _ _ _ h2 i)
  have r3 : ∀ i, ∃ r : ℝ, (m ((c.tc : Thread nD τ).loc main_arg3)) i = (r : EReal) := fun i => Cert.Scalars.real_of_abs_lt _ (Host.reduce_andi_all _ _ _ _ _ h3 i)
  choose f0 e0 using r0
  choose f1 e1 using r1
  choose f2 e2 using r2
  choose f3 e3 using r3
  obtain ⟨M, hM⟩ := v9_real (q := fun s j => f0 (ix2 s j)) (k := fun s j => f1 (ix2 s j)) (fun s j => e0 (ix2 s j)) (fun s j => e1 (ix2 s j))
  exact ⟨fun s j => f0 (ix2 s j), fun s j => f3 (ix2 s j), fun s j => f1 (ix2 s j), fun s j => f2 (ix2 s j), M,
    fun s j => e0 _, fun s j => e1 _, fun s j => e2 _, fun s j => e3 _, hM⟩

/-- The three arrays the kernel leaves are those of the reference, on every device, when the inputs are finite. -/
theorem algebraic : Cert.algebraic_Kernel8Ideal_Reference8Ideal_pre_finite8 := by
  intro m g m' g' hpre heq
  refine ⟨fun c => (dats m 0 c).arrAt 6 cfg0.N, fun c => (dats m 0 c).arrAt 7 cfg0.N, fun c => (dats m 0 c).arrAt 8 cfg0.N,
    Cert.Kernel8Ideal.Value.run_blocks m g, (θ_run Cert.Reference8Ideal.defs _ _).mono (fun r h c => ?_) (Cert.Reference8Ideal.Value.run m' g')⟩
  obtain ⟨h0, h1, h2, ha⟩ := h c
  obtain ⟨e0, e1, e2, e3⟩ := heq c
  obtain ⟨q, dO, k, v, M, I⟩ := inputs_of_pre hpre c
  refine ⟨h0.trans ?_, h1.trans ?_, h2.trans ?_, ha⟩
  · refine (Cert.Reference8Ideal.Read.val_main_v68_eq m' c).trans ?_
    rw [e0, e1, e2, e3]; exact (dq_eq I).symm
  · refine (Cert.Reference8Ideal.Read.val_main_v67_eq m' c).trans ?_
    rw [e0, e1, e2, e3]; exact (dk_eq I).symm
  · refine (Cert.Reference8Ideal.Read.val_main_v47_eq _ _ _).trans ?_
    rw [e0, e1, e3]; exact (dv_eq I).symm

end Cert.Attn

end
-- ==== Proof.Dh2.lean ====
/- The value of the gradient of the rows that enter the second feed-forward block (`Kernel9`): the eight blocks of the
   hidden dimension are summed one after the other in a scratch that the last of them writes out, each with the gate's and
   the factor's part together; the reference sums all of the gate's part and all of the factor's. -/
module

public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise.Tactic
public import Idealize.ShloMosaic.Lib.Pipeline.ReadBack
public import Idealize.ShloMosaic.Lib.TwoAxisContraction

@[expose] public section

set_option maxRecDepth 16384

noncomputable section

namespace Cert.Dh2

open Idealize.ShloMosaic Idealize.ShloMosaic.TcCoe Idealize.SL.Sem
open Cert.Kernel9Ideal Cert.Kernel9Ideal.Gen

variable (m : (ℓ : Loc nD τ sig) → Buf (Elt Ideal) ℓ)

/-- The block each window takes at a grid point `(row tile, hidden block)`. -/
theorem idx : ∀ t : Fin cfg0.N, win0_0.index t = ![t.val % 8, t.val / 8, 0] ∧ win0_1.index t = ![t.val % 8, t.val / 8, 0]
    ∧ win0_2.index t = ![t.val % 8, 1, 0, 0, 0] ∧ win0_3.index t = ![t.val / 8, 0] :=
  (by decide +kernel : ∀ t : Fin grid0.N, _)

/-- At the last block of a row tile the array's block is what the scratch then holds. -/
theorem out_last (c : Dev nD) (t : Fin cfg0.N) (h : t.val % 8 = 7) :
    (outsAt0 m c t.val t.isLt).1 = (outsAt0 m c t.val t.isLt).2 := by
  rw [outsAt0_C m c t (by omega) h]
  frame_out

open Cert.Reference9Ideal.Read in
/-- The reference read at a row and a column: the factor's part, summed over all blocks, and the gate's. -/
theorem ref_eq (x0 x1 : (⟨Cert.Reference9Ideal.S8x4096x704, .bf16⟩ : BufTy).Contents (Elt Ideal))
    (x2 : (⟨Cert.Reference9Ideal.S8x2x2x2048x704, .bf16⟩ : BufTy).Contents (Elt Ideal)) (i : Cert.Reference9Ideal.S4096x2048.Idx) :
    val_main_v12 (F := Ideal) x0 x1 x2 i
      = (∑ d : Fin 8, ∑ f : Fin 704, (x1 (ix3 d (i 0) f) : EReal) * x2 (ix5 d 1 1 (i 1) f))
        + ∑ d : Fin 8, ∑ f : Fin 704, (x0 (ix3 d (i 0) f) : EReal) * x2 (ix5 d 1 0 (i 1) f) := by
  rw [val_main_v12_apply]
  refine congrArg₂ (· + ·) ?_ ?_
  · unfold val_main_v9
    simp only [Host.dotGeneral]
    rw [Ideal.dotGeneral_apply, ValueIdx.sum_contr2 Cert.Reference9Ideal.dot_S8x704x4096_S8x2048x704_S4096x2048_01_02_2_1_n_n 8 704 rfl rfl rfl]
    refine Finset.sum_congr rfl fun d _ => Finset.sum_congr rfl fun f _ => ?_
    simp only [val_main_v8_apply, val_main_v7_apply, val_main_v5_apply, val_main_v4_apply, val_main_v3_apply, pointwise]
    have hd : d.val < 8 := d.isLt
    have hf : f.val < 704 := f.isLt
    have hi : (i 1).val < 2048 := (i 1).isLt
    refine congrArg₂ (· * ·) (congrArg x1 (funext fun a => Fin.ext (by match a with | ⟨0, _⟩ => rfl | ⟨1, _⟩ => rfl | ⟨2, _⟩ => rfl)))
      (congrArg x2 (funext fun a => Fin.ext (by
        match a with
        | ⟨0, _⟩ => show ((d.val * 2048 + (i 1).val) * 704 + f.val) / 1441792 = d.val; omega
        | ⟨1, _⟩ => rfl
        | ⟨2, _⟩ => rfl
        | ⟨3, _⟩ => show ((d.val * 2048 + (i 1).val) * 704 + f.val) / 704 % 2048 = (i 1).val; omega
        | ⟨4, _⟩ => show ((d.val * 2048 + (i 1).val) * 704 + f.val) % 704 = f.val; omega)))
  · unfold val_main_v11
    simp only [Host.dotGeneral]
    rw [Ideal.dotGeneral_apply, ValueIdx.sum_contr2 Cert.Reference9Ideal.dot_S8x704x4096_S8x2048x704_S4096x2048_01_02_2_1_n_n 8 704 rfl rfl rfl]
    refine Finset.sum_congr rfl fun d _ => Finset.sum_congr rfl fun f _ => ?_
    simp only [val_main_v10_apply, val_main_v6_apply, val_main_v2_apply, val_main_v1_apply, val_main_v0_apply, pointwise]
    have hd : d.val < 8 := d.isLt
    have hf : f.val < 704 := f.isLt
    have hi : (i 1).val < 2048 := (i 1).isLt
    refine congrArg₂ (· * ·) (congrArg x0 (funext fun a => Fin.ext (by match a with | ⟨0, _⟩ => rfl | ⟨1, _⟩ => rfl | ⟨2, _⟩ => rfl)))
      (congrArg x2 (funext fun a => Fin.ext (by
        match a with
        | ⟨0, _⟩ => show ((d.val * 2048 + (i 1).val) * 704 + f.val) / 1441792 = d.val; omega
        | ⟨1, _⟩ => rfl
        | ⟨2, _⟩ => rfl
        | ⟨3, _⟩ => show ((d.val * 2048 + (i 1).val) * 704 + f.val) / 704 % 2048 = (i 1).val; omega
        | ⟨4, _⟩ => show ((d.val * 2048 + (i 1).val) * 704 + f.val) % 704 = f.val; omega)))

open Cert.Reference9Ideal.Read in
/-- The array the kernel leaves is the reference's. -/
theorem out_eq (c : Dev nD) : (dats m 0 c).arrAt 3 cfg0.N
    = val_main_v12 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_last m c t ((flush0_3 t).mp hf), Pipeline.eq_sum_fin_of_reset_step_apply_of_flush (fun n h => (outsAt0 m c n h).2) 8 (fun _ => 0) _
      (fun t h j => by rw [outsAt0_A m c t h (by omega)]; frame_out; simp only [k0_pay2, k0_pay1, pointwise]; rfl)
      (fun t h j => by
        by_cases h7 : t.val % 8 = 7
        · rw [outsAt0_C m c t h h7]; frame_out; simp only [k0_pay2, read_unread_whole, pointwise]
        · rw [outsAt0_B m c t h h7]; frame_out; simp only [k0_pay2, read_unread_whole, pointwise]) t ((flush0_3 t).mp hf) _]
  refine Eq.trans ?_ (ref_eq _ _ _ _).symm
  rw [zero_add]
  simp only [zero_add]
  rw [Finset.sum_add_distrib, add_comm]
  have ht : t.val < 32 := t.isLt
  refine congrArg₂ (· + ·) (Finset.sum_congr rfl fun s _ => Finset.sum_congr rfl fun k _ => ?_)
    (Finset.sum_congr rfl fun s _ => Finset.sum_congr rfl fun k _ => ?_)
  all_goals
    have hp : 8 * (t.val / 8) + s.val < cfg0.N := lt_of_lt_of_eq (by omega : 8 * (t.val / 8) + s.val < 32) N_0.symm
    blk_point [iblk, V, idx t, idx ⟨8 * (t.val / 8) + s.val, hp⟩]

/-- The array the kernel leaves is that of the reference, on every device. -/
theorem algebraic : Cert.algebraic_Kernel9Ideal_Reference9Ideal := by
  intro m g m' g' _ heq
  refine ⟨fun c => (dats m 0 c).arrAt 3 cfg0.N, Cert.Kernel9Ideal.Value.run_blocks m g,
    (θ_run Cert.Reference9Ideal.defs _ _).mono (fun r h c => ?_) (Cert.Reference9Ideal.Value.run m' g')⟩
  obtain ⟨h0, ha⟩ := h c
  obtain ⟨e0, e1, e2⟩ := heq c
  refine ⟨h0.trans ?_, ha⟩
  rw [e0, e1, e2]; exact (Cert.Reference9Ideal.Read.val_main_v12_eq _ _ _).trans (out_eq m c).symm

end Cert.Dh2

end
-- ==== Proof.Dh1.lean ====
/- The value of the gradient of the rows that enter the first feed-forward block (`Kernel10`): the eight blocks of the
   hidden dimension are summed one after the other in a scratch that the last of them writes out, each with the gate's and
   the factor's part together; the reference sums all of the gate's part and all of the factor's. -/
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise.Tactic
public import Idealize.ShloMosaic.Lib.Pipeline.ReadBack
public import Idealize.ShloMosaic.Lib.TwoAxisContraction

@[expose] public section

set_option maxRecDepth 16384

noncomputable section

namespace Cert.Dh1

open Idealize.ShloMosaic Idealize.ShloMosaic.TcCoe Idealize.SL.Sem
open Cert.Kernel10Ideal Cert.Kernel10Ideal.Gen

variable (m : (ℓ : Loc nD τ sig) → Buf (Elt Ideal) ℓ)

/-- The block each window takes at a grid point `(row tile, hidden block)`. -/
theorem idx : ∀ t : Fin cfg0.N, win0_0.index t = ![t.val % 8, t.val / 8, 0] ∧ win0_1.index t = ![t.val % 8, t.val / 8, 0]
    ∧ win0_2.index t = ![t.val % 8, 0, 0, 0, 0] ∧ win0_3.index t = ![t.val / 8, 0] :=
  (by decide +kernel : ∀ t : Fin grid0.N, _)

/-- At the last block of a row tile the array's block is what the scratch then holds. -/
theorem out_last (c : Dev nD) (t : Fin cfg0.N) (h : t.val % 8 = 7) :
    (outsAt0 m c t.val t.isLt).1 = (outsAt0 m c t.val t.isLt).2 := by
  rw [outsAt0_C m c t (by omega) h]
  frame_out

open Cert.Reference10Ideal.Read in
/-- The reference read at a row and a column: the factor's part, summed over all blocks, and the gate's. -/
theorem ref_eq (x0 x1 : (⟨Cert.Reference10Ideal.S8x4352x704, .bf16⟩ : BufTy).Contents (Elt Ideal))
    (x2 : (⟨Cert.Reference10Ideal.S8x2x2x2048x704, .bf16⟩ : BufTy).Contents (Elt Ideal)) (i : Cert.Reference10Ideal.S4352x2048.Idx) :
    val_main_v12 (F := Ideal) x0 x1 x2 i
      = (∑ d : Fin 8, ∑ f : Fin 704, (x1 (ix3 d (i 0) f) : EReal) * x2 (ix5 d 0 1 (i 1) f))
        + ∑ d : Fin 8, ∑ f : Fin 704, (x0 (ix3 d (i 0) f) : EReal) * x2 (ix5 d 0 0 (i 1) f) := by
  rw [val_main_v12_apply]
  refine congrArg₂ (· + ·) ?_ ?_
  · unfold val_main_v9
    simp only [Host.dotGeneral]
    rw [Ideal.dotGeneral_apply, ValueIdx.sum_contr2 Cert.Reference10Ideal.dot_S8x704x4352_S8x2048x704_S4352x2048_01_02_2_1_n_n 8 704 rfl rfl rfl]
    refine Finset.sum_congr rfl fun d _ => Finset.sum_congr rfl fun f _ => ?_
    simp only [val_main_v8_apply, val_main_v7_apply, val_main_v5_apply, val_main_v4_apply, val_main_v3_apply, pointwise]
    have hd : d.val < 8 := d.isLt
    have hf : f.val < 704 := f.isLt
    have hi : (i 1).val < 2048 := (i 1).isLt
    refine congrArg₂ (· * ·) (congrArg x1 (funext fun a => Fin.ext (by match a with | ⟨0, _⟩ => rfl | ⟨1, _⟩ => rfl | ⟨2, _⟩ => rfl)))
      (congrArg x2 (funext fun a => Fin.ext (by
        match a with
        | ⟨0, _⟩ => show ((d.val * 2048 + (i 1).val) * 704 + f.val) / 1441792 = d.val; omega
        | ⟨1, _⟩ => rfl
        | ⟨2, _⟩ => rfl
        | ⟨3, _⟩ => show ((d.val * 2048 + (i 1).val) * 704 + f.val) / 704 % 2048 = (i 1).val; omega
        | ⟨4, _⟩ => show ((d.val * 2048 + (i 1).val) * 704 + f.val) % 704 = f.val; omega)))
  · unfold val_main_v11
    simp only [Host.dotGeneral]
    rw [Ideal.dotGeneral_apply, ValueIdx.sum_contr2 Cert.Reference10Ideal.dot_S8x704x4352_S8x2048x704_S4352x2048_01_02_2_1_n_n 8 704 rfl rfl rfl]
    refine Finset.sum_congr rfl fun d _ => Finset.sum_congr rfl fun f _ => ?_
    simp only [val_main_v10_apply, val_main_v6_apply, val_main_v2_apply, val_main_v1_apply, val_main_v0_apply, pointwise]
    have hd : d.val < 8 := d.isLt
    have hf : f.val < 704 := f.isLt
    have hi : (i 1).val < 2048 := (i 1).isLt
    refine congrArg₂ (· * ·) (congrArg x0 (funext fun a => Fin.ext (by match a with | ⟨0, _⟩ => rfl | ⟨1, _⟩ => rfl | ⟨2, _⟩ => rfl)))
      (congrArg x2 (funext fun a => Fin.ext (by
        match a with
        | ⟨0, _⟩ => show ((d.val * 2048 + (i 1).val) * 704 + f.val) / 1441792 = d.val; omega
        | ⟨1, _⟩ => rfl
        | ⟨2, _⟩ => rfl
        | ⟨3, _⟩ => show ((d.val * 2048 + (i 1).val) * 704 + f.val) / 704 % 2048 = (i 1).val; omega
        | ⟨4, _⟩ => show ((d.val * 2048 + (i 1).val) * 704 + f.val) % 704 = f.val; omega)))

open Cert.Reference10Ideal.Read in
/-- The array the kernel leaves is the reference's. -/
theorem out_eq (c : Dev nD) : (dats m 0 c).arrAt 3 cfg0.N
    = val_main_v12 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_last m c t ((flush0_3 t).mp hf), Pipeline.eq_sum_fin_of_reset_step_apply_of_flush (fun n h => (outsAt0 m c n h).2) 8 (fun _ => 0) _
      (fun t h j => by rw [outsAt0_A m c t h (by omega)]; frame_out; simp only [k0_pay2, k0_pay1, pointwise]; rfl)
      (fun t h j => by
        by_cases h7 : t.val % 8 = 7
        · rw [outsAt0_C m c t h h7]; frame_out; simp only [k0_pay2, read_unread_whole, pointwise]
        · rw [outsAt0_B m c t h h7]; frame_out; simp only [k0_pay2, read_unread_whole, pointwise]) t ((flush0_3 t).mp hf) _]
  refine Eq.trans ?_ (ref_eq _ _ _ _).symm
  rw [zero_add]
  simp only [zero_add]
  rw [Finset.sum_add_distrib, add_comm]
  have ht : t.val < 32 := t.isLt
  refine congrArg₂ (· + ·) (Finset.sum_congr rfl fun s _ => Finset.sum_congr rfl fun k _ => ?_)
    (Finset.sum_congr rfl fun s _ => Finset.sum_congr rfl fun k _ => ?_)
  all_goals
    have hp : 8 * (t.val / 8) + s.val < cfg0.N := lt_of_lt_of_eq (by omega : 8 * (t.val / 8) + s.val < 32) N_0.symm
    blk_point [iblk, V, idx t, idx ⟨8 * (t.val / 8) + s.val, hp⟩]

/-- The array the kernel leaves is that of the reference, on every device. -/
theorem algebraic : Cert.algebraic_Kernel10Ideal_Reference10Ideal := by
  intro m g m' g' _ heq
  refine ⟨fun c => (dats m 0 c).arrAt 3 cfg0.N, Cert.Kernel10Ideal.Value.run_blocks m g,
    (θ_run Cert.Reference10Ideal.defs _ _).mono (fun r h c => ?_) (Cert.Reference10Ideal.Value.run m' g')⟩
  obtain ⟨h0, ha⟩ := h c
  obtain ⟨e0, e1, e2⟩ := heq c
  refine ⟨h0.trans ?_, ha⟩
  rw [e0, e1, e2]; exact (Cert.Reference10Ideal.Read.val_main_v12_eq _ _ _).trans (out_eq m c).symm

end Cert.Dh1

end
-- ==== Proof.DprojIn.lean ====
/- The value of the gradient of the input projection's left factor (`Kernel11`): the eight blocks of the weight's columns
   are summed one after the other in a scratch that the last of them writes out, and the reference sums all columns at
   once. -/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise.Tactic
public import Idealize.ShloMosaic.Lib.Pipeline.ReadBack

@[expose] public section

set_option maxRecDepth 16384

noncomputable section

namespace Cert.DprojIn

open Idealize.ShloMosaic Idealize.ShloMosaic.TcCoe Idealize.SL.Sem
open Cert.Kernel11Ideal Cert.Kernel11Ideal.Gen

variable (m : (ℓ : Loc nD τ sig) → Buf (Elt Ideal) ℓ)

/-- The block each window takes at a grid point `(row tile, column block)`. -/
theorem idx : ∀ t : Fin cfg0.N, win0_0.index t = ![t.val / 8, t.val % 8] ∧ win0_1.index t = ![t.val % 8, 0, 0]
    ∧ win0_2.index t = ![t.val / 8, 0] :=
  (by decide +kernel : ∀ t : Fin grid0.N, _)

/-- At the last block of a row tile the array's block is what the scratch then holds. -/
theorem out_last (c : Dev nD) (t : Fin cfg0.N) (h : t.val % 8 = 7) :
    (outsAt0 m c t.val t.isLt).1 = (outsAt0 m c t.val t.isLt).2 := by
  rw [outsAt0_C m c t (by omega) h]
  frame_out

open Cert.Reference11Ideal.Read in
/-- The array the kernel leaves is the reference's. -/
theorem out_eq (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 8 (fun _ => 0) _
      (fun t h j => by rw [outsAt0_A m c t h (by omega)]; frame_out; simp only [k0_pay2, k0_pay1, pointwise]; rfl)
      (fun t h j => by
        by_cases h7 : t.val % 8 = 7
        · rw [outsAt0_C m c t h h7]; frame_out; simp only [k0_pay2, read_unread_whole, pointwise]
        · rw [outsAt0_B m c t h h7]; frame_out; simp only [k0_pay2, read_unread_whole, pointwise]) t ((flush0_2 t).mp hf) _]
  simp only [val_main_v4_apply, val_main_v3, val_main_v2, val_main_v1, val_main_v0, pointwise]
  rw [zero_add]
  simp only [zero_add]
  refine Fin.sum_mul_add_congr fun s k hl => ?_
  have ht : t.val < 32 := t.isLt
  have hp : 8 * (t.val / 8) + s.val < cfg0.N := lt_of_lt_of_eq (by omega : 8 * (t.val / 8) + s.val < 32) N_0.symm
  blk_point [iblk, V, idx t, idx ⟨8 * (t.val / 8) + s.val, hp⟩]

/-- The array the kernel leaves is that of the reference, on every device. -/
theorem algebraic : Cert.algebraic_Kernel11Ideal_Reference11Ideal := by
  intro m g m' g' _ heq
  refine ⟨fun c => (dats m 0 c).arrAt 2 cfg0.N, Cert.Kernel11Ideal.Value.run_blocks m g,
    (θ_run Cert.Reference11Ideal.defs _ _).mono (fun r h c => ?_) (Cert.Reference11Ideal.Value.run m' g')⟩
  obtain ⟨h0, ha⟩ := h c
  obtain ⟨e0, e1⟩ := heq c
  refine ⟨h0.trans ?_, ha⟩
  rw [e0, e1]; exact (Cert.Reference11Ideal.Read.val_main_v4_eq _ _).trans (out_eq m c).symm

end Cert.DprojIn

end
-- ==== Proof.Dact1.lean ====
/- The value of the gradient of the gated activation of the first feed-forward block (`Kernel12`): the two arrays the kernel
   leaves are the reference's. -/
module

public import proofs.«01_k».proof.Defs
public import proofs.«01_k».proof.Proof.Gen.Kernel12Ideal.Value
public import proofs.«01_k».proof.Proof.Gen.Reference12Ideal.Read
public import proofs.«01_k».proof.Proof.Gen.Pre_finite12
public import Idealize.ShloMosaic.Lib.Pipeline.ValueKit
public import Idealize.ShloMosaic.Lib.Pointwise.Tactic
public import Idealize.ShloMosaic.Lib.ReduceAll
public import proofs.«01_k».proof.Proof.Scalars

@[expose] public section

set_option maxRecDepth 16384

noncomputable section

namespace Cert.Dact1

open Idealize.ShloMosaic Idealize.ShloMosaic.TcCoe Idealize.SL.Sem
open Cert.Kernel12Ideal Cert.Kernel12Ideal.Gen

variable (m : (ℓ : Loc nD τ sig) → Buf (Elt Ideal) ℓ)

/-- The block each window takes at a grid point `(hidden block, row tile)`. -/
theorem idx : ∀ t : Fin cfg0.N, win0_0.index t = ![(grid0.coords t 1).val, 0] ∧ win0_1.index t = ![(grid0.coords t 0).val, 0, 0, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0] :=
  (by decide +kernel : ∀ t : Fin grid0.N, _)

/-- The precondition read at the elements: the cotangent, the weight and the factor `u` hold real numbers. -/
theorem finite_of_pre (h : Cert.Pre_Kernel12Ideal_finite12 m) (c : Dev nD) :
    (∀ i, ∃ r : ℝ, (m ((c.tc : Thread nD τ).loc main_arg0)) i = (r : EReal))
    ∧ (∀ i, ∃ r : ℝ, (m ((c.tc : Thread nD τ).loc main_arg1)) i = (r : EReal))
    ∧ (∀ i, ∃ r : ℝ, (m ((c.tc : Thread nD τ).loc main_arg3)) i = (r : EReal)) := by
  have h' := congrFun (h c) (Shape.Idx.first Cert.Pre_finite12.Facts.h_S_)
  dsimp only [Cert.Pre_finite12.fn] at h'
  obtain ⟨h01, h3⟩ := IntOp.andi_eq_one.1 h'
  obtain ⟨h0, h1⟩ := IntOp.andi_eq_one.1 h01
  haveI : Subsingleton Cert.Pre_finite12.S_.Idx := ⟨fun a b => funext fun i => i.elim0⟩
  exact ⟨fun i => Cert.Scalars.real_of_abs_lt _ (Host.reduce_andi_all _ _ _ _ _ h0 i),
    fun i => Cert.Scalars.real_of_abs_lt _ (Host.reduce_andi_all _ _ _ _ _ h1 i),
    fun i => Cert.Scalars.real_of_abs_lt _ (Host.reduce_andi_all _ _ _ _ _ h3 i)⟩

open Cert.Reference12Ideal.Read in
/-- The array left for the gradient of `u` is the reference's. -/
theorem du_eq (c : Dev nD) : (dats m 0 c).arrAt 5 cfg0.N
    = val_main_v13 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  simp only [k0_pay5, k0_pay1, k0_pay2, k0_pay3, val_main_v13, val_main_v9, val_main_v8, val_main_v7, val_main_v6, val_main_v4, val_main_v3, val_main_v2,
    val_main_v0_0, val_main_v0_2, val_main_call0_v4, val_main_call0_v3, val_main_call0_v2, val_main_call0_v1, val_main_call0_v0,
    val_main_call0_cst, val_main_call0_cst_0, pointwise, zero_sub, Cert.Scalars.div_one_exp]
  rw [mul_comm]
  blk_point [iblk, V, idx t]

open Cert.Reference12Ideal.Read in
/-- The array left for the gradient of `g` is the reference's, when the cotangent, the weight and `u` are finite. -/
theorem dg_eq (h : Cert.Pre_Kernel12Ideal_finite12 m) (c : Dev nD) : (dats m 0 c).arrAt 4 cfg0.N
    = val_main_v12 (F := Ideal) (m ((c.tc : Thread nD τ).loc main_arg0)) (m ((c.tc : Thread nD τ).loc main_arg1)) (m ((c.tc : Thread nD τ).loc main_arg2)) (m ((c.tc : Thread nD τ).loc main_arg3)) := by
  obtain ⟨r0, r1, r3⟩ := finite_of_pre m h c
  refine (dats m 0 c).arrAt_eq_of_covers 4 _ (by decide +kernel) fun t hf y => ?_
  blk_simp
  rw [after0_4]
  frame_out
  simp only [k0_pay4, k0_pay1, k0_pay2, k0_pay3, val_main_v12, val_main_v11, val_main_call1_v2, val_main_call1_v1, val_main_call1_v0, val_main_v10,
    val_main_v8, val_main_v7, val_main_v6, val_main_v4, val_main_v3, val_main_v2, val_main_v0_0, val_main_v0_1, val_main_call0_v7, val_main_call0_v6,
    val_main_call0_cst_1, val_main_v0_2, val_main_call0_v4, val_main_call0_v3, val_main_call0_v2, val_main_call0_v1, val_main_call0_v0,
    val_main_call0_cst, val_main_call0_cst_0, pointwise, zero_sub, Cert.Scalars.div_one_exp]
  refine Eq.trans ?_ (Cert.Scalars.silu_deriv_of_real (Cert.Scalars.mul_real ?_ (r3 _)) _)
  · blk_point [iblk, V, idx t]
  · rw [zero_add]
    exact Cert.Scalars.sum_real _ fun k => Cert.Scalars.mul_real (r0 _) (r1 _)

/-- The two arrays the kernel leaves are those of the reference, on every device. -/
theorem algebraic : Cert.algebraic_Kernel12Ideal_Reference12Ideal_pre_finite12 := by
  intro m g m' g' hpre heq
  refine ⟨fun c => (dats m 0 c).arrAt 4 cfg0.N, fun c => (dats m 0 c).arrAt 5 cfg0.N, Cert.Kernel12Ideal.Value.run_blocks m g,
    (θ_run Cert.Reference12Ideal.defs _ _).mono (fun r h c => ?_) (Cert.Reference12Ideal.Value.run m' g')⟩
  obtain ⟨h0, h1, ha⟩ := h c
  obtain ⟨e0, e1, e2, e3⟩ := heq c
  refine ⟨h0.trans ?_, h1.trans ?_, ha⟩
  · rw [e0, e1, e2, e3]; exact (Cert.Reference12Ideal.Read.val_main_v12_eq _ _ _ _).trans (dg_eq m hpre c).symm
  · rw [e0, e1, e2]; exact (Cert.Reference12Ideal.Read.val_main_v13_eq _ _ _).trans (du_eq m c).symm

end Cert.Dact1

end
-- ==== Proof.Dwd1.lean ====
/- The value of the gradient of the first feed-forward block's down projection weight (`Kernel13`): the tiles of the rows are
   summed one after the other into the first layer of an array whose second layer stays as it was, and the reference sums
   all rows at once and sets the second layer beside the sum. -/
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ValueKit.Partial
public import Idealize.ShloMosaic.Lib.Pointwise.Tactic

@[expose] public section

set_option maxRecDepth 16384

noncomputable section

namespace Cert.Dwd1

open Idealize.ShloMosaic Idealize.ShloMosaic.TcCoe Idealize.SL.Sem
open Cert.Kernel13Ideal Cert.Kernel13Ideal.Gen

variable (m : (ℓ : Loc nD τ sig) → Buf (Elt Ideal) ℓ)

/-- The block each window takes at a grid point `(hidden block, row tile)`. -/
theorem idx : ∀ t : Fin cfg0.N, win0_0.index t = ![t.val / 4, t.val % 4, 0] ∧ win0_1.index t = ![t.val % 4, 0]
    ∧ win0_2.index t = ![t.val / 4, 0, 0, 0] :=
  (by decide +kernel : ∀ t : Fin grid0.N, _)

section
open Cert.Reference13Ideal Cert.Reference13Ideal.Read

variable (x0 : (⟨Cert.Reference13Ideal.S8x4352x704, .bf16⟩ : BufTy).Contents (Elt Ideal))
  (x1 : (⟨Cert.Reference13Ideal.S4352x2048, .bf16⟩ : BufTy).Contents (Elt Ideal))
  (x2 : (⟨Cert.Reference13Ideal.S8x2x704x2048, .f32⟩ : BufTy).Contents (Elt Ideal)) (i : Cert.Reference13Ideal.S8x2x704x2048.Idx)

/-- The reference's first layer: the sum over all rows. -/
theorem ref_first (h : (i 1).val = 0) :
    val_main_v8 (F := Ideal) x0 x1 x2 i = ∑ k : Fin 4352, (x0 (ix3 (i 0) k (i 2)) : EReal) * x1 (ix2 k (i 3)) := by
  simp only [val_main_v8, pointwise, if_true, Matrix.cons_val_zero]
  refine (dif_pos (show (i 1).val < 1 by omega)).trans ?_
  simp only [val_main_v6, val_main_v3, val_main_v2, val_main_v1, val_main_v0, pointwise]
  rw [zero_add]
  exact Finset.sum_congr rfl fun k _ => mul_comm _ _

/-- The reference's second layer: the array given. -/
theorem ref_second (h : (i 1).val ≠ 0) : val_main_v8 (F := Ideal) x0 x1 x2 i = x2 i := by
  simp only [val_main_v8, pointwise, if_true, Matrix.cons_val_zero]
  refine (dif_neg (show ¬(i 1).val < 1 by omega)).trans ?_
  have h0 : (i 0).val < 8 := (i 0).isLt
  have h1 : (i 1).val < 2 := (i 1).isLt
  have h2 : (i 2).val < 704 := (i 2).isLt
  have h3 : (i 3).val < 2048 := (i 3).isLt
  rw [val_main_v7_apply, val_main_v5_apply, val_main_v4_apply]
  exact congrArg x2 (funext fun a => Fin.ext (by
    match a with
    | ⟨0, _⟩ => show (((i 0).val * 704 + (i 2).val) * 2048 + (i 3).val) / 1441792 = (i 0).val; omega
    | ⟨1, _⟩ => show 1 + 0 = (i 1).val; omega
    | ⟨2, _⟩ => show (((i 0).val * 704 + (i 2).val) * 2048 + (i 3).val) / 2048 % 704 = (i 2).val; omega
    | ⟨3, _⟩ => show (((i 0).val * 704 + (i 2).val) * 2048 + (i 3).val) % 2048 = (i 3).val; omega))

end

open Cert.Reference13Ideal.Read in
/-- The array the kernel leaves is the reference's. -/
theorem out_eq (c : Dev nD) : (dats m 0 c).arrAt 2 cfg0.N
    = val_main_v8 (F := Ideal) (m ((c.tc : Thread nD τ).loc main_arg0)) (m ((c.tc : Thread nD τ).loc main_arg1)) (m ((c.tc : Thread nD τ).loc main_arg2)) := by
  refine (dats m 0 c).arrAt_eq_of_coversWhere_of_agree 2 _ (fun β => β (1 : Fin _) = 0) (by decide +kernel) (fun t hf y => ?_) (fun j hj => ?_)
  · blk_simp
    rw [after0_2, Pipeline.eq_sum_fin_of_reset_step_apply_of_flush (fun n h => outsAt0 m c n h) 4 (fun _ => 0) _
        (fun t h j => by rw [outsAt0_A m c t h]; frame_out; simp only [k0_pay2, k0_pay1, pointwise]; rfl)
        (fun t h j => by rw [outsAt0_B m c t h]; frame_out; simp only [k0_pay2, pointwise]) t ((flush0_2 t).mp hf) _]
    refine Eq.trans ?_ (ref_first _ _ _ _ (by idx_bounds y; blk_simp [idx t])).symm
    rw [zero_add]
    simp only [zero_add]
    refine Fin.sum_mul_add_congr fun s k hl => ?_
    have ht : t.val < 32 := t.isLt
    have hp : 4 * (t.val / 4) + s.val < cfg0.N := lt_of_lt_of_eq (by omega : 4 * (t.val / 4) + s.val < 32) N_0.symm
    blk_point [iblk, V, idx t, idx ⟨4 * (t.val / 4) + s.val, hp⟩]
  · blk_simp [Pipeline.Window.cell_apply] at hj
    refine Eq.trans ?_ (ref_second _ _ _ _ (show (j 1).val ≠ 0 by omega)).symm
    show V m c main_v0 j = m ((c.tc : Thread nD τ).loc main_arg2) j
    entry_read
    rfl

/-- The array the kernel leaves is that of the reference, on every device. -/
theorem algebraic : Cert.algebraic_Kernel13Ideal_Reference13Ideal := by
  intro m g m' g' _ heq
  refine ⟨fun c => (dats m 0 c).arrAt 2 cfg0.N, Cert.Kernel13Ideal.Value.run_blocks m g,
    (θ_run Cert.Reference13Ideal.defs _ _).mono (fun r h c => ?_) (Cert.Reference13Ideal.Value.run m' g')⟩
  obtain ⟨h0, ha⟩ := h c
  obtain ⟨e0, e1, e2⟩ := heq c
  refine ⟨h0.trans ?_, ha⟩
  rw [e0, e1, e2]; exact (Cert.Reference13Ideal.Read.val_main_v8_eq _ _ _).trans (out_eq m c).symm

end Cert.Dwd1

end
-- ==== Proof.Dwg1.lean ====
/- The value of the gradient of the weight of the first feed-forward block's gate (`Kernel14`): the tiles of the rows are
   summed one after the other into the first layer of an array whose second layer stays as it was, and the reference sums
   all rows at once and sets the second layer beside the sum. -/
module

public import proofs.«01_k».proof.Defs
public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ValueKit.Partial
public import Idealize.ShloMosaic.Lib.Pointwise.Tactic

@[expose] public section

set_option maxRecDepth 16384

noncomputable section

namespace Cert.Dwg1

open Idealize.ShloMosaic Idealize.ShloMosaic.TcCoe Idealize.SL.Sem
open Cert.Kernel14Ideal Cert.Kernel14Ideal.Gen

variable (m : (ℓ : Loc nD τ sig) → Buf (Elt Ideal) ℓ)

/-- The block each window takes at a grid point `(hidden block, row tile)`. -/
theorem idx : ∀ t : Fin cfg0.N, win0_0.index t = ![t.val % 4, 0] ∧ win0_1.index t = ![t.val / 4, t.val % 4, 0]
    ∧ win0_2.index t = ![t.val / 4, 0, 0, 0] :=
  (by decide +kernel : ∀ t : Fin grid0.N, _)

section
open Cert.Reference14Ideal Cert.Reference14Ideal.Read

variable (x0 : (⟨Cert.Reference14Ideal.S4352x2048, .bf16⟩ : BufTy).Contents (Elt Ideal))
  (x1 : (⟨Cert.Reference14Ideal.S8x4352x704, .bf16⟩ : BufTy).Contents (Elt Ideal))
  (x2 : (⟨Cert.Reference14Ideal.S8x2x2048x704, .f32⟩ : BufTy).Contents (Elt Ideal)) (i : Cert.Reference14Ideal.S8x2x2048x704.Idx)

/-- The reference's first layer: the sum over all rows. -/
theorem ref_first (h : (i 1).val = 0) :
    val_main_v9 (F := Ideal) x0 x1 x2 i = ∑ k : Fin 4352, (x0 (ix2 k (i 2)) : EReal) * x1 (ix3 (i 0) k (i 3)) := by
  simp only [val_main_v9, pointwise, if_true, Matrix.cons_val_zero]
  refine (dif_pos (show (i 1).val < 1 by omega)).trans ?_
  simp only [val_main_v7, val_main_v4, val_main_v3, val_main_v2, val_main_v1, val_main_v0, pointwise]
  rw [zero_add]
  exact Finset.sum_congr rfl fun k _ => mul_comm _ _

/-- The reference's second layer: the array given. -/
theorem ref_second (h : (i 1).val ≠ 0) : val_main_v9 (F := Ideal) x0 x1 x2 i = x2 i := by
  simp only [val_main_v9, pointwise, if_true, Matrix.cons_val_zero]
  refine (dif_neg (show ¬(i 1).val < 1 by omega)).trans ?_
  have h0 : (i 0).val < 8 := (i 0).isLt
  have h1 : (i 1).val < 2 := (i 1).isLt
  have h2 : (i 2).val < 2048 := (i 2).isLt
  have h3 : (i 3).val < 704 := (i 3).isLt
  rw [val_main_v8_apply, val_main_v6_apply, val_main_v5_apply]
  exact congrArg x2 (funext fun a => Fin.ext (by
    match a with
    | ⟨0, _⟩ => show (((i 0).val * 2048 + (i 2).val) * 704 + (i 3).val) / 1441792 = (i 0).val; omega
    | ⟨1, _⟩ => show 1 + 0 = (i 1).val; omega
    | ⟨2, _⟩ => show (((i 0).val * 2048 + (i 2).val) * 704 + (i 3).val) / 704 % 2048 = (i 2).val; omega
    | ⟨3, _⟩ => show (((i 0).val * 2048 + (i 2).val) * 704 + (i 3).val) % 704 = (i 3).val; omega))

end

open Cert.Reference14Ideal.Read in
/-- The array the kernel leaves is the reference's. -/
theorem out_eq (c : Dev nD) : (dats m 0 c).arrAt 2 cfg0.N
    = val_main_v9 (F := Ideal) (m ((c.tc : Thread nD τ).loc main_arg0)) (m ((c.tc : Thread nD τ).loc main_arg1)) (m ((c.tc : Thread nD τ).loc main_arg2)) := by
  refine (dats m 0 c).arrAt_eq_of_coversWhere_of_agree 2 _ (fun β => β (1 : Fin _) = 0) (by decide +kernel) (fun t hf y => ?_) (fun j hj => ?_)
  · blk_simp
    rw [after0_2, Pipeline.eq_sum_fin_of_reset_step_apply_of_flush (fun n h => outsAt0 m c n h) 4 (fun _ => 0) _
        (fun t h j => by rw [outsAt0_A m c t h]; frame_out; simp only [k0_pay2, k0_pay1, pointwise]; rfl)
        (fun t h j => by rw [outsAt0_B m c t h]; frame_out; simp only [k0_pay2, pointwise]) t ((flush0_2 t).mp hf) _]
    refine Eq.trans ?_ (ref_first _ _ _ _ (by idx_bounds y; blk_simp [idx t])).symm
    rw [zero_add]
    simp only [zero_add]
    refine Fin.sum_mul_add_congr fun s k hl => ?_
    have ht : t.val < 32 := t.isLt
    have hp : 4 * (t.val / 4) + s.val < cfg0.N := lt_of_lt_of_eq (by omega : 4 * (t.val / 4) + s.val < 32) N_0.symm
    blk_point [iblk, V, idx t, idx ⟨4 * (t.val / 4) + s.val, hp⟩]
  · blk_simp [Pipeline.Window.cell_apply] at hj
    refine Eq.trans ?_ (ref_second _ _ _ _ (show (j 1).val ≠ 0 by omega)).symm
    show V m c main_v0 j = m ((c.tc : Thread nD τ).loc main_arg2) j
    entry_read
    rfl

/-- The array the kernel leaves is that of the reference, on every device. -/
theorem algebraic : Cert.algebraic_Kernel14Ideal_Reference14Ideal := by
  intro m g m' g' _ heq
  refine ⟨fun c => (dats m 0 c).arrAt 2 cfg0.N, Cert.Kernel14Ideal.Value.run_blocks m g,
    (θ_run Cert.Reference14Ideal.defs _ _).mono (fun r h c => ?_) (Cert.Reference14Ideal.Value.run m' g')⟩
  obtain ⟨h0, ha⟩ := h c
  obtain ⟨e0, e1, e2⟩ := heq c
  refine ⟨h0.trans ?_, ha⟩
  rw [e0, e1, e2]; exact (Cert.Reference14Ideal.Read.val_main_v9_eq _ _ _).trans (out_eq m c).symm

end Cert.Dwg1

end
-- ==== Proof.Up2.lean ====
/- The value of the second feed-forward block's two projections and its activation (`Kernel15`): the three arrays the kernel
   leaves are the reference's. -/
module

public import proofs.«01_k».proof.Defs
public import proofs.«01_k».proof.Proof.Gen.Kernel15Ideal.Value
public import proofs.«01_k».proof.Proof.Gen.Reference15Ideal.Read
public import Idealize.ShloMosaic.Lib.Pipeline.ValueKit
public import Idealize.ShloMosaic.Lib.Pointwise.Tactic
public import proofs.«01_k».proof.Proof.Scalars

@[expose] public section

set_option maxRecDepth 16384

noncomputable section

namespace Cert.Up2

open Idealize.ShloMosaic Idealize.ShloMosaic.TcCoe Idealize.SL.Sem
open Cert.Kernel15Ideal Cert.Kernel15Ideal.Gen

variable (m : (ℓ : Loc nD τ sig) → Buf (Elt Ideal) ℓ)

/-- The block each window takes at a grid point `(row tile, hidden block)`. -/
theorem idx : ∀ t : Fin cfg0.N, win0_0.index t = ![(grid0.coords t 0).val, 0] ∧ win0_1.index t = ![(grid0.coords t 1).val, 0, 0, 0]
    ∧ win0_2.index t = ![(grid0.coords t 1).val, 0, 0, 0]
    ∧ win0_3.index t = ![(grid0.coords t 1).val, (grid0.coords t 0).val, 0] ∧ win0_4.index t = ![(grid0.coords t 1).val, (grid0.coords t 0).val, 0]
    ∧ win0_5.index t = ![(grid0.coords t 1).val, (grid0.coords t 0).val, 0] :=
  (by decide +kernel : ∀ t : Fin grid0.N, _)

open Cert.Reference15Ideal.Read in
/-- The reference's gate, read at a block, a row and a column. -/
theorem ref_g (x0 : (⟨Cert.Reference15Ideal.S4096x2048, .bf16⟩ : BufTy).Contents (Elt Ideal))
    (x1 : (⟨Cert.Reference15Ideal.S8x1x704x2048, .bf16⟩ : BufTy).Contents (Elt Ideal)) (i : Cert.Reference15Ideal.S8x4096x704.Idx) :
    val_main_v6 (F := Ideal) x0 x1 i = ∑ k : Fin 2048, (x0 (ix2 (i 1) k) : EReal) * x1 (ix4 (i 0) 0 (i 2) k) := by
  simp only [val_main_v6_apply, val_main_v5_apply, val_main_v2_apply, val_main_v1_apply, val_main_v0_apply, pointwise]
  refine Finset.sum_congr rfl fun k _ => (mul_comm _ _).trans ?_
  have h0 : (i 0).val < 8 := (i 0).isLt
  have h2 : (i 2).val < 704 := (i 2).isLt
  have hk : k.val < 2048 := k.isLt
  refine congrArg₂ (· * ·) (congrArg x0 (funext fun a => Fin.ext (by match a with | ⟨0, _⟩ => rfl | ⟨1, _⟩ => rfl)))
    (congrArg x1 (funext fun a => Fin.ext (by
      match a with
      | ⟨0, _⟩ => show (((i 0).val * 704 + (i 2).val) * 2048 + k.val) / 1441792 = (i 0).val; omega
      | ⟨1, _⟩ => rfl
      | ⟨2, _⟩ => show (((i 0).val * 704 + (i 2).val) * 2048 + k.val) / 2048 % 704 = (i 2).val; omega
      | ⟨3, _⟩ => show (((i 0).val * 704 + (i 2).val) * 2048 + k.val) % 2048 = k.val; omega)))

open Cert.Reference15Ideal.Read in
/-- The reference's factor is its gate with the other weight. -/
theorem ref_u (x0 : (⟨Cert.Reference15Ideal.S4096x2048, .bf16⟩ : BufTy).Contents (Elt Ideal))
    (x2 : (⟨Cert.Reference15Ideal.S8x1x704x2048, .bf16⟩ : BufTy).Contents (Elt Ideal)) :
    val_main_v8 (F := Ideal) x0 x2 = val_main_v6 (F := Ideal) x0 x2 := rfl

open Cert.Reference15Ideal.Read in
/-- The array left for the gate is the reference's. -/
theorem g_eq (c : Dev nD) : (dats m 0 c).arrAt 3 cfg0.N = val_main_v6 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  refine Eq.trans ?_ (ref_g _ _ _).symm
  simp only [k0_pay3, k0_pay1, pointwise]
  rw [zero_add]
  blk_point [iblk, V, idx t]

open Cert.Reference15Ideal.Read in
/-- The array left for the factor is the reference's. -/
theorem u_eq (c : Dev nD) : (dats m 0 c).arrAt 4 cfg0.N = val_main_v8 (F := Ideal) (m ((c.tc : Thread nD τ).loc main_arg0)) (m ((c.tc : Thread nD τ).loc main_arg2)) := by
  refine (dats m 0 c).arrAt_eq_of_covers 4 _ (by decide +kernel) fun t hf y => ?_
  blk_simp
  rw [after0_4, ref_u]
  frame_out
  refine Eq.trans ?_ (ref_g _ _ _).symm
  simp only [k0_pay4, k0_pay2, pointwise]
  rw [zero_add]
  blk_point [iblk, V, idx t]

open Cert.Reference15Ideal.Read in
/-- The array left for the activation is the reference's. -/
theorem a_eq (c : Dev nD) : (dats m 0 c).arrAt 5 cfg0.N = val_main_v11 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  simp only [k0_pay5, k0_pay1, k0_pay2, val_main_v11, val_main_v10, val_main_v9, val_main_call0_v5, val_main_call0_v4, val_main_call0_v3, val_main_call0_v2, val_main_call0_v1, val_main_call0_v0, val_main_call0_cst, val_main_call0_cst_0, ref_u, ref_g, pointwise, zero_add,
    Cert.Scalars.half_tanh, Cert.Scalars.div_one_exp]
  refine congrArg₂ (· * ·) (congrArg₂ (· * ·) ?_ (congrArg Ideal.logistic ?_)) ?_ <;> blk_point [iblk, V, idx t]

/-- The arrays the kernel leaves are those of the reference, on every device. -/
theorem algebraic : Cert.algebraic_Kernel15Ideal_Reference15Ideal := by
  intro m g m' g' _ heq
  refine ⟨fun c => (dats m 0 c).arrAt 3 cfg0.N, fun c => (dats m 0 c).arrAt 4 cfg0.N, fun c => (dats m 0 c).arrAt 5 cfg0.N, Cert.Kernel15Ideal.Value.run_blocks m g,
    (θ_run Cert.Reference15Ideal.defs _ _).mono (fun r h c => ?_) (Cert.Reference15Ideal.Value.run m' g')⟩
  obtain ⟨h0, h1, h2, ha⟩ := h c
  obtain ⟨e0, e1, e2⟩ := heq c
  refine ⟨h0.trans ?_, h1.trans ?_, h2.trans ?_, ha⟩
  · rw [e0, e1]; exact (Cert.Reference15Ideal.Read.val_main_v6_eq _ _).trans (g_eq m c).symm
  · rw [e0, e2]; exact (Cert.Reference15Ideal.Read.val_main_v8_eq _ _).trans (u_eq m c).symm
  · rw [e0, e1, e2]; exact (Cert.Reference15Ideal.Read.val_main_v11_eq _ _ _).trans (a_eq m c).symm

end Cert.Up2

end
-- ==== Proof.Up1.lean ====
/- The value of the first feed-forward block's two projections and its activation (`Kernel16`): the three arrays the kernel
   leaves are the reference's. -/
module

public import proofs.«01_k».proof.Defs
public import proofs.«01_k».proof.Proof.Gen.Kernel16Ideal.Value
public import proofs.«01_k».proof.Proof.Gen.Reference16Ideal.Read
public import Idealize.ShloMosaic.Lib.Pipeline.ValueKit
public import Idealize.ShloMosaic.Lib.Pointwise.Tactic
public import proofs.«01_k».proof.Proof.Scalars

@[expose] public section

set_option maxRecDepth 16384

noncomputable section

namespace Cert.Up1

open Idealize.ShloMosaic Idealize.ShloMosaic.TcCoe Idealize.SL.Sem
open Cert.Kernel16Ideal Cert.Kernel16Ideal.Gen

variable (m : (ℓ : Loc nD τ sig) → Buf (Elt Ideal) ℓ)

/-- The block each window takes at a grid point `(hidden block, row tile)`. -/
theorem idx : ∀ t : Fin cfg0.N, win0_0.index t = ![(grid0.coords t 1).val, 0] ∧ win0_1.index t = ![(grid0.coords t 0).val, 0, 0, 0, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] :=
  (by decide +kernel : ∀ t : Fin grid0.N, _)

open Cert.Reference16Ideal.Read in
/-- The reference's gate, read at a block, a row and a column. -/
theorem ref_g (x0 : (⟨Cert.Reference16Ideal.S4352x2048, .bf16⟩ : BufTy).Contents (Elt Ideal))
    (x1 : (⟨Cert.Reference16Ideal.S8x2x2x2048x704, .bf16⟩ : BufTy).Contents (Elt Ideal)) (i : Cert.Reference16Ideal.S8x4352x704.Idx) :
    val_main_v8 (F := Ideal) x0 x1 i = ∑ k : Fin 2048, (x0 (ix2 (i 1) k) : EReal) * x1 (ix5 (i 0) 0 0 k (i 2)) := by
  simp only [val_main_v8_apply, val_main_v7_apply, val_main_v3_apply, val_main_v2_apply, val_main_v1_apply, val_main_v0_apply, pointwise]
  refine Finset.sum_congr rfl fun k _ => (mul_comm _ _).trans ?_
  have h0 : (i 0).val < 8 := (i 0).isLt
  have h2 : (i 2).val < 704 := (i 2).isLt
  have hk : k.val < 2048 := k.isLt
  refine congrArg₂ (· * ·) (congrArg x0 (funext fun a => Fin.ext (by match a with | ⟨0, _⟩ => rfl | ⟨1, _⟩ => rfl)))
    (congrArg x1 (funext fun a => Fin.ext (by
      match a with
      | ⟨0, _⟩ => show (((i 0).val * 2048 + k.val) * 704 + (i 2).val) / 1441792 = (i 0).val; omega
      | ⟨1, _⟩ => rfl
      | ⟨2, _⟩ => rfl
      | ⟨3, _⟩ => show (((i 0).val * 2048 + k.val) * 704 + (i 2).val) / 704 % 2048 = k.val; omega
      | ⟨4, _⟩ => show (((i 0).val * 2048 + k.val) * 704 + (i 2).val) % 704 = (i 2).val; omega)))

open Cert.Reference16Ideal.Read in
/-- The reference's factor, read at a block, a row and a column. -/
theorem ref_u (x0 : (⟨Cert.Reference16Ideal.S4352x2048, .bf16⟩ : BufTy).Contents (Elt Ideal))
    (x1 : (⟨Cert.Reference16Ideal.S8x2x2x2048x704, .bf16⟩ : BufTy).Contents (Elt Ideal)) (i : Cert.Reference16Ideal.S8x4352x704.Idx) :
    val_main_v10 (F := Ideal) x0 x1 i = ∑ k : Fin 2048, (x0 (ix2 (i 1) k) : EReal) * x1 (ix5 (i 0) 0 1 k (i 2)) := by
  simp only [val_main_v10_apply, val_main_v9_apply, val_main_v6_apply, val_main_v5_apply, val_main_v4_apply, val_main_v0_apply, pointwise]
  refine Finset.sum_congr rfl fun k _ => (mul_comm _ _).trans ?_
  have h0 : (i 0).val < 8 := (i 0).isLt
  have h2 : (i 2).val < 704 := (i 2).isLt
  have hk : k.val < 2048 := k.isLt
  refine congrArg₂ (· * ·) (congrArg x0 (funext fun a => Fin.ext (by match a with | ⟨0, _⟩ => rfl | ⟨1, _⟩ => rfl)))
    (congrArg x1 (funext fun a => Fin.ext (by
      match a with
      | ⟨0, _⟩ => show (((i 0).val * 2048 + k.val) * 704 + (i 2).val) / 1441792 = (i 0).val; omega
      | ⟨1, _⟩ => rfl
      | ⟨2, _⟩ => rfl
      | ⟨3, _⟩ => show (((i 0).val * 2048 + k.val) * 704 + (i 2).val) / 704 % 2048 = k.val; omega
      | ⟨4, _⟩ => show (((i 0).val * 2048 + k.val) * 704 + (i 2).val) % 704 = (i 2).val; omega)))

open Cert.Reference16Ideal.Read in
/-- The array left for the gate is the reference's. -/
theorem g_eq (c : Dev nD) : (dats m 0 c).arrAt 2 cfg0.N = val_main_v8 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  refine Eq.trans ?_ (ref_g _ _ _).symm
  simp only [k0_pay3, k0_pay1, pointwise]
  rw [zero_add]
  blk_point [iblk, V, idx t]

open Cert.Reference16Ideal.Read in
/-- The array left for the factor is the reference's. -/
theorem u_eq (c : Dev nD) : (dats m 0 c).arrAt 3 cfg0.N = val_main_v10 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  refine Eq.trans ?_ (ref_u _ _ _).symm
  simp only [k0_pay4, k0_pay2, pointwise]
  rw [zero_add]
  blk_point [iblk, V, idx t]

open Cert.Reference16Ideal.Read in
/-- The array left for the activation is the reference's. -/
theorem a_eq (c : Dev nD) : (dats m 0 c).arrAt 4 cfg0.N = val_main_v13 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  frame_out
  simp only [k0_pay5, k0_pay1, k0_pay2, val_main_v13, val_main_v12, val_main_v11, val_main_call0_v5, val_main_call0_v4, val_main_call0_v3, val_main_call0_v2, val_main_call0_v1, val_main_call0_v0, val_main_call0_cst, val_main_call0_cst_0, ref_u, ref_g, pointwise, zero_add, zero_sub,
    Cert.Scalars.div_one_exp]
  refine congrArg₂ (· * ·) (congrArg₂ (· * ·) ?_ (congrArg Ideal.logistic ?_)) ?_ <;> blk_point [iblk, V, idx t]

/-- The arrays the kernel leaves are those of the reference, on every device. -/
theorem algebraic : Cert.algebraic_Kernel16Ideal_Reference16Ideal := by
  intro m g m' g' _ heq
  refine ⟨fun c => (dats m 0 c).arrAt 2 cfg0.N, fun c => (dats m 0 c).arrAt 3 cfg0.N, fun c => (dats m 0 c).arrAt 4 cfg0.N, Cert.Kernel16Ideal.Value.run_blocks m g,
    (θ_run Cert.Reference16Ideal.defs _ _).mono (fun r h c => ?_) (Cert.Reference16Ideal.Value.run m' g')⟩
  obtain ⟨h0, h1, h2, ha⟩ := h c
  obtain ⟨e0, e1⟩ := heq c
  refine ⟨h0.trans ?_, h1.trans ?_, h2.trans ?_, ha⟩
  · rw [e0, e1]; exact (Cert.Reference16Ideal.Read.val_main_v8_eq _ _).trans (g_eq m c).symm
  · rw [e0, e1]; exact (Cert.Reference16Ideal.Read.val_main_v10_eq _ _).trans (u_eq m c).symm
  · rw [e0, e1]; exact (Cert.Reference16Ideal.Read.val_main_v13_eq _ _).trans (a_eq m c).symm

end Cert.Up1

end
-- ==== Proof.ProjIn.lean ====
/- The value of the input projection (`Kernel17`): the array the kernel leaves is the reference's. -/
module

public import proofs.«01_k».proof.Defs
public import proofs.«01_k».proof.Proof.Gen.Kernel17Ideal.Value
public import proofs.«01_k».proof.Proof.Gen.Reference17Ideal.Read
public import Idealize.ShloMosaic.Lib.Pipeline.ValueKit
public import Idealize.ShloMosaic.Lib.Pointwise.Tactic

@[expose] public section

set_option maxRecDepth 16384

noncomputable section

namespace Cert.ProjIn

open Idealize.ShloMosaic Idealize.ShloMosaic.TcCoe Idealize.SL.Sem
open Cert.Kernel17Ideal Cert.Kernel17Ideal.Gen

variable (m : (ℓ : Loc nD τ sig) → Buf (Elt Ideal) ℓ)

/-- The block each window takes at a grid point `(column block, row tile)`. -/
theorem idx : ∀ t : Fin cfg0.N, win0_0.index t = ![(grid0.coords t 1).val, 0] ∧ win0_1.index t = ![(grid0.coords t 0).val, 0, 0]
    ∧ win0_2.index t = ![(grid0.coords t 1).val, (grid0.coords t 0).val] :=
  (by decide +kernel : ∀ t : Fin grid0.N, _)

open Cert.Reference17Ideal.Read in
/-- The array the kernel leaves is the reference's. -/
theorem out_eq (c : Dev nD) : (dats m 0 c).arrAt 2 cfg0.N = val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  simp only [k0_pay1, val_main_v4, val_main_v3, val_main_v2, val_main_v1, val_main_v0, pointwise]
  blk_point [iblk, V, idx t]

/-- The array the kernel leaves is that of the reference, on every device. -/
theorem algebraic : Cert.algebraic_Kernel17Ideal_Reference17Ideal := by
  intro m g m' g' _ heq
  refine ⟨fun c => (dats m 0 c).arrAt 2 cfg0.N, Cert.Kernel17Ideal.Value.run_blocks m g,
    (θ_run Cert.Reference17Ideal.defs _ _).mono (fun r h c => ?_) (Cert.Reference17Ideal.Value.run m' g')⟩
  obtain ⟨h0, ha⟩ := h c
  obtain ⟨e0, e1⟩ := heq c
  refine ⟨h0.trans ?_, ha⟩
  rw [e0, e1]; exact (Cert.Reference17Ideal.Read.val_main_v4_eq _ _).trans (out_eq m c).symm

end Cert.ProjIn

end
-- ==== Proof.Down1.lean ====
/- The value of the first feed-forward block's down projection and residual (`Kernel18`): the eight blocks of the hidden
   dimension are summed one after the other in a scratch, which the last of them writes out, with the residual beside it. -/
module

public import proofs.«01_k».proof.Defs
public import proofs.«01_k».proof.Proof.Gen.Kernel18Ideal.Value
public import proofs.«01_k».proof.Proof.Gen.Reference18Ideal.Read
public import Idealize.ShloMosaic.Lib.Pipeline.ValueKit
public import Idealize.ShloMosaic.Lib.Pointwise.Tactic
public import Idealize.ShloMosaic.Lib.Pipeline.ReadBack
public import Idealize.ShloMosaic.Lib.TwoAxisContraction

@[expose] public section

set_option maxRecDepth 16384

noncomputable section

namespace Cert.Down1

open Idealize.ShloMosaic Idealize.ShloMosaic.TcCoe Idealize.SL.Sem
open Cert.Kernel18Ideal Cert.Kernel18Ideal.Gen

variable (m : (ℓ : Loc nD τ sig) → Buf (Elt Ideal) ℓ)

/-- The block each window takes at a grid point `(row tile, hidden block)`. -/
theorem idx : ∀ t : Fin cfg0.N, win0_0.index t = ![t.val % 8, t.val / 8, 0] ∧ win0_1.index t = ![t.val % 8, 0, 0, 0]
    ∧ win0_2.index t = ![t.val / 8, 0] ∧ win0_3.index t = ![0, 0, 0] ∧ win0_4.index t = ![t.val / 8, 0] ∧ win0_5.index t = ![t.val / 8, 0] :=
  (by decide +kernel : ∀ t : Fin grid0.N, _)

/-- The row tile of a grid point. -/
theorem tile : ∀ t : Fin cfg0.N, (grid0.coords t 0).val = t.val / 8 :=
  (by decide +kernel : ∀ t : Fin grid0.N, _)

/-- At the last block of a row tile the output's block is what the scratch then holds. -/
theorem y_last (c : Dev nD) (t : Fin cfg0.N) (h : t.val % 8 = 7) :
    (outsAt0 m c t.val t.isLt).1 = (outsAt0 m c t.val t.isLt).2.2 := by
  rw [outsAt0_C m c t (by omega) h]
  frame_out

open Cert.Reference18Ideal.Read in
/-- The reference's output read at a row and a column: a sum over the blocks of the hidden dimension and their columns. -/
theorem ref_y (x0 : (⟨Cert.Reference18Ideal.S8x4352x704, .bf16⟩ : BufTy).Contents (Elt Ideal))
    (x1 : (⟨Cert.Reference18Ideal.S8x2x704x2048, .bf16⟩ : BufTy).Contents (Elt Ideal)) (i : Cert.Reference18Ideal.S4352x2048.Idx) :
    val_main_v4 (F := Ideal) x0 x1 i = ∑ d : Fin 8, ∑ f : Fin 704, (x0 (ix3 d (i 0) f) : EReal) * x1 (ix4 d 0 f (i 1)) := by
  unfold val_main_v4
  simp only [Host.dotGeneral]
  rw [Ideal.dotGeneral_apply, ValueIdx.sum_contr2 Cert.Reference18Ideal.dot_S8x4352x704_S8x704x2048_S4352x2048_02_01_1_2_n_n 8 704 rfl rfl rfl]
  refine Finset.sum_congr rfl fun d _ => Finset.sum_congr rfl fun f _ => ?_
  simp only [val_main_v3_apply, val_main_v2_apply, val_main_v1_apply, val_main_v0_apply, pointwise]
  have hd : d.val < 8 := d.isLt
  have hf : f.val < 704 := f.isLt
  have hi : (i 1).val < 2048 := (i 1).isLt
  refine congrArg₂ (· * ·) (congrArg x0 (funext fun a => Fin.ext (by match a with | ⟨0, _⟩ => rfl | ⟨1, _⟩ => rfl | ⟨2, _⟩ => rfl)))
    (congrArg x1 (funext fun a => Fin.ext (by
      match a with
      | ⟨0, _⟩ => show ((d.val * 704 + f.val) * 2048 + (i 1).val) / 1441792 = d.val; omega
      | ⟨1, _⟩ => rfl
      | ⟨2, _⟩ => show ((d.val * 704 + f.val) * 2048 + (i 1).val) / 2048 % 704 = f.val; omega
      | ⟨3, _⟩ => show ((d.val * 704 + f.val) * 2048 + (i 1).val) % 2048 = (i 1).val; omega)))

open Cert.Reference18Ideal.Read in
/-- What the scratch holds at the last block of a row tile: the reference's output at the tile's rows. -/
theorem acc_eq (c : Dev nD) (t : Fin cfg0.N) (h : t.val % 8 = 7) (y : S544x2048.Idx) (i : Cert.Reference18Ideal.S4352x2048.Idx)
    (h0 : (i 0).val = 544 * (t.val / 8) + (y 0).val) (h1 : (i 1).val = (y 1).val) :
    (outsAt0 m c t.val t.isLt).2.2 y = val_main_v4 (F := Ideal) (m ((c.tc : Thread nD τ).loc main_arg0)) (m ((c.tc : Thread nD τ).loc main_arg1)) i := by
  rw [Pipeline.eq_sum_fin_of_reset_step_apply_of_flush (fun n h => (outsAt0 m c n h).2.2) 8 (fun _ => 0) _
      (fun t h j => by rw [outsAt0_A m c t h (by omega)]; frame_out; simp only [k0_pay2, k0_pay1, pointwise]; rfl)
      (fun t h j => by
        by_cases h7 : t.val % 8 = 7
        · rw [outsAt0_C m c t h h7]; frame_out; simp only [k0_pay2, read_unread_whole, pointwise]
        · rw [outsAt0_B m c t h h7]; frame_out; simp only [k0_pay2, read_unread_whole, pointwise]) t h _]
  refine Eq.trans ?_ (ref_y _ _ _).symm
  rw [zero_add]
  simp only [zero_add]
  have ht : t.val < 64 := t.isLt
  refine Finset.sum_congr rfl fun s _ => Finset.sum_congr rfl fun k _ => ?_
  have hp : 8 * (t.val / 8) + s.val < cfg0.N := lt_of_lt_of_eq (by omega : 8 * (t.val / 8) + s.val < 64) N_0.symm
  blk_point [iblk, V, idx t, idx ⟨8 * (t.val / 8) + s.val, hp⟩, h0, h1]

open Cert.Reference18Ideal.Read in
/-- The array left for the block's output is the reference's. -/
theorem y_eq (c : Dev nD) : (dats m 0 c).arrAt 4 cfg0.N = val_main_v4 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4, y_last m c t ((flush0_4 t).mp hf)]
  refine acc_eq m c t ((flush0_4 t).mp hf) y _ ?_ ?_
  · blk_simp [idx t] <;> omega
  · blk_simp [idx t] <;> omega

open Cert.Reference18Ideal.Read in
/-- The reference's residual stream read at a row and a column. -/
theorem ref_x (x0 : (⟨Cert.Reference18Ideal.S8x4352x704, .bf16⟩ : BufTy).Contents (Elt Ideal))
    (x1 : (⟨Cert.Reference18Ideal.S8x2x704x2048, .bf16⟩ : BufTy).Contents (Elt Ideal))
    (x2 : (⟨Cert.Reference18Ideal.S4352x2048, .f32⟩ : BufTy).Contents (Elt Ideal))
    (x3 : (⟨Cert.Reference18Ideal.S2x9x2048, .f32⟩ : BufTy).Contents (Elt Ideal)) (i : Cert.Reference18Ideal.S4352x2048.Idx) (r : ℕ)
    (hr : (i 0).val = r) :
    val_main_v25 (F := Ideal) x0 x1 x2 x3 i = (x2 i : EReal) + Ideal.ofBits FTy.f32 1056964608#32
      * (if 4096 ≤ r then x3 (ix3 1 2 (i 1)) else x3 (ix3 0 2 (i 1)) : EReal) * val_main_v4 (F := Ideal) x0 x1 i := by
  subst hr
  have hi : (i 0).val < 4352 := (i 0).isLt
  by_cases h : 4096 ≤ (i 0).val
  · rw [if_pos h]
    refine (concatenate_pair_apply_right (t := Cert.Reference18Ideal.S4352x2048) (s₁ := Cert.Reference18Ideal.S4096x2048)
      (s₂ := Cert.Reference18Ideal.S256x2048) (0 : Fin 2) (val_main_v14 (F := Ideal) x0 x1 x2 x3) (val_main_v24 (F := Ideal) x0 x1 x2 x3) _ i rfl rfl
      (ix2 ⟨(i 0).val - 4096, by omega⟩ (i 1) : Cert.Reference18Ideal.S256x2048.Idx) (fun b hb => ?_) ?_).trans ?_
    · match b with
      | ⟨0, _⟩ => exact absurd rfl hb
      | ⟨1, _⟩ => rfl
    · show (i 0).val - 4096 + 4096 = (i 0).val
      omega
    simp only [val_main_v24, val_main_v23, val_main_v22, val_main_v21, val_main_v20, val_main_v19, val_main_v18, val_main_v17, val_main_v16,
      val_main_v15, val_main_cst_0, pointwise, Nat.reduceEqDiff, OfNat.ofNat_ne_one, ↓reduceDIte]
    refine congrArg₂ (· + ·) (congrArg x2 ?_) (congrArg₂ (· * ·) (congrArg (Ideal.ofBits FTy.f32 1056964608#32 * ·) (congrArg x3 ?_))
      (congrArg (val_main_v4 (F := Ideal) x0 x1) ?_))
    · exact funext fun a => Fin.ext (by match a with | ⟨0, _⟩ => show 4096 + ((i 0).val - 4096) = (i 0).val; omega | ⟨1, _⟩ => exact Nat.zero_add _)
    · exact funext fun a => Fin.ext (by match a with | ⟨0, _⟩ => rfl | ⟨1, _⟩ => rfl | ⟨2, _⟩ => exact Nat.zero_add _)
    · exact funext fun a => Fin.ext (by match a with | ⟨0, _⟩ => show 4096 + ((i 0).val - 4096) = (i 0).val; omega | ⟨1, _⟩ => exact Nat.zero_add _)
  · rw [if_neg h]
    refine (concatenate_pair_apply_left (t := Cert.Reference18Ideal.S4352x2048) (s₁ := Cert.Reference18Ideal.S4096x2048)
      (s₂ := Cert.Reference18Ideal.S256x2048) (0 : Fin 2) (val_main_v14 (F := Ideal) x0 x1 x2 x3) (val_main_v24 (F := Ideal) x0 x1 x2 x3) _ i rfl
      (ix2 ⟨(i 0).val, by omega⟩ (i 1) : Cert.Reference18Ideal.S4096x2048.Idx) (fun b => ?_)).trans ?_
    · match b with
      | ⟨0, _⟩ => rfl
      | ⟨1, _⟩ => rfl
    simp only [val_main_v14, val_main_v13, val_main_v12, val_main_v11, val_main_v10, val_main_v9, val_main_v8, val_main_v7, val_main_v6,
      val_main_v5, val_main_cst, pointwise, Nat.reduceEqDiff, OfNat.ofNat_ne_one, ↓reduceDIte]
    refine congrArg₂ (· + ·) (congrArg x2 ?_) (congrArg₂ (· * ·) (congrArg (Ideal.ofBits FTy.f32 1056964608#32 * ·) (congrArg x3 ?_))
      (congrArg (val_main_v4 (F := Ideal) x0 x1) ?_))
    · exact funext fun a => Fin.ext (by match a with | ⟨0, _⟩ => show 0 + (i 0).val = (i 0).val; omega | ⟨1, _⟩ => exact Nat.zero_add _)
    · exact funext fun a => Fin.ext (by match a with | ⟨0, _⟩ => rfl | ⟨1, _⟩ => rfl | ⟨2, _⟩ => exact Nat.zero_add _)
    · exact funext fun a => Fin.ext (by match a with | ⟨0, _⟩ => show 0 + (i 0).val = (i 0).val; omega | ⟨1, _⟩ => exact Nat.zero_add _)

/-- The test of a tile's row against 4096, as a comparison of numbers. -/
theorem row_test (a b : ℕ) (ha : a < 8) (hb : b < 544) :
    IntOp.cmpi .sge (IntOp.addi (Scalar.muli (BitVec.ofNat 32 a) 544#32) (BitVec.ofNat 32 b)) 4096#32
      = if 4096 ≤ a * 544 + b then 1#1 else 0#1 :=
  WordCmp.cmpi_sge_mul_add_ofNat (w := 32) a 544 b 4096 (by omega) (by omega)

/-- A choice by that test. -/
theorem row_select (a b : ℕ) (ha : a < 8) (hb : b < 544) (w : BitVec 32) (e1 e0 f1 f0 : EReal) (hw : w = BitVec.ofNat 32 b) (h1 : e1 = f1) (h0 : e0 = f0) :
    Scalar.select (IntOp.cmpi .sge (IntOp.addi (Scalar.muli (BitVec.ofNat 32 a) 544#32) w) 4096#32) e1 e0
      = if 4096 ≤ a * 544 + b then f1 else f0 := by
  subst hw h1 h0
  rw [row_test a b ha hb]
  split_ifs <;> rfl

/-- At the last block of a row tile the residual's block is the old one plus half the gate of the row times the output. -/
theorem x_last (c : Dev nD) (t : Fin cfg0.N) (h : t.val % 8 = 7) (y : S544x2048.Idx) (X A0 A1 Z : EReal) (hX : iblk m c 2 t y = X)
    (hA0 : iblk m c 3 t (ix3 0 2 (y 1)) = A0) (hA1 : iblk m c 3 t (ix3 1 2 (y 1)) = A1) (hZ : (outsAt0 m c t.val t.isLt).2.2 y = Z) :
    (outsAt0 m c t.val t.isLt).2.1 y
      = X + Ideal.ofBits FTy.f32 1056964608#32 * (if 4096 ≤ t.val / 8 * 544 + (y 0).val then A1 else A0) * Z := by
  subst hX hA0 hA1 hZ
  have ht : t.val < 64 := t.isLt
  have hy : (y 0).val < 544 := (y 0).isLt
  rw [outsAt0_C m c t (by omega) h]
  frame_out
  simp only [k0_pay3, pointwise, tile t, List.foldl_cons, List.foldl_nil, Nat.reduceEqDiff, OfNat.ofNat_ne_one, ↓reduceDIte]
  refine congrArg₂ (· + ·) rfl (congrArg₂ (· * ·) (congrArg (Ideal.ofBits FTy.f32 1056964608#32 * ·) ?_) rfl)
  refine row_select (t.val / 8) (y 0).val (by omega) hy _ _ _ _ _ (congrArg (BitVec.ofNat 32) (by show 0 * 544 + (y 0).val = (y 0).val; omega)) ?_ ?_ <;>
    exact congrArg (iblk m c 3 t) (funext fun a => Fin.ext (by
      match a with | ⟨0, _⟩ => rfl | ⟨1, _⟩ => rfl | ⟨2, _⟩ => show 0 + 1 * (y 1).val = (y 1).val; omega))

open Cert.Reference18Ideal.Read in
/-- The array left for the residual stream is the reference's. -/
theorem x_eq (c : Dev nD) : (dats m 0 c).arrAt 5 cfg0.N = val_main_v25 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have h7 := (flush0_5 t).mp hf
  blk_simp
  rw [after0_5]
  have e0 : ((win0_5.blk t).view.emb y (0 : Fin 2)).val = 544 * (t.val / 8) + (y (0 : Fin 2)).val := by blk_simp [idx t] <;> omega
  have e1 : ((win0_5.blk t).view.emb y (1 : Fin 2)).val = (y (1 : Fin 2)).val := by blk_simp [idx t] <;> omega
  refine (x_last m c t h7 y _ _ _ _ ?_ ?_ ?_ (acc_eq m c t h7 y ((win0_5.blk t).view.emb y) e0 e1)).trans (ref_x _ _ _ _ _ _ (by rw [e0, mul_comm])).symm
  · blk_point [iblk, V, idx t]
  · blk_point [iblk, V, idx t]
  · blk_point [iblk, V, idx t]

/-- The arrays the kernel leaves are those of the reference, on every device. -/
theorem algebraic : Cert.algebraic_Kernel18Ideal_Reference18Ideal := by
  intro m g m' g' _ heq
  refine ⟨fun c => (dats m 0 c).arrAt 4 cfg0.N, fun c => (dats m 0 c).arrAt 5 cfg0.N, Cert.Kernel18Ideal.Value.run_blocks m g,
    (θ_run Cert.Reference18Ideal.defs _ _).mono (fun r h c => ?_) (Cert.Reference18Ideal.Value.run m' g')⟩
  obtain ⟨h0, h1, ha⟩ := h c
  obtain ⟨e0, e1, e2, e3⟩ := heq c
  refine ⟨h0.trans ?_, h1.trans ?_, ha⟩
  · rw [e0, e1]; exact (Cert.Reference18Ideal.Read.val_main_v4_eq _ _).trans (y_eq m c).symm
  · rw [e0, e1, e2, e3]; exact (Cert.Reference18Ideal.Read.val_main_v25_eq _ _ _ _).trans (x_eq m c).symm

end Cert.Down1

end
-- ==== Proof.Down2.lean ====
/- The value of the second feed-forward block's down projection and residual (`Kernel19`): the eight blocks of the hidden
   dimension are summed one after the other in a scratch, which the last of them writes out, with the residual beside it. -/
module

public import proofs.«01_k».proof.Defs
public import proofs.«01_k».proof.Proof.Gen.Kernel19Ideal.Value
public import proofs.«01_k».proof.Proof.Gen.Reference19Ideal.Read
public import Idealize.ShloMosaic.Lib.Pipeline.ValueKit
public import Idealize.ShloMosaic.Lib.Pointwise.Tactic
public import Idealize.ShloMosaic.Lib.Pipeline.ReadBack
public import Idealize.ShloMosaic.Lib.TwoAxisContraction

@[expose] public section

set_option maxRecDepth 16384

noncomputable section

namespace Cert.Down2

open Idealize.ShloMosaic Idealize.ShloMosaic.TcCoe Idealize.SL.Sem
open Cert.Kernel19Ideal Cert.Kernel19Ideal.Gen

variable (m : (ℓ : Loc nD τ sig) → Buf (Elt Ideal) ℓ)

/-- The block each window takes at a grid point `(row tile, hidden block)`. -/
theorem idx : ∀ t : Fin cfg0.N, win0_0.index t = ![t.val % 8, t.val / 8, 0] ∧ win0_1.index t = ![t.val % 8, 1, 0, 0]
    ∧ win0_2.index t = ![t.val / 8, 0] ∧ win0_3.index t = ![0, 0, 0] ∧ win0_4.index t = ![t.val / 8, 0] ∧ win0_5.index t = ![t.val / 8, 0] :=
  (by decide +kernel : ∀ t : Fin grid0.N, _)

/-- The row tile of a grid point. -/
theorem tile : ∀ t : Fin cfg0.N, (grid0.coords t 0).val = t.val / 8 :=
  (by decide +kernel : ∀ t : Fin grid0.N, _)

/-- At the last block of a row tile the output's block is what the scratch then holds. -/
theorem y_last (c : Dev nD) (t : Fin cfg0.N) (h : t.val % 8 = 7) :
    (outsAt0 m c t.val t.isLt).1 = (outsAt0 m c t.val t.isLt).2.2 := by
  rw [outsAt0_C m c t (by omega) h]
  frame_out

open Cert.Reference19Ideal.Read in
/-- The reference's output read at a row and a column: a sum over the blocks of the hidden dimension and their columns. -/
theorem ref_y (x0 : (⟨Cert.Reference19Ideal.S8x4096x704, .bf16⟩ : BufTy).Contents (Elt Ideal))
    (x1 : (⟨Cert.Reference19Ideal.S8x2x704x2048, .bf16⟩ : BufTy).Contents (Elt Ideal)) (i : Cert.Reference19Ideal.S4096x2048.Idx) :
    val_main_v4 (F := Ideal) x0 x1 i = ∑ d : Fin 8, ∑ f : Fin 704, (x0 (ix3 d (i 0) f) : EReal) * x1 (ix4 d 1 f (i 1)) := by
  unfold val_main_v4
  simp only [Host.dotGeneral]
  rw [Ideal.dotGeneral_apply, ValueIdx.sum_contr2 Cert.Reference19Ideal.dot_S8x4096x704_S8x704x2048_S4096x2048_02_01_1_2_n_n 8 704 rfl rfl rfl]
  refine Finset.sum_congr rfl fun d _ => Finset.sum_congr rfl fun f _ => ?_
  simp only [val_main_v3_apply, val_main_v2_apply, val_main_v1_apply, val_main_v0_apply, pointwise]
  have hd : d.val < 8 := d.isLt
  have hf : f.val < 704 := f.isLt
  have hi : (i 1).val < 2048 := (i 1).isLt
  refine congrArg₂ (· * ·) (congrArg x0 (funext fun a => Fin.ext (by match a with | ⟨0, _⟩ => rfl | ⟨1, _⟩ => rfl | ⟨2, _⟩ => rfl)))
    (congrArg x1 (funext fun a => Fin.ext (by
      match a with
      | ⟨0, _⟩ => show ((d.val * 704 + f.val) * 2048 + (i 1).val) / 1441792 = d.val; omega
      | ⟨1, _⟩ => rfl
      | ⟨2, _⟩ => show ((d.val * 704 + f.val) * 2048 + (i 1).val) / 2048 % 704 = f.val; omega
      | ⟨3, _⟩ => show ((d.val * 704 + f.val) * 2048 + (i 1).val) % 2048 = (i 1).val; omega)))

open Cert.Reference19Ideal.Read in
/-- What the scratch holds at the last block of a row tile: the reference's output at the tile's rows. -/
theorem acc_eq (c : Dev nD) (t : Fin cfg0.N) (h : t.val % 8 = 7) (y : S512x2048.Idx) (i : Cert.Reference19Ideal.S4096x2048.Idx)
    (h0 : (i 0).val = 512 * (t.val / 8) + (y 0).val) (h1 : (i 1).val = (y 1).val) :
    (outsAt0 m c t.val t.isLt).2.2 y = val_main_v4 (F := Ideal) (m ((c.tc : Thread nD τ).loc main_arg0)) (m ((c.tc : Thread nD τ).loc main_arg1)) i := by
  rw [Pipeline.eq_sum_fin_of_reset_step_apply_of_flush (fun n h => (outsAt0 m c n h).2.2) 8 (fun _ => 0) _
      (fun t h j => by rw [outsAt0_A m c t h (by omega)]; frame_out; simp only [k0_pay2, k0_pay1, pointwise]; rfl)
      (fun t h j => by
        by_cases h7 : t.val % 8 = 7
        · rw [outsAt0_C m c t h h7]; frame_out; simp only [k0_pay2, read_unread_whole, pointwise]
        · rw [outsAt0_B m c t h h7]; frame_out; simp only [k0_pay2, read_unread_whole, pointwise]) t h _]
  refine Eq.trans ?_ (ref_y _ _ _).symm
  rw [zero_add]
  simp only [zero_add]
  have ht : t.val < 64 := t.isLt
  refine Finset.sum_congr rfl fun s _ => Finset.sum_congr rfl fun k _ => ?_
  have hp : 8 * (t.val / 8) + s.val < cfg0.N := lt_of_lt_of_eq (by omega : 8 * (t.val / 8) + s.val < 64) N_0.symm
  blk_point [iblk, V, idx t, idx ⟨8 * (t.val / 8) + s.val, hp⟩, h0, h1]

open Cert.Reference19Ideal.Read in
/-- The array left for the block's output is the reference's. -/
theorem y_eq (c : Dev nD) : (dats m 0 c).arrAt 4 cfg0.N = val_main_v4 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4, y_last m c t ((flush0_4 t).mp hf)]
  refine acc_eq m c t ((flush0_4 t).mp hf) y _ ?_ ?_
  · blk_simp [idx t] <;> omega
  · blk_simp [idx t] <;> omega

open Cert.Reference19Ideal.Read in
/-- The reference's residual stream read at a row and a column. -/
theorem ref_x (x0 : (⟨Cert.Reference19Ideal.S8x4096x704, .bf16⟩ : BufTy).Contents (Elt Ideal))
    (x1 : (⟨Cert.Reference19Ideal.S8x2x704x2048, .bf16⟩ : BufTy).Contents (Elt Ideal))
    (x2 : (⟨Cert.Reference19Ideal.S4096x2048, .f32⟩ : BufTy).Contents (Elt Ideal))
    (x3 : (⟨Cert.Reference19Ideal.S2x9x2048, .f32⟩ : BufTy).Contents (Elt Ideal)) (i : Cert.Reference19Ideal.S4096x2048.Idx) (r : ℕ)
    (hr : (i 0).val = r) :
    val_main_v12 (F := Ideal) x0 x1 x2 x3 i = (x2 i : EReal) + Ideal.ofBits FTy.f32 1056964608#32
      * (if 4096 ≤ r then x3 (ix3 1 8 (i 1)) else x3 (ix3 0 8 (i 1)) : EReal) * val_main_v4 (F := Ideal) x0 x1 i := by
  subst hr
  have hi : (i 0).val < 4096 := (i 0).isLt
  rw [if_neg (by omega)]
  simp only [val_main_v12, val_main_v11, val_main_v10, val_main_v9, val_main_v8, val_main_v7, val_main_v6, val_main_v5, val_main_cst, pointwise,
    Nat.reduceEqDiff, OfNat.ofNat_ne_one, ↓reduceDIte]
  refine congrArg₂ (· + ·) rfl (congrArg₂ (· * ·) (congrArg (Ideal.ofBits FTy.f32 1056964608#32 * ·) (congrArg x3 ?_)) rfl)
  exact funext fun a => Fin.ext (by match a with | ⟨0, _⟩ => rfl | ⟨1, _⟩ => rfl | ⟨2, _⟩ => exact Nat.zero_add _)

/-- The test of a tile's row against 4096, as a comparison of numbers. -/
theorem row_test (a b : ℕ) (ha : a < 8) (hb : b < 512) :
    IntOp.cmpi .sge (IntOp.addi (Scalar.muli (BitVec.ofNat 32 a) 512#32) (BitVec.ofNat 32 b)) 4096#32
      = if 4096 ≤ a * 512 + b then 1#1 else 0#1 :=
  WordCmp.cmpi_sge_mul_add_ofNat (w := 32) a 512 b 4096 (by omega) (by omega)

/-- A choice by that test. -/
theorem row_select (a b : ℕ) (ha : a < 8) (hb : b < 512) (w : BitVec 32) (e1 e0 f1 f0 : EReal) (hw : w = BitVec.ofNat 32 b) (h1 : e1 = f1) (h0 : e0 = f0) :
    Scalar.select (IntOp.cmpi .sge (IntOp.addi (Scalar.muli (BitVec.ofNat 32 a) 512#32) w) 4096#32) e1 e0
      = if 4096 ≤ a * 512 + b then f1 else f0 := by
  subst hw h1 h0
  rw [row_test a b ha hb]
  split_ifs <;> rfl

/-- At the last block of a row tile the residual's block is the old one plus half the gate of the row times the output. -/
theorem x_last (c : Dev nD) (t : Fin cfg0.N) (h : t.val % 8 = 7) (y : S512x2048.Idx) (X A0 A1 Z : EReal) (hX : iblk m c 2 t y = X)
    (hA0 : iblk m c 3 t (ix3 0 8 (y 1)) = A0) (hA1 : iblk m c 3 t (ix3 1 8 (y 1)) = A1) (hZ : (outsAt0 m c t.val t.isLt).2.2 y = Z) :
    (outsAt0 m c t.val t.isLt).2.1 y
      = X + Ideal.ofBits FTy.f32 1056964608#32 * (if 4096 ≤ t.val / 8 * 512 + (y 0).val then A1 else A0) * Z := by
  subst hX hA0 hA1 hZ
  have ht : t.val < 64 := t.isLt
  have hy : (y 0).val < 512 := (y 0).isLt
  rw [outsAt0_C m c t (by omega) h]
  frame_out
  simp only [k0_pay3, pointwise, tile t, List.foldl_cons, List.foldl_nil, Nat.reduceEqDiff, OfNat.ofNat_ne_one, ↓reduceDIte]
  refine congrArg₂ (· + ·) rfl (congrArg₂ (· * ·) (congrArg (Ideal.ofBits FTy.f32 1056964608#32 * ·) ?_) rfl)
  refine row_select (t.val / 8) (y 0).val (by omega) hy _ _ _ _ _ (congrArg (BitVec.ofNat 32) (by show 0 * 512 + (y 0).val = (y 0).val; omega)) ?_ ?_ <;>
    exact congrArg (iblk m c 3 t) (funext fun a => Fin.ext (by
      match a with | ⟨0, _⟩ => rfl | ⟨1, _⟩ => rfl | ⟨2, _⟩ => show 0 + 1 * (y 1).val = (y 1).val; omega))

open Cert.Reference19Ideal.Read in
/-- The array left for the residual stream is the reference's. -/
theorem x_eq (c : Dev nD) : (dats m 0 c).arrAt 5 cfg0.N = val_main_v12 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have h7 := (flush0_5 t).mp hf
  blk_simp
  rw [after0_5]
  have e0 : ((win0_5.blk t).view.emb y (0 : Fin 2)).val = 512 * (t.val / 8) + (y (0 : Fin 2)).val := by blk_simp [idx t] <;> omega
  have e1 : ((win0_5.blk t).view.emb y (1 : Fin 2)).val = (y (1 : Fin 2)).val := by blk_simp [idx t] <;> omega
  refine (x_last m c t h7 y _ _ _ _ ?_ ?_ ?_ (acc_eq m c t h7 y ((win0_5.blk t).view.emb y) e0 e1)).trans (ref_x _ _ _ _ _ _ (by rw [e0, mul_comm])).symm
  · blk_point [iblk, V, idx t]
  · blk_point [iblk, V, idx t]
  · blk_point [iblk, V, idx t]

/-- The arrays the kernel leaves are those of the reference, on every device. -/
theorem algebraic : Cert.algebraic_Kernel19Ideal_Reference19Ideal := by
  intro m g m' g' _ heq
  refine ⟨fun c => (dats m 0 c).arrAt 4 cfg0.N, fun c => (dats m 0 c).arrAt 5 cfg0.N, Cert.Kernel19Ideal.Value.run_blocks m g,
    (θ_run Cert.Reference19Ideal.defs _ _).mono (fun r h c => ?_) (Cert.Reference19Ideal.Value.run m' g')⟩
  obtain ⟨h0, h1, ha⟩ := h c
  obtain ⟨e0, e1, e2, e3⟩ := heq c
  refine ⟨h0.trans ?_, h1.trans ?_, ha⟩
  · rw [e0, e1]; exact (Cert.Reference19Ideal.Read.val_main_v4_eq _ _).trans (y_eq m c).symm
  · rw [e0, e1, e2, e3]; exact (Cert.Reference19Ideal.Read.val_main_v12_eq _ _ _ _).trans (x_eq m c).symm

end Cert.Down2

end
-- ==== Proof.ProjOut.lean ====
/- The value of the output projection, the residual stream after it and its modulated norm (`Kernel20`): the three arrays the
   kernel leaves are the reference's. -/
module

public import proofs.«01_k».proof.Defs
public import proofs.«01_k».proof.Proof.Gen.Kernel20Ideal.Value
public import proofs.«01_k».proof.Proof.Gen.Reference20Ideal.Read
public import Idealize.ShloMosaic.Lib.Pipeline.ValueKit
public import Idealize.ShloMosaic.Lib.Pointwise.Tactic

@[expose] public section

set_option maxRecDepth 16384

noncomputable section

namespace Cert.ProjOut

open Idealize.ShloMosaic Idealize.ShloMosaic.TcCoe Idealize.SL.Sem
open Cert.Kernel20Ideal Cert.Kernel20Ideal.Gen

variable (m : (ℓ : Loc nD τ sig) → Buf (Elt Ideal) ℓ)

/-- The block each window takes at a grid point. -/
theorem idx : ∀ t : Fin cfg0.N, win0_0.index t = ![t.val, 0] ∧ win0_1.index t = ![0, 0] ∧ win0_2.index t = ![t.val, 0] ∧ win0_3.index t = ![0, 0, 0]
    ∧ win0_4.index t = ![0, 0] ∧ win0_5.index t = ![t.val, 0] ∧ win0_6.index t = ![t.val, 0] ∧ win0_7.index t = ![t.val, 0] :=
  (by decide +kernel : ∀ t : Fin grid0.N, _)

open Cert.Reference20Ideal.Read in
/-- The array left for the projection is the reference's. -/
theorem z_eq (c : Dev nD) : (dats m 0 c).arrAt 5 cfg0.N = val_main_v3 (F := Ideal) (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  simp only [k0_pay2, val_main_v3, val_main_v2, val_main_v1, val_main_v0, pointwise]
  blk_point [iblk, V, idx t]

open Cert.Reference20Ideal.Read in
/-- The array left for the residual stream is the reference's. -/
theorem x_eq (c : Dev nD) : (dats m 0 c).arrAt 6 cfg0.N = val_main_v10 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  frame_out
  simp only [k0_pay2, k0_pay3, val_main_v10, val_main_v9, val_main_v8, val_main_v7, val_main_v6, val_main_v5, val_main_v4, val_main_v3, val_main_v2, val_main_v1,
    val_main_v0, pointwise]
  simp only [Nat.reduceEqDiff, OfNat.ofNat_ne_one, ↓reduceDIte]
  blk_point [iblk, V, idx t] <;> rfl

open Cert.Reference20Ideal.Read in
/-- The array left for the modulated norm is the reference's. -/
theorem h_eq (c : Dev nD) : (dats m 0 c).arrAt 7 cfg0.N = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  frame_out
  simp only [k0_pay1, k0_pay2, k0_pay3, k0_pay4, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2, pointwise]
  simp only [zero_add, Nat.reduceEqDiff, OfNat.ofNat_ne_one, ↓reduceDIte]
  blk_point [iblk, V, idx t] <;> rfl

/-- The arrays the kernel leaves are those of the reference, on every device. -/
theorem algebraic : Cert.algebraic_Kernel20Ideal_Reference20Ideal := by
  intro m g m' g' _ heq
  refine ⟨fun c => (dats m 0 c).arrAt 5 cfg0.N, fun c => (dats m 0 c).arrAt 6 cfg0.N, fun c => (dats m 0 c).arrAt 7 cfg0.N, Cert.Kernel20Ideal.Value.run_blocks m g,
    (θ_run Cert.Reference20Ideal.defs _ _).mono (fun r h c => ?_) (Cert.Reference20Ideal.Value.run m' g')⟩
  obtain ⟨h0, h1, h2, ha⟩ := h c
  obtain ⟨e0, e1, e2, e3, e4⟩ := heq c
  refine ⟨h0.trans ?_, h1.trans ?_, h2.trans ?_, ha⟩
  · rw [e0, e1]; exact (Cert.Reference20Ideal.Read.val_main_v3_eq _ _).trans (z_eq m c).symm
  · rw [e0, e1, e2, e3]; exact (Cert.Reference20Ideal.Read.val_main_v10_eq _ _ _ _).trans (x_eq m c).symm
  · rw [e0, e1, e2, e3, e4]; exact (Cert.Reference20Ideal.Read.val_main_v35_eq _ _ _ _ _).trans (h_eq m c).symm

end Cert.ProjOut

end
-- ==== Proof.NormMath.lean ====
/- The gradient of a row's norm over the extended reals: the factored form a kernel computes and the sum of products that the
   derivative of `x * rsqrt(mean(x * x) + eps)` gives. No entry need be finite. -/
module

public import Idealize.ShloMosaic.PureOps.Ideal
public import proofs.«01_k».proof.Proof.Scalars

@[expose] public section

noncomputable section

namespace Cert.NormMath

open Idealize.ShloMosaic

/-- The f32 pattern of 2048. -/
theorem width_f32 : Ideal.ofBits .f32 0x45000000#32 = ((2048 : ℝ) : EReal) := by
  simp [Ideal.ofBits, Ideal.ieee]
  rw [← EReal.coe_mul]
  norm_num

/-- The f32 pattern of minus one half. -/
theorem neg_half_f32 : Ideal.ofBits .f32 0xBF000000#32 = ((-(1 / 2) : ℝ) : EReal) := by
  simp [Ideal.ofBits, Ideal.ieee]
  norm_num
  rw [← EReal.coe_mul]
  norm_num

/-- The small constant under the root is a positive real. -/
theorem eps_pos : ∃ e : ℝ, 0 < e ∧ Ideal.ofBits .f32 0x358637BD#32 = (e : EReal) := by
  simp [Ideal.ofBits, Ideal.ieee]
  exact ⟨_, by positivity, (EReal.coe_mul _ _).symm⟩

/-- A square is not negative. -/
theorem mul_self_nonneg' (x : EReal) : 0 ≤ x * x := by
  induction x using EReal.rec with
  | bot => simp
  | top => simp
  | coe r => rw [← EReal.coe_mul]; exact_mod_cast mul_self_nonneg r

/-- What stands under the root is a positive real or infinite. -/
theorem under_root {n : ℕ} (x : Fin n → EReal) :
    Ideal.div (∑ k, x k * x k) (Ideal.ofBits .f32 0x45000000#32) + Ideal.ofBits .f32 0x358637BD#32 = ⊤
      ∨ ∃ v : ℝ, 0 < v ∧ Ideal.div (∑ k, x k * x k) (Ideal.ofBits .f32 0x45000000#32) + Ideal.ofBits .f32 0x358637BD#32 = (v : EReal) := by
  obtain ⟨e, he, hE⟩ := eps_pos
  rw [hE, width_f32, Ideal.div_coe (by norm_num)]
  have h : 0 ≤ ∑ k, x k * x k := Finset.sum_nonneg fun k _ => mul_self_nonneg' (x k)
  generalize ∑ k, x k * x k = s at h ⊢
  induction s using EReal.rec with
  | bot => simp at h
  | top => left; rw [EReal.top_mul_coe_of_pos (by norm_num)]; simp
  | coe r =>
    right
    have hr : 0 ≤ r := by exact_mod_cast h
    exact ⟨r * (1 / 2048) + e, by positivity, by push_cast; rfl⟩

/-- A factor that is a real and not negative comes out of a sum. -/
theorem sum_mul_coe {n : ℕ} (f : Fin n → EReal) {r : ℝ} (hr : 0 ≤ r) : ∑ k, f k * (r : EReal) = (∑ k, f k) * (r : EReal) := by
  have h : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih, EReal.right_distrib_of_nonneg_of_ne_top (by exact_mod_cast hr) (EReal.coe_ne_top r)]
  exact h _

/-- Two halves of a product by a negative real. -/
theorem two_halves (y : EReal) {a : ℝ} (ha : 0 < a) : y * ((-(1 / 2) * a : ℝ) : EReal) + y * ((-(1 / 2) * a : ℝ) : EReal) = -(y * (a : EReal)) := by
  have h : -(1 / 2) * a < 0 := by linarith
  induction y using EReal.rec with
  | bot => rw [EReal.bot_mul_coe_of_neg h, EReal.bot_mul_coe_of_pos ha]; simp
  | top => rw [EReal.top_mul_coe_of_neg h, EReal.top_mul_coe_of_pos ha]; simp
  | coe y =>
    rw [← EReal.coe_mul, ← EReal.coe_mul, ← EReal.coe_add, ← EReal.coe_neg]
    congr 1; ring

/-- The gradient of the row's norm: factored, as the kernel computes it, and as the derivative of the product. -/
theorem norm_grad {n : ℕ} (x g : Fin n → EReal) (xj gj v : EReal)
    (hv : v = Ideal.div (∑ k, x k * x k) (Ideal.ofBits .f32 0x45000000#32) + Ideal.ofBits .f32 0x358637BD#32) :
    Ideal.rsqrt v * (gj - xj * Ideal.rsqrt v * Ideal.div (∑ k, g k * (x k * Ideal.rsqrt v)) (Ideal.ofBits .f32 0x45000000#32))
      = gj * Ideal.rsqrt v
        + xj * Ideal.div ((∑ k, x k * g k) * (Ideal.ofBits .f32 0xBF000000#32 * Ideal.div (Ideal.rsqrt v) v)) (Ideal.ofBits .f32 0x45000000#32)
        + Ideal.div ((∑ k, x k * g k) * (Ideal.ofBits .f32 0xBF000000#32 * Ideal.div (Ideal.rsqrt v) v)) (Ideal.ofBits .f32 0x45000000#32) * xj := by
  rw [neg_half_f32, width_f32, Ideal.div_coe (by norm_num), Ideal.div_coe (by norm_num)]
  rcases hv ▸ under_root x with h | ⟨w, hw, h⟩
  · rw [h]
    simp [Ideal.div]
  · rw [h]
    have hs : 0 < Real.sqrt w := Real.sqrt_pos.mpr hw
    rw [Ideal.rsqrt_coe, if_neg (by linarith), if_neg (by linarith), Ideal.div_coe hw.ne', ← EReal.coe_mul, ← EReal.coe_mul]
    have hc : (Real.sqrt w)⁻¹ * (1 / w) = (Real.sqrt w)⁻¹ * (Real.sqrt w)⁻¹ * (Real.sqrt w)⁻¹ := by
      rw [one_div, mul_assoc, ← mul_inv (Real.sqrt w) (Real.sqrt w), Real.mul_self_sqrt hw.le]
    rw [hc]
    have hr : 0 < (Real.sqrt w)⁻¹ := inv_pos.mpr hs
    generalize (Real.sqrt w)⁻¹ = r at hr
    have hS : ∑ k, g k * (x k * (r : EReal)) = (∑ k, x k * g k) * (r : EReal) := by
      rw [← sum_mul_coe _ hr.le]
      exact Finset.sum_congr rfl fun k _ => by rw [← mul_assoc, mul_comm (g k)]
    rw [hS]
    generalize ∑ k, x k * g k = S
    rw [sub_eq_add_neg, EReal.left_distrib_of_nonneg_of_ne_top (by exact_mod_cast hr.le) (EReal.coe_ne_top r), add_assoc]
    refine congrArg₂ (· + ·) (mul_comm _ _) ?_
    have e : ∀ a : ℝ, xj * (S * (a : EReal) * ((1 / 2048 : ℝ) : EReal)) = xj * S * ((a * (1 / 2048) : ℝ) : EReal) := by
      intro a; rw [EReal.coe_mul, mul_assoc, mul_assoc]
    rw [mul_comm _ xj, e, show -(1 / 2) * (r * r * r) * (1 / 2048) = -(1 / 2) * (r * r * r * (1 / 2048)) from by ring, two_halves _ (by positivity),
      mul_neg]
    refine congrArg Neg.neg ?_
    rw [EReal.coe_mul, EReal.coe_mul, EReal.coe_mul]
    ac_rfl

end Cert.NormMath

end
-- ==== Proof.Dnorm2.lean ====
/- # The gradient of the feed-forward half's norm and gate

Of every row the kernel takes the gradient through the norm's modulation and the root mean square, adds the residual's, and
scales it by the gate; the shift's, the scale's, the weight's and the gate's gradients are sums over all rows. In the
reference they are derivatives of the forward lines. -/
module

public import proofs.«01_k».proof.Defs
public import proofs.«01_k».proof.Proof.Gen.Kernel21Ideal.Value
public import proofs.«01_k».proof.Proof.Gen.Reference21Ideal.Read
public import Idealize.ShloMosaic.Lib.Pipeline.ValueKit
public import Idealize.ShloMosaic.Lib.Pointwise.Tactic
public import proofs.«01_k».proof.Proof.NormMath

@[expose] public section

set_option maxRecDepth 16384

noncomputable section

namespace Cert.Dnorm2

open Idealize.ShloMosaic Idealize.ShloMosaic.TcCoe Idealize.SL.Sem
open Cert.Kernel21Ideal Cert.Kernel21Ideal.Gen

variable (m : (ℓ : Loc nD τ sig) → Buf (Elt Ideal) ℓ)

/-- The block each window takes at a grid point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0, 0] ∧ win0_5.index t = ![t.val, 0] ∧ win0_6.index t = ![t.val, 0] ∧ win0_7.index t = ![0, 0, 0]
    ∧ win0_8.index t = ![0, 0, 0] ∧ win0_9.index t = ![0, 0] ∧ win0_10.index t = ![t.val, 0] ∧ win0_11.index t = ![0, 0, 0] :=
  (by decide +kernel : ∀ t : Fin grid0.N, _)

/-- Every grid point is a tile of latent rows. -/
theorem latent : ∀ t : Fin cfg0.N, Scalar.cmpi .slt (BitVec.ofNat 32 (grid0.coords t 0).val) 16#32 = 1#1 :=
  (by decide +kernel : ∀ t : Fin grid0.N, _)

section

open Cert.Reference21Ideal.Read

/-- The root of a row's mean square in the reference. -/
def root (x0 : (⟨Cert.Reference21Ideal.S4096x2048, .f32⟩ : BufTy).Contents (Elt Ideal)) (r : Fin 4096) : EReal :=
  Ideal.div (∑ k : Fin 2048, (x0 (ix2 r k) : EReal) * x0 (ix2 r k)) (Ideal.ofBits .f32 0x45000000#32) + Ideal.ofBits .f32 0x358637BD#32

/-- The reference's gradient of the rows, in factored form. -/
theorem ref_dx (x0 : (⟨Cert.Reference21Ideal.S4096x2048, .f32⟩ : BufTy).Contents (Elt Ideal))
    (x1 : (⟨Cert.Reference21Ideal.S4096x2048, .f32⟩ : BufTy).Contents (Elt Ideal))
    (x2 : (⟨Cert.Reference21Ideal.S4096x2048, .f32⟩ : BufTy).Contents (Elt Ideal))
    (x3 : (⟨Cert.Reference21Ideal.S1x2048, .f32⟩ : BufTy).Contents (Elt Ideal))
    (x4 : (⟨Cert.Reference21Ideal.S2x9x2048, .f32⟩ : BufTy).Contents (Elt Ideal)) (i : Cert.Reference21Ideal.S4096x2048.Idx) :
    val_main_v56 (F := Ideal) x0 x1 x2 x3 x4 i
      = Ideal.rsqrt (root x0 (i 0)) * ((x1 (ix2 (i 0) (i 1)) : EReal) * (1 + x4 (ix3 0 7 (i 1))) * x3 (ix2 0 (i 1))
          - x0 (ix2 (i 0) (i 1)) * Ideal.rsqrt (root x0 (i 0))
            * Ideal.div (∑ k : Fin 2048, (x1 (ix2 (i 0) k) : EReal) * (1 + x4 (ix3 0 7 k)) * x3 (ix2 0 k) * (x0 (ix2 (i 0) k) * Ideal.rsqrt (root x0 (i 0))))
                (Ideal.ofBits .f32 0x45000000#32)) + x2 (ix2 (i 0) (i 1)) := by
  rw [Cert.NormMath.norm_grad (fun k : Fin 2048 => (x0 (ix2 (i 0) k) : EReal))
    (fun k : Fin 2048 => (x1 (ix2 (i 0) k) : EReal) * (1 + x4 (ix3 0 7 k)) * x3 (ix2 0 k)) _ _ (root x0 (i 0)) rfl]
  unfold root
  simp only [val_main_v56, val_main_v55, val_main_v54, val_main_v53, val_main_v52, val_main_v51, val_main_v50, val_main_v49, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v18, val_main_v17, val_main_v16, val_main_v15, val_main_v14, val_main_v12, val_main_v11, val_main_v10, val_main_v8, val_main_v6, val_main_v5, val_main_v4, val_main_v3, val_main_v2, val_main_v1, val_main_v0, val_main_v19, val_main_v13, val_main_v9, val_main_v7, val_main_v48, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, pointwise, zero_add, Nat.reduceEqDiff, OfNat.ofNat_ne_one, ↓reduceDIte, Finset.univ_unique, Finset.sum_singleton, Matrix.cons_val, Fin.eta]

end

/-- On a tile of latent rows the residual's gradient is taken as it is. -/
theorem pay16_self (t : Fin cfg0.N) (v : Vec Ideal S256x2048 .f32) :
    k0_pay16 (F := Ideal) (BitVec.ofNat 32 (grid0.coords t 0).val) v = v := by
  unfold k0_pay16
  simp only [latent t]
  rfl

/-- The gradient of the rows of a tile. -/
def dxb (c : Dev nD) (t : Fin cfg0.N) : Vec Ideal S256x2048 .f32 :=
  k0_pay1 (F := Ideal) (k0_pay4 (iblk m c 0 t)) (k0_pay5 (iblk m c 0 t))
    (k0_pay15 (iblk m c 3 t) (k0_pay7 (iblk m c 1 t) (View.ld (iblk m c 4 t) (Rect.unit ![0, 7, 0] ![1, 1, 2048] inb_S1x9x2048_S1x1x2048_0_7_0))))
    (k0_pay16 (BitVec.ofNat 32 (grid0.coords t 0).val) (iblk m c 2 t))
    (k0_pay17 (iblk m c 3 t) (k0_pay5 (iblk m c 0 t)) (k0_pay7 (iblk m c 1 t) (View.ld (iblk m c 4 t) (Rect.unit ![0, 7, 0] ![1, 1, 2048] inb_S1x9x2048_S1x1x2048_0_7_0))))

/-- The gradient of the rows of a tile, at a point, is the reference's. -/
theorem dx_at (c : Dev nD) (t : Fin cfg0.N) (y : S256x2048.Idx) (i : Cert.Reference21Ideal.S4096x2048.Idx)
    (h0 : (i 0).val = 256 * t.val + (y 0).val) (h1 : (i 1).val = (y 1).val) :
    dxb m c t y = Cert.Reference21Ideal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i := by
  rw [ref_dx]
  unfold dxb
  simp only [pay16_self, k0_pay1, k0_pay4, k0_pay5, k0_pay7, k0_pay15, k0_pay17, pointwise]
  unfold root
  simp only [zero_add, Nat.reduceEqDiff, OfNat.ofNat_ne_one, ↓reduceDIte]
  blk_point [iblk, V, idx t]

/-- The gradient of the rows is the reference's. -/
theorem dx_eq (c : Dev nD) : (dats m 0 c).arrAt 6 cfg0.N
    = Cert.Reference21Ideal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  rw [after0_6]
  refine Eq.trans ?_ (dx_at m c t y _ ?_ ?_)
  · by_cases h : t.val % 16 = 0
    · rw [outsAt0_A m c t h h]
      frame_out
      rfl
    · rw [outsAt0_B m c t h h]
      frame_out
      rfl
  · blk_simp [idx t] <;> omega
  · blk_simp [idx t] <;> omega

/-- The gradient of the branch is the reference's. -/
theorem dz_eq (c : Dev nD) : (dats m 0 c).arrAt 10 cfg0.N
    = Cert.Reference21Ideal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 10 _ (by decide +kernel) fun t hf y => ?_
  blk_simp
  rw [after0_10]
  simp only [Cert.Reference21Ideal.Read.val_main_v70, Cert.Reference21Ideal.Read.val_main_v63, Cert.Reference21Ideal.Read.val_main_v62, Cert.Reference21Ideal.Read.val_main_v59, Cert.Reference21Ideal.Read.val_main_v58, Cert.Reference21Ideal.Read.val_main_v57, Cert.Reference21Ideal.Read.val_main_v60, pointwise]
  rw [← dx_at m c t y _ (by blk_simp [idx t] <;> omega) (by blk_simp [idx t] <;> omega)]
  unfold dxb
  by_cases h : t.val % 16 = 0
  · rw [outsAt0_A m c t h h]
    frame_out
    simp only [k0_pay2, pointwise, one_mul, Nat.reduceEqDiff, OfNat.ofNat_ne_one, ↓reduceDIte]
    refine congr (congrArg HMul.hMul ?_) rfl
    simp only [Matrix.cons_val]
    blk_point [iblk, V, idx t]
  · rw [outsAt0_B m c t h h]
    frame_out
    simp only [k0_pay2, pointwise, one_mul, Nat.reduceEqDiff, OfNat.ofNat_ne_one, ↓reduceDIte]
    refine congr (congrArg HMul.hMul ?_) rfl
    simp only [Matrix.cons_val]
    blk_point [iblk, V, idx t]

/-- The shift's gradient is the reference's. -/
theorem dshift_eq (c : Dev nD) : (dats m 0 c).arrAt 7 cfg0.N
    = Cert.Reference21Ideal.Read.val_main_v68 (F := Ideal) (m ((c.tc : Thread nD τ).loc main_arg1)) := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0) _
      (fun t h j => by rw [outsAt0_A m c t h h]; frame_out; simp only [k0_pay12, k0_pay8, pointwise]; rfl)
      (fun t h j => by rw [outsAt0_B m c t h h]; frame_out; simp only [k0_pay12, pointwise]) t ((flush0_7 t).mp hf) _]
  simp only [Cert.Reference21Ideal.Read.val_main_v68, Cert.Reference21Ideal.Read.val_main_v30, Cert.Reference21Ideal.Read.val_main_v29, Cert.Reference21Ideal.Read.val_main_v28, Cert.Reference21Ideal.Read.val_main_v27, Cert.Reference21Ideal.Read.val_main_cst_4, Cert.Reference21Ideal.Read.val_main_cst_5, pointwise]
  simp only [zero_add, Finset.univ_unique, Finset.sum_singleton, Nat.reduceEqDiff, OfNat.ofNat_ne_one, ↓reduceDIte, Matrix.cons_val]
  refine Fin.sum_mul_add_congr fun s k hl => ?_
  have ht : t.val < 16 := t.isLt
  have hp : 16 * (t.val / 16) + s.val < cfg0.N := lt_of_lt_of_eq (by omega : 16 * (t.val / 16) + s.val < 16) N_0.symm
  blk_point [iblk, V, idx t, idx ⟨16 * (t.val / 16) + s.val, hp⟩]

/-- The scale's gradient is the reference's. -/
theorem dscale_eq (c : Dev nD) : (dats m 0 c).arrAt 8 cfg0.N
    = Cert.Reference21Ideal.Read.val_main_v69 (F := Ideal) (m ((c.tc : Thread nD τ).loc main_arg0)) (m ((c.tc : Thread nD τ).loc main_arg1)) (m ((c.tc : Thread nD τ).loc main_arg3)) := by
  refine (dats m 0 c).arrAt_eq_of_covers 8 _ (by decide +kernel) fun t hf y => ?_
  blk_simp
  rw [after0_8, Pipeline.eq_sum_fin_of_reset_step_apply_of_flush (fun n h => (outsAt0 m c n h).2.2.1) 16 (fun _ => 0) _
      (fun t h j => by rw [outsAt0_A m c t h h]; frame_out; simp only [k0_pay13, k0_pay6, k0_pay5, k0_pay4, k0_pay9, pointwise]; rfl)
      (fun t h j => by rw [outsAt0_B m c t h h]; frame_out; simp only [k0_pay13, k0_pay6, k0_pay5, k0_pay4, pointwise]) t ((flush0_8 t).mp hf) _]
  simp only [Cert.Reference21Ideal.Read.val_main_v69, Cert.Reference21Ideal.Read.val_main_v36, Cert.Reference21Ideal.Read.val_main_v33, Cert.Reference21Ideal.Read.val_main_v32, Cert.Reference21Ideal.Read.val_main_v31, Cert.Reference21Ideal.Read.val_main_v27, Cert.Reference21Ideal.Read.val_main_v18, Cert.Reference21Ideal.Read.val_main_v17, Cert.Reference21Ideal.Read.val_main_v16, Cert.Reference21Ideal.Read.val_main_v15, Cert.Reference21Ideal.Read.val_main_v11, Cert.Reference21Ideal.Read.val_main_v10, Cert.Reference21Ideal.Read.val_main_v8, Cert.Reference21Ideal.Read.val_main_v6, Cert.Reference21Ideal.Read.val_main_v5, Cert.Reference21Ideal.Read.val_main_v4, Cert.Reference21Ideal.Read.val_main_v9, Cert.Reference21Ideal.Read.val_main_v7, Cert.Reference21Ideal.Read.val_main_cst, Cert.Reference21Ideal.Read.val_main_cst_0, Cert.Reference21Ideal.Read.val_main_cst_1, Cert.Reference21Ideal.Read.val_main_cst_2, Cert.Reference21Ideal.Read.val_main_cst_3, Cert.Reference21Ideal.Read.val_main_cst_4, Cert.Reference21Ideal.Read.val_main_cst_5, Cert.Reference21Ideal.Read.val_main_cst_6, Cert.Reference21Ideal.Read.val_main_cst_7, Cert.Reference21Ideal.Read.val_main_cst_8, Cert.Reference21Ideal.Read.val_main_cst_9, Cert.Reference21Ideal.Read.val_main_cst_10, Cert.Reference21Ideal.Read.val_main_cst_11, Cert.Reference21Ideal.Read.val_main_cst_12, Cert.Reference21Ideal.Read.val_main_cst_13, pointwise]
  simp only [zero_add, Finset.univ_unique, Finset.sum_singleton, Nat.reduceEqDiff, OfNat.ofNat_ne_one, ↓reduceDIte, Matrix.cons_val]
  refine Fin.sum_mul_add_congr fun s k hl => ?_
  have ht : t.val < 16 := t.isLt
  have hp : 16 * (t.val / 16) + s.val < cfg0.N := lt_of_lt_of_eq (by omega : 16 * (t.val / 16) + s.val < 16) N_0.symm
  rw [mul_comm]
  blk_point [iblk, V, idx t, idx ⟨16 * (t.val / 16) + s.val, hp⟩] <;> rfl

/-- The gradient of the norm's weight is the reference's. -/
theorem dng_eq (c : Dev nD) : (dats m 0 c).arrAt 9 cfg0.N
    = Cert.Reference21Ideal.Read.val_main_v39 (F := Ideal) (m ((c.tc : Thread nD τ).loc main_arg0)) (m ((c.tc : Thread nD τ).loc main_arg1)) (m ((c.tc : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2.1) 16 (fun _ => 0) _
      (fun t h j => by rw [outsAt0_A m c t h h]; frame_out; simp only [k0_pay14, k0_pay7, k0_pay5, k0_pay4, k0_pay11, pointwise]; rfl)
      (fun t h j => by rw [outsAt0_B m c t h h]; frame_out; simp only [k0_pay14, k0_pay7, k0_pay5, k0_pay4, pointwise]) t ((flush0_9 t).mp hf) _]
  simp only [Cert.Reference21Ideal.Read.val_main_v39, Cert.Reference21Ideal.Read.val_main_v38, Cert.Reference21Ideal.Read.val_main_v37, Cert.Reference21Ideal.Read.val_main_v16, Cert.Reference21Ideal.Read.val_main_v15, Cert.Reference21Ideal.Read.val_main_v35, Cert.Reference21Ideal.Read.val_main_v34, Cert.Reference21Ideal.Read.val_main_v27, Cert.Reference21Ideal.Read.val_main_v21, Cert.Reference21Ideal.Read.val_main_v20, Cert.Reference21Ideal.Read.val_main_v19, Cert.Reference21Ideal.Read.val_main_v3, Cert.Reference21Ideal.Read.val_main_v2, Cert.Reference21Ideal.Read.val_main_v11, Cert.Reference21Ideal.Read.val_main_v10, Cert.Reference21Ideal.Read.val_main_v8, Cert.Reference21Ideal.Read.val_main_v6, Cert.Reference21Ideal.Read.val_main_v5, Cert.Reference21Ideal.Read.val_main_v4, Cert.Reference21Ideal.Read.val_main_v9, Cert.Reference21Ideal.Read.val_main_v7, Cert.Reference21Ideal.Read.val_main_cst, Cert.Reference21Ideal.Read.val_main_cst_0, Cert.Reference21Ideal.Read.val_main_cst_1, Cert.Reference21Ideal.Read.val_main_cst_2, Cert.Reference21Ideal.Read.val_main_cst_3, Cert.Reference21Ideal.Read.val_main_cst_4, Cert.Reference21Ideal.Read.val_main_cst_5, Cert.Reference21Ideal.Read.val_main_cst_6, Cert.Reference21Ideal.Read.val_main_cst_7, Cert.Reference21Ideal.Read.val_main_cst_8, Cert.Reference21Ideal.Read.val_main_cst_9, Cert.Reference21Ideal.Read.val_main_cst_10, Cert.Reference21Ideal.Read.val_main_cst_11, Cert.Reference21Ideal.Read.val_main_cst_12, Cert.Reference21Ideal.Read.val_main_cst_13, pointwise]
  simp only [zero_add, Finset.univ_unique, Finset.sum_singleton, Nat.reduceEqDiff, OfNat.ofNat_ne_one, ↓reduceDIte, Matrix.cons_val]
  refine Fin.sum_mul_add_congr fun s k hl => ?_
  have ht : t.val < 16 := t.isLt
  have hp : 16 * (t.val / 16) + s.val < cfg0.N := lt_of_lt_of_eq (by omega : 16 * (t.val / 16) + s.val < 16) N_0.symm
  rw [mul_comm]
  blk_point [iblk, V, idx t, idx ⟨16 * (t.val / 16) + s.val, hp⟩] <;> rfl

/-- The gate's gradient is the reference's. -/
theorem dgate_eq (c : Dev nD) : (dats m 0 c).arrAt 11 cfg0.N
    = Cert.Reference21Ideal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2) 16 (fun _ => 0) _
      (fun t h j => by rw [outsAt0_A m c t h h]; frame_out; simp only [k0_pay3, k0_pay10, pointwise]; rfl)
      (fun t h j => by rw [outsAt0_B m c t h h]; frame_out; simp only [k0_pay3, pointwise]) t ((flush0_11 t).mp hf) _]
  simp only [Cert.Reference21Ideal.Read.val_main_v71, Cert.Reference21Ideal.Read.val_main_v67, Cert.Reference21Ideal.Read.val_main_v66, Cert.Reference21Ideal.Read.val_main_v65, Cert.Reference21Ideal.Read.val_main_v64, Cert.Reference21Ideal.Read.val_main_cst_12, Cert.Reference21Ideal.Read.val_main_cst_13, pointwise]
  simp only [zero_add, Finset.univ_unique, Finset.sum_singleton, Nat.reduceEqDiff, OfNat.ofNat_ne_one, ↓reduceDIte, Matrix.cons_val]
  refine Fin.sum_mul_add_congr fun s k hl => ?_
  have ht : t.val < 16 := t.isLt
  have hp : 16 * (t.val / 16) + s.val < cfg0.N := lt_of_lt_of_eq (by omega : 16 * (t.val / 16) + s.val < 16) N_0.symm
  refine congr (congrArg HMul.hMul ((one_mul _).trans (dx_at m c ⟨16 * (t.val / 16) + s.val, hp⟩ _ _ ?_ ?_))) ?_
  · blk_simp [idx t]
    show s.val * 256 + k.val = 256 * (16 * (t.val / 16) + s.val) + k.val
    omega
  · blk_simp [idx t] <;> omega
  · blk_point [iblk, V, idx t, idx ⟨16 * (t.val / 16) + s.val, hp⟩]

/-- The arrays the kernel leaves are those of the reference, on every device. -/
theorem algebraic : Cert.algebraic_Kernel21Ideal_Reference21Ideal := by
  intro m g m' g' _ heq
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, Cert.Kernel21Ideal.Value.run_blocks m g,
    (θ_run Cert.Reference21Ideal.defs _ _).mono (fun r h c => ?_) (Cert.Reference21Ideal.Value.run m' g')⟩
  obtain ⟨h0, h1, h2, h3, h4, h5, ha⟩ := h c
  obtain ⟨e0, e1, e2, e3, e4, e5⟩ := heq c
  refine ⟨h0.trans ?_, h1.trans ?_, h2.trans ?_, h3.trans ?_, h4.trans ?_, h5.trans ?_, ha⟩
  · rw [Cert.Reference21Ideal.Read.val_main_v56_eq, e0, e1, e2, e3, e4]; exact (dx_eq m c).symm
  · rw [e1]; exact (Cert.Reference21Ideal.Read.val_main_v68_eq _).trans (dshift_eq m c).symm
  · rw [e0, e1, e3]; exact (Cert.Reference21Ideal.Read.val_main_v69_eq _ _ _).trans (dscale_eq m c).symm
  · rw [e0, e1, e4]; exact (Cert.Reference21Ideal.Read.val_main_v39_eq _ _ _).trans (dng_eq m c).symm
  · rw [Cert.Reference21Ideal.Read.val_main_v70_eq, e0, e1, e2, e3, e4]; exact (dz_eq m c).symm
  · rw [Cert.Reference21Ideal.Read.val_main_v71_eq, e0, e1, e2, e3, e4, e5]; exact (dgate_eq m c).symm

end Cert.Dnorm2

end
-- ==== Proof.AttnFwdRef.lean ====
/- What the reference program of the attention (`Reference22`) computes from real queries and keys: its stages as the real
   numbers of `AttnMath`, its output under whatever values. -/
module

public import proofs.«01_k».proof.Proof.AttnRef
public import proofs.«01_k».proof.Proof.Gen.Reference22Ideal.Read
public import Idealize.ShloMosaic.Lib.Pointwise.Tactic

@[expose] public section

set_option maxRecDepth 16384

noncomputable section

namespace Cert.AttnFwd

open Idealize.ShloMosaic Idealize.ShloMosaic.TcCoe Idealize.SL.Sem
open Cert.Attn (Rows Keys qcol kcol score wexp total prob total_pos coe_sum fold_max_real scale scale_bits IsRows IsKeys)
open Cert.Reference22Ideal Cert.Reference22Ideal.Gen Cert.Reference22Ideal.Read

section Reals

variable (c : ℝ) (q : Rows) (k : Keys) (M : Fin 4 → Fin 4 → Fin 4096 → ℝ) (h g : Fin 4) (s : Fin 4096)

/-- The sum of the exponentials of a row's scores. -/
def sumexp : ℝ := ∑ t, Real.exp (score c q k h g s t)

theorem sumexp_pos : 0 < sumexp c q k h g s :=
  Finset.sum_pos (fun _ _ => Real.exp_pos _) ⟨0, Finset.mem_univ _⟩

/-- A row's sum of shifted exponentials. -/
theorem total_eq : total c q k M h g s = sumexp c q k h g s / Real.exp (M h g s) := by
  unfold total sumexp wexp
  rw [Finset.sum_div]
  exact Finset.sum_congr rfl fun t _ => Real.exp_sub _ _

/-- The shift of a row and the logarithm of its sum give the logarithm of the unshifted sum. -/
theorem shift_add_log : M h g s + Real.log (total c q k M h g s) = Real.log (sumexp c q k h g s) := by
  rw [total_eq, Real.log_div (sumexp_pos ..).ne' (Real.exp_pos _).ne', Real.log_exp]
  ring

/-- The weights do not depend on the shift. -/
theorem prob_eq (t : Fin 4352) : prob c q k M h g s t = Real.exp (score c q k h g s t) / sumexp c q k h g s := by
  have h1 := (sumexp_pos c q k h g s).ne'
  have h2 := (Real.exp_pos (M h g s)).ne'
  unfold prob
  rw [total_eq, wexp, Real.exp_sub]
  field_simp

end Reals

/-- The attention's output from whatever values: the value rows under the weights. -/
def attendedTo (q : Rows) (k : Keys) (x : (⟨S4352x512, .bf16⟩ : BufTy).Contents (Elt Ideal)) (h g : Fin 4) (s : Fin 4096) (d : Fin 128) : EReal :=
  ∑ t : Fin 4352, (x (ix2 t (kcol h d)) : EReal) * ((Real.exp (score scale q k h g s t) / sumexp scale q k h g s : ℝ) : EReal)

variable {x0 : (⟨S4096x2048, .bf16⟩ : BufTy).Contents (Elt Ideal)} {x1 x2 : (⟨S4352x512, .bf16⟩ : BufTy).Contents (Elt Ideal)}
variable {q : Rows} {k : Keys} (M : Fin 4 → Fin 4 → Fin 4096 → ℝ)

theorem v15_eq (h0 : IsRows x0 q) (s : Fin 4096) (h g : Fin 4) (d : Fin 128) :
    val_main_v15 (F := Ideal) x0 (ix4 s h g d) = (q s (qcol h g d) : EReal) := by
  rw [val_main_v15_apply, val_main_v12_apply, show idx_main_v15 (ix4 s h g d) = ix2 s (qcol h g d) from
    funext fun a => Fin.ext (by
      match a with
      | ⟨0, _⟩ => show (((s.val * 4 + h.val) * 4 + g.val) * 128 + d.val) / 2048 = s.val; omega
      | ⟨1, _⟩ => show (((s.val * 4 + h.val) * 4 + g.val) * 128 + d.val) % 2048 = (h.val * 4 + g.val) * 128 + d.val; omega)]
  exact h0 s _

theorem v16_eq (h1 : IsKeys x1 k) (t : Fin 4352) (h : Fin 4) (d : Fin 128) :
    val_main_v16 (F := Ideal) x1 (ix3 t h d) = (k t (kcol h d) : EReal) := by
  rw [val_main_v16_apply, val_main_v13_apply, show idx_main_v16 (ix3 t h d) = ix2 t (kcol h d) from
    funext fun a => Fin.ext (by
      match a with
      | ⟨0, _⟩ => show ((t.val * 4 + h.val) * 128 + d.val) / 512 = t.val; omega
      | ⟨1, _⟩ => show ((t.val * 4 + h.val) * 128 + d.val) % 512 = h.val * 128 + d.val; omega)]
  exact h1 t _

/-- The scaled scores. -/
theorem v20_eq (h0 : IsRows x0 q) (h1 : IsKeys x1 k) (h g : Fin 4) (s : Fin 4096) (t : Fin 4352) :
    val_main_v20 (F := Ideal) x0 x1 (ix4 h g s t) = (score scale q k h g s t : EReal) := by
  rw [val_main_v20_apply, val_main_v18_apply, val_main_v17_apply, val_main_v19_apply, val_main_cst_1_apply]
  simp only [Ideal.mulf_def, Ideal.ofBits_def]
  rw [scale_bits, Finset.sum_congr rfl fun d _ => congrArg₂ (· * ·)
    ((congrArg (val_main_v16 (F := Ideal) x1) (funext fun a => by match a with | ⟨0, _⟩ => rfl | ⟨1, _⟩ => rfl | ⟨2, _⟩ => rfl)).trans (v16_eq h1 t h d))
    ((congrArg (val_main_v15 (F := Ideal) x0) (funext fun a => by match a with | ⟨0, _⟩ => rfl | ⟨1, _⟩ => rfl | ⟨2, _⟩ => rfl | ⟨3, _⟩ => rfl)).trans (v15_eq h0 s h g d))]
  simp only [← EReal.coe_mul, coe_sum]
  rfl

/-- The rows' maxima are real. -/
theorem v21_real (h0 : IsRows x0 q) (h1 : IsKeys x1 k) :
    ∃ M : Fin 4 → Fin 4 → Fin 4096 → ℝ, ∀ h g s, val_main_v21 (F := Ideal) x0 x1 (ix3 h g s) = (M h g s : EReal) := by
  have key : ∀ h g s, ∃ r : ℝ, val_main_v21 (F := Ideal) x0 x1 (ix3 h g s) = (r : EReal) := fun h g s => by
    obtain ⟨r, hr⟩ := fold_max_real (n := 4352) fun t => score scale q k h g s t
    refine ⟨r, ?_⟩
    rw [← hr]
    unfold val_main_v21
    rw [Host.reduce_eq_fold_single FloatOps.maximumf _ _ _ (by decide +kernel) _ _]
    have hb : val_main_cst_2 (F := Ideal) (Shape.Idx.first h_S_) = (⊥ : EReal) := by
      rw [val_main_cst_2_apply]; simp [Ideal.ofBits, Ideal.ieee]
    rw [hb]
    refine congrArg (fun f => Finset.fold max (⊥ : EReal) f (Finset.univ : Finset (Fin 4352))) (funext fun t => ?_)
    refine Eq.trans (congrArg (val_main_v20 (F := Ideal) x0 x1) (funext fun a => Fin.ext ?_)) (v20_eq h0 h1 h g s t)
    match a with
    | ⟨0, _⟩ => rfl
    | ⟨1, _⟩ => rfl
    | ⟨2, _⟩ => rfl
    | ⟨3, _⟩ => rfl
  choose M hM using key
  exact ⟨M, hM⟩

/-- A maximum with minus infinity changes nothing. -/
theorem v23_eq (x0 : (⟨S4096x2048, .bf16⟩ : BufTy).Contents (Elt Ideal)) (x1 : (⟨S4352x512, .bf16⟩ : BufTy).Contents (Elt Ideal)) :
    val_main_v23 (F := Ideal) x0 x1 = val_main_v21 (F := Ideal) x0 x1 := by
  funext i
  rw [val_main_v23_apply, val_main_v22_apply, val_main_cst_3_apply]
  simp [Ideal.ofBits, Ideal.ieee]

variable {M}
variable (hM : ∀ h g s, val_main_v21 (F := Ideal) x0 x1 (ix3 h g s) = (M h g s : EReal))
include hM

/-- The exponentials. -/
theorem v27_eq (h0 : IsRows x0 q) (h1 : IsKeys x1 k) (h g : Fin 4) (s : Fin 4096) (t : Fin 4352) :
    val_main_v27 (F := Ideal) x0 x1 (ix4 h g s t) = (wexp scale q k M h g s t : EReal) := by
  rw [val_main_v27_apply, val_main_v26_apply, v20_eq h0 h1, val_main_v25_apply, val_main_v24_apply, v23_eq,
    show idx_main_v24 (idx_main_v25 (ix4 h g s t)) = ix3 h g s from
      funext fun a => by match a with | ⟨0, _⟩ => rfl | ⟨1, _⟩ => rfl | ⟨2, _⟩ => rfl, hM]
  simp only [Ideal.subf_def, Ideal.hostUnary_exp_def]
  rw [← EReal.coe_sub, Ideal.exp_coe]; rfl

/-- The rows' sums of exponentials. -/
theorem v28_eq (h0 : IsRows x0 q) (h1 : IsKeys x1 k) (h g : Fin 4) (s : Fin 4096) :
    val_main_v28 (F := Ideal) x0 x1 (ix3 h g s) = (total scale q k M h g s : EReal) := by
  rw [val_main_v28_apply, val_main_cst_4_apply, Finset.sum_congr rfl fun t _ =>
    ((congrArg (val_main_v27 (F := Ideal) x0 x1) (funext fun a => by match a with | ⟨0, _⟩ => rfl | ⟨1, _⟩ => rfl | ⟨2, _⟩ => rfl | ⟨3, _⟩ => rfl)).trans
      (v27_eq hM h0 h1 h g s t)), coe_sum]
  simp [Ideal.ofBits, Ideal.ieee]; rfl

theorem v29_eq (h0 : IsRows x0 q) (h1 : IsKeys x1 k) (h g : Fin 4) (s : Fin 4096) :
    val_main_v29 (F := Ideal) x0 x1 (ix4 h g s 0) = (total scale q k M h g s : EReal) := by
  rw [val_main_v29_apply, ← v28_eq hM h0 h1]
  exact congrArg (val_main_v28 (F := Ideal) x0 x1) (funext fun a => by match a with | ⟨0, _⟩ => rfl | ⟨1, _⟩ => rfl | ⟨2, _⟩ => rfl)

/-- The weights. -/
theorem v31_eq (h0 : IsRows x0 q) (h1 : IsKeys x1 k) (h g : Fin 4) (s : Fin 4096) (t : Fin 4352) :
    val_main_v31 (F := Ideal) x0 x1 (ix4 h g s t) = (prob scale q k M h g s t : EReal) := by
  rw [val_main_v31_apply, v27_eq hM h0 h1, val_main_v30_apply, show idx_main_v30 (ix4 h g s t) = ix4 h g s 0 from
      funext fun a => by match a with | ⟨0, _⟩ => rfl | ⟨1, _⟩ => rfl | ⟨2, _⟩ => rfl | ⟨3, _⟩ => rfl, v29_eq hM h0 h1]
  simp only [Ideal.hostDivf_def]
  rw [Ideal.div_coe (total_pos scale q k M h g s).ne', ← EReal.coe_mul]
  unfold prob; rw [mul_one_div]

omit hM in
theorem v32_eq (t : Fin 4352) (h : Fin 4) (d : Fin 128) : val_main_v32 (F := Ideal) x2 (ix3 t h d) = x2 (ix2 t (kcol h d)) := by
  rw [val_main_v32_apply, val_main_v14_apply, show idx_main_v32 (ix3 t h d) = ix2 t (kcol h d) from
    funext fun a => Fin.ext (by
      match a with
      | ⟨0, _⟩ => show ((t.val * 4 + h.val) * 128 + d.val) / 512 = t.val; omega
      | ⟨1, _⟩ => show ((t.val * 4 + h.val) * 128 + d.val) % 512 = h.val * 128 + d.val; omega)]
  rfl

/-- The attention's output. -/
theorem v35_eq (h0 : IsRows x0 q) (h1 : IsKeys x1 k) (h g : Fin 4) (s : Fin 4096) (d : Fin 128) :
    val_main_v35 (F := Ideal) x0 x1 x2 (ix2 s (qcol h g d)) = attendedTo q k x2 h g s d := by
  rw [val_main_v35_apply, val_main_v34_apply, show idx_main_v34 (idx_main_v35 (ix2 s (qcol h g d))) = ix4 h d g s from
    funext fun a => Fin.ext (by
      match a with
      | ⟨0, _⟩ => show (s.val * 2048 + ((h.val * 4 + g.val) * 128 + d.val)) / 512 % 4 = h.val; omega
      | ⟨1, _⟩ => show (s.val * 2048 + ((h.val * 4 + g.val) * 128 + d.val)) % 128 = d.val; omega
      | ⟨2, _⟩ => show (s.val * 2048 + ((h.val * 4 + g.val) * 128 + d.val)) / 128 % 4 = g.val; omega
      | ⟨3, _⟩ => show (s.val * 2048 + ((h.val * 4 + g.val) * 128 + d.val)) / 2048 = s.val; omega), val_main_v33_apply]
  unfold attendedTo
  refine Finset.sum_congr rfl fun t _ => ?_
  rw [← prob_eq scale q k M]
  exact congrArg₂ (· * ·)
    ((congrArg (val_main_v32 (F := Ideal) x2) (funext fun a => by match a with | ⟨0, _⟩ => rfl | ⟨1, _⟩ => rfl | ⟨2, _⟩ => rfl)).trans (v32_eq t h d))
    ((congrArg (val_main_v31 (F := Ideal) x0 x1) (funext fun a => by match a with | ⟨0, _⟩ => rfl | ⟨1, _⟩ => rfl | ⟨2, _⟩ => rfl | ⟨3, _⟩ => rfl)).trans
      (v31_eq hM h0 h1 h g s t))

omit hM in
/-- The logarithms of the rows' sums of exponentials. -/
theorem v36_eq (h0 : IsRows x0 q) (h1 : IsKeys x1 k) (h g : Fin 4) (s : Fin 4096) (l : Fin 128) :
    val_main_v36 (F := Ideal) x0 x1 (ix4 h g s l) = (Real.log (sumexp scale q k h g s) : EReal) := by
  have h9 : val_main_v9 (F := Ideal) x0 x1 (ix3 h g s) = (sumexp scale q k h g s : EReal) := by
    have h8 : ∀ t : Fin 4352, val_main_v8 (F := Ideal) x0 x1 (idx_main_v9 (ix3 h g s) t) = (Real.exp (score scale q k h g s t) : EReal) := fun t => by
      have h7 : val_main_v7 (F := Ideal) x0 x1 (idx_main_v9 (ix3 h g s) t) = (score scale q k h g s t : EReal) :=
        Eq.trans (b := val_main_v20 (F := Ideal) x0 x1 (ix4 h g s t))
          (congrArg (val_main_v20 (F := Ideal) x0 x1) (funext fun a => by match a with | ⟨0, _⟩ => rfl | ⟨1, _⟩ => rfl | ⟨2, _⟩ => rfl | ⟨3, _⟩ => rfl))
          (v20_eq h0 h1 h g s t)
      rw [val_main_v8_apply, h7]
      simp only [Ideal.hostUnary_exp_def]
      exact Ideal.exp_coe _
    rw [val_main_v9_apply, val_main_cst_0_apply, Finset.sum_congr rfl fun t _ => h8 t, coe_sum]
    simp [Ideal.ofBits, Ideal.ieee]; rfl
  rw [val_main_v36_apply, val_main_v11_apply, val_main_v10_apply, show idx_main_v10 (idx_main_v36 (ix4 h g s l)) = ix3 h g s from
      funext fun a => by match a with | ⟨0, _⟩ => rfl | ⟨1, _⟩ => rfl | ⟨2, _⟩ => rfl, h9]
  simp only [Ideal.hostUnary_log_def]
  rw [Ideal.log_coe, if_neg (not_le.2 (sumexp_pos ..))]

end Cert.AttnFwd

end
-- ==== Proof.AttnFwdBlock.lean ====
/- What one grid point of the attention (`Kernel22`) computes from its blocks: the four query heads of a key head, 128 rows of
   each stacked into 512, as the real numbers of `AttnMath`. -/
module

public import proofs.«01_k».proof.Proof.AttnFwdRef
public import proofs.«01_k».proof.Proof.NormMath
public import proofs.«01_k».proof.Proof.Gen.Kernel22Ideal.Frame
public import Idealize.ShloMosaic.Lib.Pipeline.ValueKit

@[expose] public section

set_option maxRecDepth 16384

noncomputable section

namespace Cert.AttnFwd

open Idealize.ShloMosaic Idealize.ShloMosaic.TcCoe Idealize.SL.Sem
open Cert.Attn (Rows Keys qcol kcol score wexp total prob total_pos coe_sum fold_max_real scale scale_bits)
open Cert.Kernel22Ideal Cert.Kernel22Ideal.Gen

/-- The stacked row of row `s` of group `g`. -/
def srow (g : Fin 4) (s : Fin 128) : Fin 512 := ⟨g.val * 128 + s.val, by omega⟩

/-- The column of coordinate `d` of group `g` in a block of four heads. -/
def scol (g : Fin 4) (d : Fin 128) : Fin 512 := ⟨g.val * 128 + d.val, by omega⟩

/-- The queries of group `g` of a block. -/
abbrev part0 (x : Vec Ideal S128x512 .bf16) : Vec Ideal S128x128 .bf16 := View.ld x (Rect.unit ![0, 0] ![128, 128] inb_S128x512_S128x128_0_0)
abbrev part1 (x : Vec Ideal S128x512 .bf16) : Vec Ideal S128x128 .bf16 := View.ld x (Rect.unit ![0, 128] ![128, 128] inb_S128x512_S128x128_0_128)
abbrev part2 (x : Vec Ideal S128x512 .bf16) : Vec Ideal S128x128 .bf16 := View.ld x (Rect.unit ![0, 256] ![128, 128] inb_S128x512_S128x128_0_256)
abbrev part3 (x : Vec Ideal S128x512 .bf16) : Vec Ideal S128x128 .bf16 := View.ld x (Rect.unit ![0, 384] ![128, 128] inb_S128x512_S128x128_0_384)

/-- Four arrays of 128 rows one under the other, at row `s` of the `g`th. -/
theorem concat_apply {α : Type} (x0 x1 x2 x3 : S128x128.Idx → α) (g : Fin 4) (s : Fin 128) (d : Fin 128) :
    concatenate S512x128 0 [⟨S128x128, x0⟩, ⟨S128x128, x1⟩, ⟨S128x128, x2⟩, ⟨S128x128, x3⟩]
      concatenates_S128x128_S128x128_S128x128_S128x128_S512x128_d0 (ix2 (srow g s) d) = (![x0, x1, x2, x3] g) (ix2 s d) := by
  have hs := s.isLt
  fin_cases g <;> simp only [pointwise, srow, if_true, Matrix.cons_val_zero]
  · rw [dif_pos (by first | omega | trivial)]
    exact congrArg x0 (funext fun a => Fin.ext (by match a with | ⟨0, _⟩ => show 0 * 128 + s.val = s.val; omega | ⟨1, _⟩ => rfl))
  · rw [dif_neg (by first | omega | trivial), dif_pos (by first | omega | trivial)]
    exact congrArg x1 (funext fun a => Fin.ext (by match a with | ⟨0, _⟩ => rfl | ⟨1, _⟩ => rfl))
  · rw [dif_neg (by first | omega | trivial), dif_neg (by first | omega | trivial), dif_pos (by first | omega | trivial)]
    exact congrArg x2 (funext fun a => Fin.ext (by match a with | ⟨0, _⟩ => show 2 * 128 + s.val - 128 - 128 = s.val; omega | ⟨1, _⟩ => rfl))
  · rw [dif_neg (by first | omega | trivial), dif_neg (by first | omega | trivial), dif_neg (by first | omega | trivial)]
    exact congrArg x3 (funext fun a => Fin.ext (by match a with | ⟨0, _⟩ => show 3 * 128 + s.val - 128 - 128 - 128 = s.val; omega | ⟨1, _⟩ => rfl))

/-- The blocks of key head `h` hold the reals of the attention's queries and keys, the point's row `s` being row `σ s`. -/
structure Blocks (q : Rows) (k : Keys) (h : Fin 4) (σ : Fin 128 → Fin 4096) (x0 : Vec Ideal S128x512 .bf16) (x1 : Vec Ideal S4352x128 .bf16) : Prop where
  h0 : ∀ s g d, x0 (ix2 s (scol g d)) = (q (σ s) (qcol h g d) : EReal)
  h1 : ∀ t d, x1 (ix2 t d) = (k t (kcol h d) : EReal)

variable {q : Rows} {k : Keys} {h : Fin 4} {σ : Fin 128 → Fin 4096} {x0 : Vec Ideal S128x512 .bf16} {x1 x2 : Vec Ideal S4352x128 .bf16}

/-- The stacked scores. -/
theorem scores_eq (B : Blocks q k h σ x0 x1) (g : Fin 4) (s : Fin 128) (t : Fin 4352) :
    k0_pay6 (part0 x0) (part1 x0) (part2 x0) (part3 x0) x1 (ix2 (srow g s) t) = (score scale q k h g (σ s) t : EReal) := by
  unfold k0_pay6
  generalize hL : concatenate S512x128 0 _ _ = L
  have hv : ∀ d, L (ix2 (srow g s) d) = (q (σ s) (qcol h g d) : EReal) := fun d => by
    rw [← hL, ← B.h0]
    refine (concat_apply _ _ _ _ g s d).trans ?_
    fin_cases g <;>
      exact congrArg x0 (funext fun a => Fin.ext (by match a with | ⟨0, _⟩ => simp [Rect.emb, Rect.unit, scol] | ⟨1, _⟩ => simp [Rect.emb, Rect.unit, scol]))
  simp only [pointwise, hv, B.h1, scale_bits, zero_add]
  simp only [← EReal.coe_mul, coe_sum]
  simp only [score, mul_comm (q _ _)]

/-- A stacked row's maximum is real. -/
theorem max_real (B : Blocks q k h σ x0 x1) (g : Fin 4) (s : Fin 128) :
    ∃ r : ℝ, k0_pay7 (part0 x0) (part1 x0) (part2 x0) (part3 x0) x1 (ix2 (srow g s) 0) = (r : EReal) := by
  obtain ⟨r, hr⟩ := fold_max_real (n := 4352) fun t => score scale q k h g (σ s) t
  refine ⟨r, ?_⟩
  rw [← hr]
  have e := fun t => scores_eq B g s t
  unfold k0_pay7
  generalize k0_pay6 (part0 x0) (part1 x0) (part2 x0) (part3 x0) x1 = w at e ⊢
  have hb : Ideal.ofBits .f32 0xFF800000#32 = (⊥ : EReal) := by simp [Ideal.ofBits, Ideal.ieee]
  simp only [pointwise]
  rw [hb]
  exact congrArg (fun f => Finset.fold max (⊥ : EReal) f (Finset.univ : Finset (Fin 4352))) (funext e)

variable {r : ℝ}

/-- The stacked exponentials. -/
theorem exps_eq (B : Blocks q k h σ x0 x1) (g : Fin 4) (s : Fin 128)
    (hr : k0_pay7 (part0 x0) (part1 x0) (part2 x0) (part3 x0) x1 (ix2 (srow g s) 0) = (r : EReal)) (t : Fin 4352) :
    k0_pay8 (part0 x0) (part1 x0) (part2 x0) (part3 x0) x1 (ix2 (srow g s) t) = (wexp scale q k (fun _ _ _ => r) h g (σ s) t : EReal) := by
  have e := scores_eq B g s t
  unfold k0_pay8
  generalize k0_pay7 (part0 x0) (part1 x0) (part2 x0) (part3 x0) x1 = m at hr ⊢
  generalize k0_pay6 (part0 x0) (part1 x0) (part2 x0) (part3 x0) x1 = w at e ⊢
  refine Eq.trans (b := Ideal.exp (w (ix2 (srow g s) t) - m (ix2 (srow g s) 0))) ?_ ?_
  · simp only [pointwise]; rfl
  · rw [e, hr, ← EReal.coe_sub, Ideal.exp_coe]; rfl

/-- A stacked row's sum of exponentials. -/
theorem sum_eq (B : Blocks q k h σ x0 x1) (g : Fin 4) (s : Fin 128)
    (hr : k0_pay7 (part0 x0) (part1 x0) (part2 x0) (part3 x0) x1 (ix2 (srow g s) 0) = (r : EReal)) :
    k0_pay9 (part0 x0) (part1 x0) (part2 x0) (part3 x0) x1 (ix2 (srow g s) 0) = (total scale q k (fun _ _ _ => r) h g (σ s) : EReal) := by
  have e := exps_eq B g s hr
  unfold k0_pay9
  generalize k0_pay8 (part0 x0) (part1 x0) (part2 x0) (part3 x0) x1 = w at e ⊢
  refine Eq.trans (b := ∑ t : Fin 4352, (w (ix2 (srow g s) t) : EReal)) ?_ ?_
  · simp only [pointwise, zero_add]
  · rw [Finset.sum_congr rfl fun t _ => e t, coe_sum]; rfl

/-- A stacked row of the output. -/
theorem rows_eq (B : Blocks q k h σ x0 x1) (y : (⟨S4352x512, .bf16⟩ : BufTy).Contents (Elt Ideal)) (h2 : ∀ t d, x2 (ix2 t d) = y (ix2 t (kcol h d)))
    (g : Fin 4) (s d : Fin 128) :
    k0_pay10 (part0 x0) (part1 x0) (part2 x0) (part3 x0) x1 x2 (ix2 (srow g s) d) = attendedTo q k y h g (σ s) d := by
  obtain ⟨r, hr⟩ := max_real B g s
  have e := exps_eq B g s hr
  have l := sum_eq B g s hr
  have hl := total_pos scale q k (fun _ _ _ => r) h g (σ s)
  unfold k0_pay10
  generalize k0_pay8 (part0 x0) (part1 x0) (part2 x0) (part3 x0) x1 = w at e ⊢
  generalize k0_pay9 (part0 x0) (part1 x0) (part2 x0) (part3 x0) x1 = z at l ⊢
  refine Eq.trans (b := Ideal.div (∑ t : Fin 4352, (w (ix2 (srow g s) t) : EReal) * x2 (ix2 t d)) (z (ix2 (srow g s) 0))) ?_ ?_
  · simp only [pointwise, zero_add]
    rfl
  · rw [l, Ideal.div_coe hl.ne', ← Cert.NormMath.sum_mul_coe _ (one_div_pos.2 hl).le]
    unfold attendedTo
    refine Finset.sum_congr rfl fun t _ => ?_
    rw [e, h2, ← prob_eq scale q k (fun _ _ _ => r), mul_comm (_ : EReal) (y _), mul_assoc, ← EReal.coe_mul, mul_one_div]
    rfl

/-- A stacked row's logarithm of its sum of exponentials. -/
theorem logs_eq (B : Blocks q k h σ x0 x1) (g : Fin 4) (s : Fin 128) :
    k0_pay11 (part0 x0) (part1 x0) (part2 x0) (part3 x0) x1 (ix2 (srow g s) 0) = (Real.log (sumexp scale q k h g (σ s)) : EReal) := by
  obtain ⟨r, hr⟩ := max_real B g s
  have l := sum_eq B g s hr
  have hl := total_pos scale q k (fun _ _ _ => r) h g (σ s)
  unfold k0_pay11
  generalize k0_pay7 (part0 x0) (part1 x0) (part2 x0) (part3 x0) x1 = m at hr ⊢
  generalize k0_pay9 (part0 x0) (part1 x0) (part2 x0) (part3 x0) x1 = z at l ⊢
  refine Eq.trans (b := (m (ix2 (srow g s) 0) : EReal) + Ideal.log (z (ix2 (srow g s) 0))) ?_ ?_
  · simp only [pointwise]
  · rw [hr, l, Ideal.log_coe, if_neg (not_le.2 hl), ← EReal.coe_add, ← shift_add_log scale q k (fun _ _ _ => r)]

end Cert.AttnFwd

end
-- ==== Proof.AttnFwd.lean ====
/- The value of the attention (`Kernel22`): on finite queries and keys the two arrays the kernel leaves are the reference's. -/
module

public import proofs.«01_k».proof.Defs
public import proofs.«01_k».proof.Proof.AttnFwdBlock
public import proofs.«01_k».proof.Proof.Gen.Reference22Ideal.Run
public import proofs.«01_k».proof.Proof.Gen.Pre_finite22
public import proofs.«01_k».proof.Proof.Scalars
public import Idealize.ShloMosaic.Lib.Pipeline.ValueKit
public import Idealize.ShloMosaic.Lib.ReduceAll

@[expose] public section

set_option maxRecDepth 16384

noncomputable section

namespace Cert.AttnFwd

open Idealize.ShloMosaic Idealize.ShloMosaic.TcCoe Idealize.SL.Sem
open Cert.Attn (Rows Keys qcol kcol scale IsRows IsKeys)
open Cert.Kernel22Ideal Cert.Kernel22Ideal.Gen

variable (m : (ℓ : Loc nD τ sig) → Buf (Elt Ideal) ℓ)

/-- The block each window takes at a grid point `(key head, row tile)`. -/
theorem idx : ∀ t : Fin cfg0.N, win0_0.index t = ![t.val % 32, t.val / 32] ∧ win0_1.index t = ![0, t.val / 32]
    ∧ win0_2.index t = ![0, t.val / 32] ∧ win0_3.index t = ![t.val % 32, t.val / 32] ∧ win0_4.index t = ![t.val / 32, 0, t.val % 32, 0] :=
  (by decide +kernel : ∀ t : Fin grid0.N, _)

/-- The key head of a grid point. -/
def head (t : Fin cfg0.N) : Fin 4 := ⟨t.val / 32, by have : t.val < 128 := t.isLt; omega⟩

/-- The array's row of a point's row. -/
def srowOf (t : Fin cfg0.N) (s : Fin 128) : Fin 4096 := ⟨t.val % 32 * 128 + s.val, by omega⟩

/-- The finite queries and keys of a device, as reals. -/
structure Inputs (c : Dev nD) (q : Rows) (k : Keys) : Prop where
  h0 : IsRows (m ((c.tc : Thread nD τ).loc main_arg0)) q
  h1 : IsKeys (m ((c.tc : Thread nD τ).loc main_arg1)) k

variable {m} {c : Dev nD} {q : Rows} {k : Keys}

/-- A point's blocks hold the reals of the queries and the keys. -/
theorem blocks (I : Inputs m c q k) (t : Fin cfg0.N) : Blocks q k (head t) (srowOf t) (iblk m c 0 t) (iblk m c 1 t) where
  h0 s g d := by
    rw [← I.h0]
    simp only [scol, srowOf, qcol, head]
    blk_ext [iblk, V, idx t]
  h1 u d := by
    rw [← I.h1]
    simp only [kcol, head]
    blk_ext [iblk, V, idx t]

/-- A point's block of the values. -/
theorem block2 (t : Fin cfg0.N) (u : Fin 4352) (d : Fin 128) :
    iblk m c 2 t (ix2 u d) = m ((c.tc : Thread nD τ).loc main_arg2) (ix2 u (kcol (head t) d)) := by
  simp only [kcol, head]
  blk_ext [iblk, V, idx t]

/-- Where an entry of a head's tile of a block stands. -/
theorem tile_at (x : S128x128.Idx) (s : Fin 128) (g n : Fin 4) (d : Fin 128) (h0 : s.val = (x 0).val) (h1 : g.val * 128 + d.val = n.val * 128 + (x 1).val) :
    g = n ∧ x = ix2 s d := by
  have hx : (x 1).val < 128 := (x 1).isLt
  have hd := d.isLt
  exact ⟨Fin.ext (by omega), funext fun a => Fin.ext (by match a with | ⟨0, _⟩ => exact h0.symm | ⟨1, _⟩ => show (x 1).val = d.val; omega)⟩

/-- A load of the whole block of the keys, or of the values, is the block. -/
theorem whole (x : Vec Ideal S4352x128 .bf16) : View.ld x r0_4 = x :=
  View.ld_unit_lit (S := S4352x128) inb_S4352x128_S4352x128_0_0 x (by decide)

/-- What a point leaves of the output. -/
theorem point3 (I : Inputs m c q k) (t : Fin cfg0.N) (s : Fin 128) (g : Fin 4) (d : Fin 128) :
    out0_3 (iblk m c 0 t) (iblk m c 1 t) (iblk m c 2 t) (ix2 s (scol g d))
      = attendedTo q k (m ((c.tc : Thread nD τ).loc main_arg2)) (head t) g (srowOf t s) d := by
  have B := rows_eq (blocks I t) (m ((c.tc : Thread nD τ).loc main_arg2)) (block2 t)
  have L : ∀ g s d, k0_pay10 (View.ld (iblk m c 0 t) r0_0) (View.ld (iblk m c 0 t) r0_1) (View.ld (iblk m c 0 t) r0_2) (View.ld (iblk m c 0 t) r0_3)
      (View.ld (iblk m c 1 t) r0_4) (View.ld (iblk m c 2 t) r0_4) (ix2 (srow g s) d)
        = attendedTo q k (m ((c.tc : Thread nD τ).loc main_arg2)) (head t) g (srowOf t s) d := by
    rw [whole, whole]
    exact B
  frame_out
  generalize attendedTo q k (m ((c.tc : Thread nD τ).loc main_arg2)) (head t) = R at B L ⊢
  unfold k0_pay15 k0_pay2 k0_pay4 k0_pay12 k0_pay14
  generalize k0_pay10 (View.ld (iblk m c 0 t) r0_0) _ _ _ _ _ = w at L ⊢
  generalize k0_pay10 (F := Ideal) _ _ _ _ _ _ = w' at B ⊢
  canon_tiles x h
  case piece0 =>
    obtain ⟨rfl, rfl⟩ := tile_at x s g 3 d h0 h1
    exact (congrArg w (funext fun a => Fin.ext (by match a with | ⟨0, _⟩ => rfl | ⟨1, _⟩ => exact Nat.zero_add _))).trans (L 3 s d)
  case piece1 =>
    obtain ⟨rfl, rfl⟩ := tile_at x s g 2 d h0 h1
    exact (congrArg w (funext fun a => Fin.ext (by match a with | ⟨0, _⟩ => rfl | ⟨1, _⟩ => exact Nat.zero_add _))).trans (L 2 s d)
  case piece2 =>
    obtain ⟨rfl, rfl⟩ := tile_at x s g 1 d h0 h1
    exact (congrArg w' (funext fun a => Fin.ext (by match a with | ⟨0, _⟩ => rfl | ⟨1, _⟩ => exact Nat.zero_add _))).trans (B 1 s d)
  case piece3 =>
    obtain ⟨rfl, rfl⟩ := tile_at x s g 0 d h0 (h1.trans (Nat.zero_add _).symm)
    exact (congrArg w' (funext fun a => Fin.ext (by match a with | ⟨0, _⟩ => rfl | ⟨1, _⟩ => exact Nat.zero_add _))).trans (B 0 s d)

/-- Where an entry of a head's tile of the logarithms' block stands. -/
theorem slab_at (x : S1x1x128x128.Idx) (s : Fin 128) (g n : Fin 4) (l : Fin 128) (h1 : g.val = n.val + (x 1).val) (h2 : s.val = (x 2).val) (h3 : l.val = (x 3).val) :
    g = n ∧ x = ix4 0 0 s l := by
  have x0 : (x 0).val < 1 := (x 0).isLt
  have x1 : (x 1).val < 1 := (x 1).isLt
  exact ⟨Fin.ext (by omega), funext fun a => Fin.ext (by
    match a with
    | ⟨0, _⟩ => show (x 0).val = 0; omega
    | ⟨1, _⟩ => show (x 1).val = 0; omega
    | ⟨2, _⟩ => exact h2.symm
    | ⟨3, _⟩ => exact h3.symm)⟩

/-- What a point leaves of the logarithms. -/
theorem point4 (I : Inputs m c q k) (t : Fin cfg0.N) (s : Fin 128) (g : Fin 4) (l : Fin 128) :
    out0_4 (iblk m c 0 t) (iblk m c 1 t) (iblk m c 2 t) (ix4 0 g s l) = (Real.log (sumexp scale q k (head t) g (srowOf t s)) : EReal) := by
  have B := logs_eq (blocks I t)
  have L : ∀ g s, k0_pay11 (View.ld (iblk m c 0 t) r0_0) (View.ld (iblk m c 0 t) r0_1) (View.ld (iblk m c 0 t) r0_2) (View.ld (iblk m c 0 t) r0_3)
      (View.ld (iblk m c 1 t) r0_4) (ix2 (srow g s) 0) = (Real.log (sumexp scale q k (head t) g (srowOf t s)) : EReal) := by
    rw [whole]
    exact B
  frame_out
  generalize sumexp scale q k (head t) = R at B L ⊢
  unfold k0_pay16 k0_pay1 k0_pay3 k0_pay5 k0_pay13
  generalize k0_pay11 (View.ld (iblk m c 0 t) r0_0) _ _ _ _ = w at L ⊢
  generalize k0_pay11 (F := Ideal) _ _ _ _ _ = w' at B ⊢
  canon_tiles x h
  case piece0 =>
    obtain ⟨rfl, rfl⟩ := slab_at x s g 3 l h1 h2 h3
    simp only [pointwise]
    exact (congrArg w (funext fun a => Fin.ext (by match a with | ⟨0, _⟩ => rfl | ⟨1, _⟩ => rfl))).trans (L 3 s)
  case piece1 =>
    obtain ⟨rfl, rfl⟩ := slab_at x s g 2 l h1 h2 h3
    simp only [pointwise]
    exact (congrArg w (funext fun a => Fin.ext (by match a with | ⟨0, _⟩ => rfl | ⟨1, _⟩ => rfl))).trans (L 2 s)
  case piece2 =>
    obtain ⟨rfl, rfl⟩ := slab_at x s g 1 l h1 h2 h3
    simp only [pointwise]
    exact (congrArg w (funext fun a => Fin.ext (by match a with | ⟨0, _⟩ => rfl | ⟨1, _⟩ => rfl))).trans (L 1 s)
  case piece3 =>
    obtain ⟨rfl, rfl⟩ := slab_at x s g 0 l (h1.trans (Nat.zero_add _).symm) h2 h3
    simp only [pointwise]
    exact (congrArg w' (funext fun a => Fin.ext (by match a with | ⟨0, _⟩ => rfl | ⟨1, _⟩ => rfl))).trans (B 0 s)

open Cert.Reference22Ideal.Read in
/-- The array left for the output is the reference's. -/
theorem out_eq (I : Inputs m c q k) : (dats m 0 c).arrAt 3 cfg0.N
    = val_main_v35 (F := Ideal) (m ((c.tc : Thread nD τ).loc main_arg0)) (m ((c.tc : Thread nD τ).loc main_arg1)) (m ((c.tc : Thread nD τ).loc main_arg2)) := by
  obtain ⟨M, hM⟩ := v21_real I.h0 I.h1
  refine (dats m 0 c).arrAt_eq_of_covers 3 _ (by decide +kernel) fun t hf y => ?_
  blk_simp
  rw [after0_3]
  have y0 : (y 0).val < 128 := (y 0).isLt
  have y1 : (y 1).val < 512 := (y 1).isLt
  have hy : y = ix2 (⟨(y 0).val, y0⟩ : Fin 128) (scol ⟨(y 1).val / 128, by omega⟩ ⟨(y 1).val % 128, by omega⟩) :=
    funext fun a => Fin.ext (by match a with | ⟨0, _⟩ => rfl | ⟨1, _⟩ => show (y 1).val = (y 1).val / 128 * 128 + (y 1).val % 128; omega)
  refine ((congrArg _ hy).trans (point3 I t _ _ _)).trans ((v35_eq hM I.h0 I.h1 _ _ _ _).symm.trans ?_)
  simp only [srowOf, qcol, head]
  blk_ext [idx t]

open Cert.Reference22Ideal.Read in
/-- The array left for the logarithms is the reference's. -/
theorem lse_eq (I : Inputs m c q k) : (dats m 0 c).arrAt 4 cfg0.N
    = val_main_v36 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  have y0 : (y 0).val < 1 := (y 0).isLt
  have y1 : (y 1).val < 4 := (y 1).isLt
  have y2 : (y 2).val < 128 := (y 2).isLt
  have y3 : (y 3).val < 128 := (y 3).isLt
  have hy : y = ix4 (0 : Fin 1) (⟨(y 1).val, y1⟩ : Fin 4) (⟨(y 2).val, y2⟩ : Fin 128) (⟨(y 3).val, y3⟩ : Fin 128) :=
    funext fun a => Fin.ext (by match a with | ⟨0, _⟩ => show (y 0).val = 0; omega | ⟨1, _⟩ => rfl | ⟨2, _⟩ => rfl | ⟨3, _⟩ => rfl)
  refine ((congrArg _ hy).trans (point4 I t _ _ _)).trans ((v36_eq I.h0 I.h1 _ _ _ (⟨(y 3).val, y3⟩ : Fin 128)).symm.trans ?_)
  simp only [srowOf, head]
  blk_ext [idx t]

/-- The precondition read at the elements: the queries and the keys hold real numbers. -/
theorem inputs_of_pre (h : Cert.Pre_Kernel22Ideal_finite22 m) (c : Dev nD) : ∃ q k, Inputs m c q k := by
  have h' := congrFun (h c) (Shape.Idx.first Cert.Pre_finite22.Facts.h_S_)
  dsimp only [Cert.Pre_finite22.fn] at h'
  obtain ⟨h0, h1⟩ := IntOp.andi_eq_one.1 h'
  haveI : Subsingleton Cert.Pre_finite22.S_.Idx := ⟨fun a b => funext fun i => i.elim0⟩
  have r0 : ∀ i, ∃ r : ℝ, (m ((c.tc : Thread nD τ).loc main_arg0)) i = (r : EReal) := fun i => Cert.Scalars.real_of_abs_lt _ (Host.reduce_andi_all _ _ _ _ _ h0 i)
  have r1 : ∀ i, ∃ r : ℝ, (m ((c.tc : Thread nD τ).loc main_arg1)) i = (r : EReal) := fun i => Cert.Scalars.real_of_abs_lt _ (Host.reduce_andi_all _ _ _ _ _ h1 i)
  choose f0 e0 using r0
  choose f1 e1 using r1
  exact ⟨fun s j => f0 (ix2 s j), fun s j => f1 (ix2 s j), fun s j => e0 _, fun s j => e1 _⟩

/-- A run of the kernel ends with the two arrays that its points' write-backs leave, and with its arguments as they were. -/
theorem run_arrays (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.2 c).1 3, (h.2 c).1 4, h.1 c⟩) (θ_run_and (unchanged m g) (run_main m g))

/-- The two arrays the kernel leaves are those of the reference, on every device, when queries and keys are finite. -/
theorem algebraic : Cert.algebraic_Kernel22Ideal_Reference22Ideal_pre_finite22 := by
  intro m g m' g' hpre heq
  refine ⟨fun c => (dats m 0 c).arrAt 3 cfg0.N, fun c => (dats m 0 c).arrAt 4 cfg0.N,
    run_arrays m g, (θ_run Cert.Reference22Ideal.defs _ _).mono (fun r h c => ?_) (Cert.Reference22Ideal.Value.run m' g')⟩
  obtain ⟨h0, h1, ha⟩ := h c
  obtain ⟨e0, e1, e2⟩ := heq c
  obtain ⟨q, k, I⟩ := inputs_of_pre hpre c
  refine ⟨h0.trans ?_, h1.trans ?_, ha⟩
  · rw [e0, e1, e2]; exact (Cert.Reference22Ideal.Read.val_main_v35_eq _ _ _).trans (out_eq I).symm
  · rw [e0, e1]; exact (Cert.Reference22Ideal.Read.val_main_v36_eq _ _).trans (lse_eq I).symm

end Cert.AttnFwd

end
-- ==== Proof.Norm1.lean ====
/- The value of the first norm of the first feed-forward block (`Kernel23`): the array the kernel leaves is the reference's. -/
module

public import proofs.«01_k».proof.Defs
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pointwise.Tactic

@[expose] public section

set_option maxRecDepth 16384

noncomputable section

namespace Cert.Norm1

open Idealize.ShloMosaic Idealize.ShloMosaic.TcCoe Idealize.SL.Sem
open Cert.Kernel23Ideal Cert.Kernel23Ideal.Gen

variable (m : (ℓ : Loc nD τ sig) → Buf (Elt Ideal) ℓ)

/-- The block each window takes at a tile of 256 rows: the modulation's is that of the latent rows at the first sixteen tiles. -/
theorem idx : ∀ t : Fin cfg0.N, win0_0.index t = ![t.val, 0] ∧ win0_1.index t = ![0, 0]
    ∧ win0_2.index t = ![t.val / 16, 0, 0] ∧ win0_3.index t = ![t.val, 0] :=
  (by decide +kernel : ∀ t : Fin grid0.N, _)

/-- A row of the normed and modulated array: the row by the inverse of its root mean square, the gain and the modulation of `b`. -/
def normed (x0 : (⟨S4352x2048, .f32⟩ : BufTy).Contents (Elt Ideal)) (x1 : (⟨S1x2048, .f32⟩ : BufTy).Contents (Elt Ideal))
    (x2 : (⟨S2x9x2048, .f32⟩ : BufTy).Contents (Elt Ideal)) (b : Fin 2) (r : Fin 4352) (j : Fin 2048) : EReal :=
  (x0 (ix2 r j) : EReal) * Ideal.rsqrt (Ideal.div (∑ k : Fin 2048, (x0 (ix2 r k) : EReal) * x0 (ix2 r k)) (Ideal.ofBits FTy.f32 0x45000000#32)
      + Ideal.ofBits FTy.f32 0x358637BD#32) * x1 (ix2 0 j) * (1 + x2 (ix3 b 1 j)) + x2 (ix3 b 0 j)

open Cert.Reference23Ideal.Read in
/-- The reference's array read at a row and a column: the modulation is the latent rows' or the context rows'. -/
theorem ref_x (x0 : (⟨Cert.Reference23Ideal.S4352x2048, .f32⟩ : BufTy).Contents (Elt Ideal))
    (x1 : (⟨Cert.Reference23Ideal.S1x2048, .f32⟩ : BufTy).Contents (Elt Ideal))
    (x2 : (⟨Cert.Reference23Ideal.S2x9x2048, .f32⟩ : BufTy).Contents (Elt Ideal)) (i : Cert.Reference23Ideal.S4352x2048.Idx) (b : Fin 2)
    (hb : b.val = (i 0).val / 4096) :
    val_main_v51 (F := Ideal) x0 x1 x2 i = normed x0 x1 x2 b (i 0) (i 1) := by
  have hi : (i 0).val < 4352 := (i 0).isLt
  have e51 : val_main_v51 (F := Ideal) x0 x1 x2 i = val_main_v50 (F := Ideal) x0 x1 x2 i := rfl
  rw [e51]
  by_cases h : 4096 ≤ (i 0).val
  · obtain rfl : b = 1 := Fin.ext (by rw [hb]; show (i 0).val / 4096 = 1; omega)
    refine (concatenate_pair_apply_right (t := Cert.Reference23Ideal.S4352x2048) (s₁ := Cert.Reference23Ideal.S4096x2048)
      (s₂ := Cert.Reference23Ideal.S256x2048) (0 : Fin 2) (val_main_v24 (F := Ideal) x0 x1 x2) (val_main_v49 (F := Ideal) x0 x1 x2) _ i rfl rfl
      (ix2 ⟨(i 0).val - 4096, by omega⟩ (i 1) : Cert.Reference23Ideal.S256x2048.Idx) (fun b hb => ?_) ?_).trans ?_
    · match b with
      | ⟨0, _⟩ => exact absurd rfl hb
      | ⟨1, _⟩ => rfl
    · show (i 0).val - 4096 + 4096 = (i 0).val
      omega
    have e0 : ∀ k : Fin 2048, val_main_v25 (F := Ideal) x0 (ix2 ⟨(i 0).val - 4096, by omega⟩ k) = x0 (ix2 (i 0) k) := fun k =>
      (val_main_v25_apply ..).trans (congrArg x0 (funext fun a => Fin.ext (by
        match a with | ⟨0, _⟩ => show 4096 + ((i 0).val - 4096) = (i 0).val; omega | ⟨1, _⟩ => rfl)))
    simp only [val_main_v49, val_main_v48, val_main_v47, val_main_v46, val_main_v45, val_main_v44, val_main_v43, val_main_v42, val_main_v41, val_main_v40,
      val_main_v39, val_main_v38, val_main_v37, val_main_v36, val_main_v35, val_main_v34, val_main_v33, val_main_v32, val_main_v31, val_main_v30,
      val_main_v29, val_main_v28, val_main_v27, val_main_v26, val_main_cst_3, val_main_cst_4, val_main_cst_5, val_main_cst_6,
      pointwise, Nat.reduceEqDiff, OfNat.ofNat_ne_one, ↓reduceDIte, e0]
    simp only [normed, zero_add, Matrix.cons_val, Fin.eta]
    rw [show val_main_v25 (F := Ideal) x0 (ix2 ⟨(i 0).val - 4096, by omega⟩ (i 1)) = x0 (ix2 (i 0) (i 1)) from e0 (i 1)]
    rfl
  · obtain rfl : b = 0 := Fin.ext (by rw [hb]; show (i 0).val / 4096 = 0; omega)
    refine (concatenate_pair_apply_left (t := Cert.Reference23Ideal.S4352x2048) (s₁ := Cert.Reference23Ideal.S4096x2048)
      (s₂ := Cert.Reference23Ideal.S256x2048) (0 : Fin 2) (val_main_v24 (F := Ideal) x0 x1 x2) (val_main_v49 (F := Ideal) x0 x1 x2) _ i rfl
      (ix2 ⟨(i 0).val, by omega⟩ (i 1) : Cert.Reference23Ideal.S4096x2048.Idx) (fun b => ?_)).trans ?_
    · match b with
      | ⟨0, _⟩ => rfl
      | ⟨1, _⟩ => rfl
    have e0 : ∀ k : Fin 2048, val_main_v0 (F := Ideal) x0 (ix2 ⟨(i 0).val, by omega⟩ k) = x0 (ix2 (i 0) k) := fun k =>
      (val_main_v0_apply ..).trans (congrArg x0 (funext fun a => Fin.ext (by
        match a with | ⟨0, _⟩ => rfl | ⟨1, _⟩ => rfl)))
    simp only [val_main_v24, val_main_v23, val_main_v22, val_main_v21, val_main_v20, val_main_v19, val_main_v18, val_main_v17, val_main_v16,
      val_main_v15, val_main_v14, val_main_v13, val_main_v12, val_main_v11, val_main_v10, val_main_v9, val_main_v8, val_main_v7, val_main_v6,
      val_main_v5, val_main_v4, val_main_v3, val_main_v2, val_main_v1, val_main_cst, val_main_cst_0, val_main_cst_1, val_main_cst_2,
      pointwise, Nat.reduceEqDiff, OfNat.ofNat_ne_one, ↓reduceDIte, e0]
    simp only [normed, zero_add, Matrix.cons_val, Fin.eta]
    rw [show val_main_v0 (F := Ideal) x0 (ix2 ⟨(i 0).val, by omega⟩ (i 1)) = x0 (ix2 (i 0) (i 1)) from e0 (i 1)]
    rfl

open Cert.Reference23Ideal.Read in
/-- The array left for the normed rows is the reference's. -/
theorem x_eq (c : Dev nD) : (dats m 0 c).arrAt 3 cfg0.N = val_main_v51 (F := Ideal) (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  have ht : t.val < 17 := t.isLt
  have y0 : (y 0).val < 256 := (y 0).isLt
  refine Eq.trans ?_ (ref_x _ _ _ _ ⟨t.val / 16, by omega⟩ ?_).symm
  · simp only [k0_pay1, pointwise, zero_add, Nat.reduceEqDiff, OfNat.ofNat_ne_one, ↓reduceDIte, normed]
    blk_point [iblk, V, idx t] <;> rfl
  · show t.val / 16 = _
    blk_simp [idx t]
    omega

/-- The array the kernel leaves is that of the reference, on every device. -/
theorem algebraic : Cert.algebraic_Kernel23Ideal_Reference23Ideal := by
  intro m g m' g' _ heq
  refine ⟨fun c => (dats m 0 c).arrAt 3 cfg0.N,
    Cert.Kernel23Ideal.Value.run_blocks m g, (θ_run Cert.Reference23Ideal.defs _ _).mono (fun r h c => ?_) (Cert.Reference23Ideal.Value.run m' g')⟩
  obtain ⟨h0, ha⟩ := h c
  obtain ⟨e0, e1, e2⟩ := heq c
  refine ⟨h0.trans ?_, ha⟩
  rw [e0, e1, e2]; exact (Cert.Reference23Ideal.Read.val_main_v51_eq _ _ _).trans (x_eq m c).symm

end Cert.Norm1

end
-- ==== Proof.ModBwd.lean ====
/- The value of the gradient of the modulation (`Kernel24`): the kernel stacks the cotangents of the devices' rows, the sum of those
   of the context's row and seven rows of zeros, and takes one product with all sixteen; the reference takes a product for the
   devices' rows and one for the context's. -/
module

public import proofs.«01_k».proof.Defs
public import proofs.«01_k».proof.Proof.Gen.Kernel24Ideal.Value
public import proofs.«01_k».proof.Proof.Gen.Reference24Ideal.Read
public import proofs.«01_k».proof.Proof.Scalars
public import Idealize.ShloMosaic.Lib.Pipeline.ValueKit
public import Idealize.ShloMosaic.Lib.Pointwise.Tactic

@[expose] public section

set_option maxRecDepth 16384

noncomputable section

namespace Cert.ModBwd

open Idealize.ShloMosaic Idealize.ShloMosaic.TcCoe Idealize.SL.Sem
open Cert.Kernel24Ideal Cert.Kernel24Ideal.Gen

variable (m : (ℓ : Loc nD τ sig) → Buf (Elt Ideal) ℓ)

/-- The block each window takes at a grid point. -/
theorem idx : ∀ t : Fin cfg0.N, win0_0.index t = ![0, 0, 0] ∧ win0_1.index t = ![0, t.val] ∧ win0_2.index t = ![t.val, 0]
    ∧ win0_3.index t = ![t.val, 0] ∧ win0_4.index t = ![0, t.val] :=
  (by decide +kernel : ∀ t : Fin grid0.N, _)

/-- Row `r` of the stacked cotangents: a device's, then the sum of those of the context, then zeros. -/
def row (x : (⟨S8x8x2304, .f32⟩ : BufTy).Contents (Elt Ideal)) (r : Fin 16) (j : Fin 2304) : EReal :=
  if h : r.val < 8 then x (ix3 ⟨r.val, h⟩ 0 j) else if r.val = 8 then ∑ b : Fin 8, (x (ix3 b 1 j) : EReal) else 0

/-- The rows that the kernel stacks. -/
abbrev stack (x : Vec Ideal S8x8x2304 .f32) : FVec Ideal S16x2304 .f32 :=
  k0_pay10 (k0_pay1 (View.ld x r0_0)) (k0_pay2 (View.ld x r0_1)) (k0_pay3 (View.ld x r0_2)) (k0_pay4 (View.ld x r0_3)) (k0_pay5 (View.ld x r0_4))
    (k0_pay6 (View.ld x r0_5)) (k0_pay7 (View.ld x r0_6)) (k0_pay8 (View.ld x r0_7)) (k0_pay9 (View.ld x r0_8) (View.ld x r0_9) (View.ld x r0_10))
    (View.ld x r0_11) (View.ld x r0_12) (View.ld x r0_13) (View.ld x r0_14) (View.ld x r0_15)

/-- The stack's rows are those. -/
theorem stack_eq (x : Vec Ideal S8x8x2304 .f32) (r : Fin 16) (j : Fin 2304) : stack x (ix2 r j) = row x r j := by
  unfold stack k0_pay10 k0_pay9 k0_pay8 k0_pay7 k0_pay6 k0_pay5 k0_pay4 k0_pay3 k0_pay2 k0_pay1
  fin_cases r <;> simp [pointwise, row]
  rw [Fin.sum_univ_eight]

/-- A sum of sixteen terms of which the last seven vanish. -/
theorem sum_stack (f : Fin 16 → EReal) (hz : ∀ r : Fin 16, 8 < r.val → f r = 0) :
    ∑ r, f r = f 8 + ∑ b : Fin 8, f ⟨b.val, by omega⟩ := by
  refine (Fin.sum_univ_add (a := 8) (b := 8) f).trans ((add_comm _ _).trans (congrArg₂ (· + ·) ?_ rfl))
  rw [Fin.sum_univ_succ, Finset.sum_eq_zero fun i _ => hz _ (by show 8 < 8 + (i.val + 1); omega), add_zero]
  rfl

/-- `silu` of an entry of the conditions. -/
def act (c : (⟨S16x2048, .f32⟩ : BufTy).Contents (Elt Ideal)) (r : Fin 16) (k : Fin 2048) : EReal := c (ix2 r k) * Ideal.logistic (c (ix2 r k))

variable (x0 : (⟨S8x8x2304, .f32⟩ : BufTy).Contents (Elt Ideal)) (x1 : (⟨S16x2048, .f32⟩ : BufTy).Contents (Elt Ideal))
  (x2 : (⟨S2048x2304, .f32⟩ : BufTy).Contents (Elt Ideal))

open Cert.Reference24Ideal.Read in
/-- The reference's cotangents of the devices' rows. -/
theorem ref_dev (b : Fin 8) (j : Fin 2304) : val_main_v12 (F := Ideal) x0 (ix2 b j) = row x0 ⟨b.val, by omega⟩ j := by
  simp only [val_main_v12, val_main_v11, val_main_v10, pointwise]
  rw [row, dif_pos b.isLt]
  exact congrArg x0 (funext fun a => Fin.ext (by
    match a with
    | ⟨0, _⟩ => show 0 + (0 + b.val) = b.val; omega
    | ⟨1, _⟩ => rfl
    | ⟨2, _⟩ => show 0 + (0 + j.val) = j.val; omega))

open Cert.Reference24Ideal.Read in
/-- The reference's cotangent of the context's row. -/
theorem ref_ctx (a : Fin 1) (j : Fin 2304) : val_main_v16 (F := Ideal) x0 (ix2 a j) = row x0 8 j := by
  have hz : val_main_cst (F := Ideal) (Shape.Idx.first Reference24Ideal.Gen.h_S_) = (0 : EReal) := by
    simp only [val_main_cst, pointwise]
  simp only [val_main_v16, val_main_v15, val_main_v14, val_main_v13, val_main_v10, pointwise]
  have e : row x0 8 j = ∑ b : Fin 8, (x0 (ix3 b 1 j) : EReal) := by simp [row]
  rw [hz, zero_add]
  refine Eq.trans ?_ e.symm
  refine Finset.sum_congr rfl fun b _ => congrArg x0 (funext fun a => Fin.ext ?_)
  match a with
  | ⟨0, _⟩ => show 0 + (0 + b.val) = b.val; omega
  | ⟨1, _⟩ => rfl
  | ⟨2, _⟩ => show 0 + (0 + j.val) = j.val; omega

open Cert.Reference24Ideal.Read in
/-- The reference's `silu` of the devices' conditions. -/
theorem ref_act_dev (b : Fin 8) (k : Fin 2048) : val_main_v1 (F := Ideal) x1 (ix2 b k) = act x1 ⟨b.val, by omega⟩ k := by
  simp only [val_main_v1, val_main_v0, val_main_call0_v5, val_main_call0_v4, val_main_call0_v3, val_main_call0_v2, val_main_call0_v1, val_main_call0_v0, val_main_call0_cst,
    val_main_call0_cst_0, pointwise, Cert.Scalars.div_one_exp]
  exact congrArg (fun i => x1 i * Ideal.logistic (x1 i)) (funext fun a => Fin.ext (by
    match a with
    | ⟨0, _⟩ => show 0 + b.val = b.val; omega
    | ⟨1, _⟩ => show 0 + k.val = k.val; omega))

open Cert.Reference24Ideal.Read in
/-- The reference's `silu` of the context's condition. -/
theorem ref_act_ctx (a : Fin 1) (k : Fin 2048) : val_main_v3 (F := Ideal) x1 (ix2 a k) = act x1 8 k := by
  obtain rfl : a = 0 := Subsingleton.elim _ _
  simp only [val_main_v3, val_main_v2, val_main_call1_v5, val_main_call1_v4, val_main_call1_v3, val_main_call1_v2, val_main_call1_v1, val_main_call1_v0, val_main_call1_cst,
    val_main_call1_cst_0, pointwise, Cert.Scalars.div_one_exp]
  exact congrArg (fun i => x1 i * Ideal.logistic (x1 i)) (funext fun a => Fin.ext (by
    match a with
    | ⟨0, _⟩ => rfl
    | ⟨1, _⟩ => show 0 + k.val = k.val; omega))

/-- The rows after the context's are zero. -/
theorem row_zero (r : Fin 16) (j : Fin 2304) (h : 8 < r.val) : row x0 r j = 0 := by
  rw [row, dif_neg (by omega), if_neg (by omega)]

open Cert.Reference24Ideal.Read in
/-- The reference's gradient of the weight. -/
theorem ref_dw (i : S2048x2304.Idx) : val_main_v22 (F := Ideal) x0 x1 i = ∑ r, act x1 r (i 0) * row x0 r (i 1) := by
  refine Eq.trans ?_ (sum_stack _ fun r hr => (congrArg _ (row_zero x0 r _ hr)).trans (mul_zero _)).symm
  simp only [val_main_v22, val_main_v21, val_main_v20_apply, val_main_v18, val_main_v17_apply, pointwise]
  refine congrArg₂ (· + ·) ((Fin.sum_univ_one _).trans ((mul_comm _ _).trans (congrArg₂ (· * ·) ?_ ?_)))
    (Finset.sum_congr rfl fun b _ => (mul_comm _ _).trans (congrArg₂ (· * ·) ?_ ?_))
  · exact (congrArg (val_main_v3 x1) (funext fun a => by match a with | ⟨0, _⟩ => rfl | ⟨1, _⟩ => rfl)).trans (ref_act_ctx x1 0 (i 0))
  · exact (congrArg (val_main_v16 x0) (funext fun a => by match a with | ⟨0, _⟩ => rfl | ⟨1, _⟩ => rfl)).trans (ref_ctx x0 0 (i 1))
  · exact (congrArg (val_main_v1 x1) (funext fun a => by match a with | ⟨0, _⟩ => rfl | ⟨1, _⟩ => rfl)).trans (ref_act_dev x1 b (i 0))
  · exact (congrArg (val_main_v12 x0) (funext fun a => by match a with | ⟨0, _⟩ => rfl | ⟨1, _⟩ => rfl)).trans (ref_dev x0 b (i 1))

open Cert.Reference24Ideal.Read in
/-- The reference's gradient of `silu` of the conditions. -/
theorem ref_ds (i : S16x2048.Idx) : val_main_v25 (F := Ideal) x0 x2 i = ∑ j, row x0 (i 0) j * x2 (ix2 (i 1) j) := by
  simp only [val_main_v25, pointwise]
  have h16 : (i 0).val < 16 := (i 0).isLt
  rcases lt_trichotomy (i 0).val 8 with h | h | h
  · refine (dif_pos h).trans ((val_main_v23_apply x0 x2 _).trans ?_)
    refine Finset.sum_congr rfl fun j _ => congrArg₂ (· * ·) ?_ ?_
    · exact (congrArg (val_main_v12 x0) (funext fun a => by match a with | ⟨0, _⟩ => rfl | ⟨1, _⟩ => rfl)).trans (ref_dev x0 ⟨(i 0).val, h⟩ j)
    · exact congrArg x2 (funext fun a => by match a with | ⟨0, _⟩ => rfl | ⟨1, _⟩ => rfl)
  · refine (dif_neg (by show ¬ (i 0).val < 8; omega)).trans ((dif_pos (by show (i 0).val - 8 < 1; omega)).trans ((val_main_v19_apply x0 x2 _).trans ?_))
    have e : @Eq (Fin 16) (i 0) 8 := Fin.ext h
    refine Finset.sum_congr rfl fun j _ => congrArg₂ (· * ·) ?_ ?_
    · refine (congrArg (val_main_v16 x0) (funext fun a => ?_)).trans ((ref_ctx x0 0 j).trans (congrArg (row x0 · j) e.symm))
      match a with
      | ⟨0, _⟩ => exact Subsingleton.elim (α := Fin 1) _ _
      | ⟨1, _⟩ => rfl
    · exact congrArg x2 (funext fun a => by match a with | ⟨0, _⟩ => rfl | ⟨1, _⟩ => rfl)
  · refine (dif_neg (by show ¬ (i 0).val < 8; omega)).trans ((dif_neg (by show ¬ (i 0).val - 8 < 1; omega)).trans ?_)
    refine Eq.trans ?_ (Finset.sum_eq_zero fun j _ => (congrArg (· * _) (row_zero x0 (i 0) j h)).trans (zero_mul _)).symm
    simp only [val_main_v24, val_main_cst_0, pointwise]

/-- A point's block of the cotangents is all of them. -/
theorem block0 (c : Dev nD) (t : Fin cfg0.N) : iblk m c 0 t = m ((c.tc : Thread nD τ).loc main_arg0) := by
  funext x
  blk_ext [iblk, V, idx t]

open Cert.Reference24Ideal.Read in
/-- The array left for the gradient of the weight is the reference's. -/
theorem dw_eq (c : Dev nD) : (dats m 0 c).arrAt 3 cfg0.N = val_main_v22 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  refine Eq.trans ?_ (ref_dw _ _ _).symm
  simp only [k0_pay11, pointwise, Cert.Scalars.half_tanh]
  rw [zero_add]
  refine Finset.sum_congr (M := EReal) rfl fun r _ => congrArg₂ (· * ·) ?_ ((stack_eq (iblk m c 0 t) r (y 1)).trans ?_)
  · refine congrArg (fun v : EReal => v * Ideal.logistic v) ?_
    blk_point [iblk, V, idx t]
  · rw [block0]
    refine congrArg (row _ r) (Fin.ext ?_)
    blk_point [idx t]

open Cert.Reference24Ideal.Read in
/-- The array left for the gradient of `silu` of the conditions is the reference's. -/
theorem ds_eq (c : Dev nD) : (dats m 0 c).arrAt 4 cfg0.N = val_main_v25 (F := Ideal) (m ((c.tc : Thread nD τ).loc main_arg0)) (m ((c.tc : Thread nD τ).loc main_arg2)) := by
  refine (dats m 0 c).arrAt_eq_of_covers 4 _ (by decide +kernel) fun t hf y => ?_
  blk_simp
  rw [after0_4]
  frame_out
  refine Eq.trans ?_ (ref_ds _ _ _).symm
  simp only [k0_pay12, pointwise]
  rw [zero_add]
  refine Finset.sum_congr (M := EReal) rfl fun j _ => congrArg₂ (· * ·) ((stack_eq (iblk m c 0 t) (y 0) j).trans ?_) ?_
  · rw [block0]
    refine congrArg (fun r => row _ r j) (Fin.ext ?_)
    blk_point [idx t]
  · blk_point [iblk, V, idx t]

/-- The arrays the kernel leaves are those of the reference, on every device. -/
theorem algebraic : Cert.algebraic_Kernel24Ideal_Reference24Ideal := by
  intro m g m' g' _ heq
  refine ⟨fun c => (dats m 0 c).arrAt 3 cfg0.N, fun c => (dats m 0 c).arrAt 4 cfg0.N, Cert.Kernel24Ideal.Value.run_blocks m g,
    (θ_run Cert.Reference24Ideal.defs _ _).mono (fun r h c => ?_) (Cert.Reference24Ideal.Value.run m' g')⟩
  obtain ⟨h0, h1, ha⟩ := h c
  obtain ⟨e0, e1, e2⟩ := heq c
  refine ⟨h0.trans ?_, h1.trans ?_, ha⟩
  · rw [e0, e1]; exact (Cert.Reference24Ideal.Read.val_main_v22_eq _ _).trans (dw_eq m c).symm
  · rw [e0, e2]; exact (Cert.Reference24Ideal.Read.val_main_v25_eq _ _).trans (ds_eq m c).symm

end Cert.ModBwd

end
-- ==== Proof.LossHead.lean ====
/- # The loss of a device's rows and its gradients

Each row is divided by the root of its mean square and multiplied by the final norm's weight; the loss is one half of the sum, over
the rows, of the mean square distance from the target. Of a tile of rows the kernel takes the loss, the gradient in the rows and the
gradient in the weight, and adds the first and the last over the tiles. In the reference the gradients are derivatives of the forward
lines. -/
module

public import proofs.«01_k».proof.Defs
public import proofs.«01_k».proof.Proof.Gen.Kernel25Ideal.Value
public import proofs.«01_k».proof.Proof.Gen.Reference25Ideal.Read
public import Idealize.ShloMosaic.Lib.Pipeline.ValueKit
public import Idealize.ShloMosaic.Lib.Pointwise.Tactic
public import proofs.«01_k».proof.Proof.NormMath

@[expose] public section

set_option maxRecDepth 16384

noncomputable section

namespace Cert.LossHead

open Idealize.ShloMosaic Idealize.ShloMosaic.TcCoe Idealize.SL.Sem
open Cert.Kernel25Ideal Cert.Kernel25Ideal.Gen

variable (m : (ℓ : Loc nD τ sig) → Buf (Elt Ideal) ℓ)

/-- The block each window takes at a grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

/-- The f32 pattern of one half. -/
theorem half_f32 : Ideal.ofBits .f32 0x3F000000#32 = ((1 / 2 : ℝ) : EReal) := by
  simp [Ideal.ofBits, Ideal.ieee]
  rw [← EReal.coe_mul]
  norm_num

/-- The f32 pattern of one. -/
theorem one_f32 : Ideal.ofBits .f32 0x3F800000#32 = ((1 : ℝ) : EReal) := by
  simp [Ideal.ofBits, Ideal.ieee]
  rw [← EReal.coe_mul]
  norm_num

/-- The f32 pattern of two. -/
theorem two_f32 : Ideal.ofBits .f32 0x40000000#32 = ((2 : ℝ) : EReal) := by
  simp [Ideal.ofBits, Ideal.ieee]
  rw [← EReal.coe_mul]
  norm_num

/-- The f32 pattern of one part in 2048. -/
theorem part_f32 : Ideal.ofBits .f32 0x3A000000#32 = ((1 / 2048 : ℝ) : EReal) := by
  simp [Ideal.ofBits, Ideal.ieee]
  rw [← EReal.coe_mul]
  norm_num

/-- One half of a mean, times twice the distance, is the distance's part in 2048. -/
theorem cotangent (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [half_f32, one_f32, two_f32, part_f32, Cert.NormMath.width_f32, Ideal.div_coe (by norm_num), ← mul_assoc, ← EReal.coe_mul, ← EReal.coe_mul,
    ← EReal.coe_mul, mul_comm]
  congr 2
  norm_num

section

open Cert.Reference25Ideal.Read

/-- The root of a row's mean square in the reference. -/
def root (x0 : (⟨Cert.Reference25Ideal.S4096x2048, .f32⟩ : BufTy).Contents (Elt Ideal)) (r : Fin 4096) : EReal :=
  Ideal.div (∑ k : Fin 2048, (x0 (ix2 r k) : EReal) * x0 (ix2 r k)) (Ideal.ofBits .f32 0x45000000#32) + Ideal.ofBits .f32 0x358637BD#32

/-- A row's distance from the target in the reference. -/
def dist (x0 : (⟨Cert.Reference25Ideal.S4096x2048, .f32⟩ : BufTy).Contents (Elt Ideal))
    (x1 : (⟨Cert.Reference25Ideal.S1x2048, .f32⟩ : BufTy).Contents (Elt Ideal))
    (x2 : (⟨Cert.Reference25Ideal.S4096x2048, .f32⟩ : BufTy).Contents (Elt Ideal)) (r : Fin 4096) (k : Fin 2048) : EReal :=
  (x0 (ix2 r k) : EReal) * Ideal.rsqrt (root x0 r) * x1 (ix2 0 k) - x2 (ix2 r k)

/-- The reference's cotangent of the normed row. -/
theorem ref_cot (x0 : (⟨Cert.Reference25Ideal.S4096x2048, .f32⟩ : BufTy).Contents (Elt Ideal))
    (x1 : (⟨Cert.Reference25Ideal.S1x2048, .f32⟩ : BufTy).Contents (Elt Ideal))
    (x2 : (⟨Cert.Reference25Ideal.S4096x2048, .f32⟩ : BufTy).Contents (Elt Ideal)) (i : Cert.Reference25Ideal.S4096x2048.Idx) :
    val_main_v29 (F := Ideal) x0 x1 x2 i = dist x0 x1 x2 (i 0) (i 1) * Ideal.ofBits .f32 0x3A000000#32 := by
  rw [← cotangent]
  unfold dist root
  simp only [val_main_v0, val_main_v1, val_main_v2, val_main_v3, val_main_v4, val_main_v5, val_main_v6, val_main_v7, val_main_v11, val_main_v12, val_main_v13, val_main_v14, val_main_v15, val_main_v17, val_main_v18, val_main_v24, val_main_v25, val_main_v26, val_main_v27, val_main_v28, val_main_v29, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, pointwise, zero_add, Nat.reduceEqDiff, OfNat.ofNat_ne_one, ↓reduceDIte, Finset.univ_unique, Finset.sum_singleton, Matrix.cons_val, Fin.eta]

/-- The reference's gradient of the rows, in factored form. -/
theorem ref_dx (x0 : (⟨Cert.Reference25Ideal.S4096x2048, .f32⟩ : BufTy).Contents (Elt Ideal))
    (x1 : (⟨Cert.Reference25Ideal.S1x2048, .f32⟩ : BufTy).Contents (Elt Ideal))
    (x2 : (⟨Cert.Reference25Ideal.S4096x2048, .f32⟩ : BufTy).Contents (Elt Ideal)) (i : Cert.Reference25Ideal.S4096x2048.Idx) :
    val_main_v48 (F := Ideal) x0 x1 x2 i
      = Ideal.rsqrt (root x0 (i 0)) * (dist x0 x1 x2 (i 0) (i 1) * Ideal.ofBits .f32 0x3A000000#32 * x1 (ix2 0 (i 1))
          - x0 (ix2 (i 0) (i 1)) * Ideal.rsqrt (root x0 (i 0))
            * Ideal.div (∑ k : Fin 2048, dist x0 x1 x2 (i 0) k * Ideal.ofBits .f32 0x3A000000#32 * x1 (ix2 0 k) * (x0 (ix2 (i 0) k) * Ideal.rsqrt (root x0 (i 0))))
                (Ideal.ofBits .f32 0x45000000#32)) := by
  rw [Cert.NormMath.norm_grad (fun k : Fin 2048 => (x0 (ix2 (i 0) k) : EReal))
    (fun k : Fin 2048 => dist x0 x1 x2 (i 0) k * Ideal.ofBits .f32 0x3A000000#32 * x1 (ix2 0 k)) _ _ (root x0 (i 0)) rfl]
  unfold root
  simp only [val_main_v0, val_main_v1, val_main_v2, val_main_v3, val_main_v4, val_main_v5, val_main_v6, val_main_v7, val_main_v8, val_main_v9, val_main_v10, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, ref_cot, pointwise, zero_add, Nat.reduceEqDiff, OfNat.ofNat_ne_one, ↓reduceDIte, Finset.univ_unique, Finset.sum_singleton, Matrix.cons_val, Fin.eta]

end

/-- The gradient of the rows is the reference's. -/
theorem dx_eq (c : Dev nD) : (dats m 0 c).arrAt 4 cfg0.N
    = Cert.Reference25Ideal.Read.val_main_v48 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4, ref_dx]
  unfold dist root
  by_cases h : t.val % 16 = 0
  · rw [outsAt0_A m c t h]
    frame_out
    simp only [k0_pay2, k0_pay3, k0_pay4, k0_pay5, k0_pay9, pointwise, zero_add, Nat.reduceEqDiff, OfNat.ofNat_ne_one, ↓reduceDIte]
    blk_point [iblk, V, idx t]
  · rw [outsAt0_B m c t h]
    frame_out
    simp only [k0_pay2, k0_pay3, k0_pay4, k0_pay5, k0_pay9, pointwise, zero_add, Nat.reduceEqDiff, OfNat.ofNat_ne_one, ↓reduceDIte]
    blk_point [iblk, V, idx t]

/-- The gradient of the final norm's weight is the reference's. -/
theorem dfg_eq (c : Dev nD) : (dats m 0 c).arrAt 5 cfg0.N
    = Cert.Reference25Ideal.Read.val_main_v32 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => 0) _
      (fun t h j => by rw [outsAt0_A m c t h]; frame_out; simp only [k0_pay1, k0_pay3, k0_pay4, k0_pay5, k0_pay9, k0_pay7, pointwise]; rfl)
      (fun t h j => by rw [outsAt0_B m c t h]; frame_out; simp only [k0_pay1, k0_pay3, k0_pay4, k0_pay5, k0_pay9, pointwise]) t ((flush0_5 t).mp hf) _]
  simp only [Cert.Reference25Ideal.Read.val_main_v0, Cert.Reference25Ideal.Read.val_main_v1, Cert.Reference25Ideal.Read.val_main_v2, Cert.Reference25Ideal.Read.val_main_v3, Cert.Reference25Ideal.Read.val_main_v4, Cert.Reference25Ideal.Read.val_main_v5, Cert.Reference25Ideal.Read.val_main_v6, Cert.Reference25Ideal.Read.val_main_v7, Cert.Reference25Ideal.Read.val_main_v11, Cert.Reference25Ideal.Read.val_main_v12, Cert.Reference25Ideal.Read.val_main_v30, Cert.Reference25Ideal.Read.val_main_v31, Cert.Reference25Ideal.Read.val_main_v32, Cert.Reference25Ideal.Read.val_main_cst, Cert.Reference25Ideal.Read.val_main_cst_0, Cert.Reference25Ideal.Read.val_main_cst_1, Cert.Reference25Ideal.Read.val_main_cst_2, Cert.Reference25Ideal.Read.val_main_cst_3, Cert.Reference25Ideal.Read.val_main_cst_4, Cert.Reference25Ideal.Read.val_main_cst_5, Cert.Reference25Ideal.Read.val_main_cst_6, Cert.Reference25Ideal.Read.val_main_cst_7, Cert.Reference25Ideal.Read.val_main_cst_8, Cert.Reference25Ideal.Read.val_main_cst_9, Cert.Reference25Ideal.Read.val_main_cst_10, Cert.Reference25Ideal.Read.val_main_cst_11, Cert.Reference25Ideal.Read.val_main_cst_12, Cert.Reference25Ideal.Read.val_main_cst_13, Cert.Reference25Ideal.Read.val_main_cst_14, ref_cot, pointwise]
  unfold dist root
  simp only [zero_add, Finset.univ_unique, Finset.sum_singleton, Nat.reduceEqDiff, OfNat.ofNat_ne_one, ↓reduceDIte, Matrix.cons_val]
  refine Fin.sum_mul_add_congr fun s k hl => ?_
  have ht : t.val < 16 := t.isLt
  have hp : 16 * (t.val / 16) + s.val < cfg0.N := lt_of_lt_of_eq (by omega : 16 * (t.val / 16) + s.val < 16) N_0.symm
  rw [mul_comm]
  blk_point [iblk, V, idx t, idx ⟨16 * (t.val / 16) + s.val, hp⟩] <;> rfl

/-- The loss is the reference's. -/
theorem loss_eq (c : Dev nD) : (dats m 0 c).arrAt 3 cfg0.N
    = Cert.Reference25Ideal.Read.val_main_v49 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h).1) 16 (fun _ => 0) _
      (fun t h j => by rw [outsAt0_A m c t h]; frame_out; simp only [k0_pay8, k0_pay3, k0_pay4, k0_pay5, k0_pay6, pointwise]; rfl)
      (fun t h j => by rw [outsAt0_B m c t h]; frame_out; simp only [k0_pay8, k0_pay3, k0_pay4, k0_pay5, pointwise]) t ((flush0_3 t).mp hf) _]
  simp only [Cert.Reference25Ideal.Read.val_main_v0, Cert.Reference25Ideal.Read.val_main_v1, Cert.Reference25Ideal.Read.val_main_v2, Cert.Reference25Ideal.Read.val_main_v3, Cert.Reference25Ideal.Read.val_main_v4, Cert.Reference25Ideal.Read.val_main_v5, Cert.Reference25Ideal.Read.val_main_v6, Cert.Reference25Ideal.Read.val_main_v7, Cert.Reference25Ideal.Read.val_main_v11, Cert.Reference25Ideal.Read.val_main_v12, Cert.Reference25Ideal.Read.val_main_v13, Cert.Reference25Ideal.Read.val_main_v14, Cert.Reference25Ideal.Read.val_main_v15, Cert.Reference25Ideal.Read.val_main_v16, Cert.Reference25Ideal.Read.val_main_v19, Cert.Reference25Ideal.Read.val_main_v20, Cert.Reference25Ideal.Read.val_main_v21, Cert.Reference25Ideal.Read.val_main_v22, Cert.Reference25Ideal.Read.val_main_v23, Cert.Reference25Ideal.Read.val_main_v49, Cert.Reference25Ideal.Read.val_main_cst, Cert.Reference25Ideal.Read.val_main_cst_0, Cert.Reference25Ideal.Read.val_main_cst_1, Cert.Reference25Ideal.Read.val_main_cst_2, Cert.Reference25Ideal.Read.val_main_cst_3, Cert.Reference25Ideal.Read.val_main_cst_4, Cert.Reference25Ideal.Read.val_main_cst_5, Cert.Reference25Ideal.Read.val_main_cst_6, Cert.Reference25Ideal.Read.val_main_cst_7, Cert.Reference25Ideal.Read.val_main_cst_8, Cert.Reference25Ideal.Read.val_main_cst_9, Cert.Reference25Ideal.Read.val_main_cst_10, Cert.Reference25Ideal.Read.val_main_cst_11, Cert.Reference25Ideal.Read.val_main_cst_12, Cert.Reference25Ideal.Read.val_main_cst_13, Cert.Reference25Ideal.Read.val_main_cst_14, pointwise]
  simp only [zero_add, Finset.univ_unique, Finset.sum_singleton, Nat.reduceEqDiff, OfNat.ofNat_ne_one, ↓reduceDIte, Matrix.cons_val]
  rw [half_f32]
  simp only [mul_comm (((1 / 2 : ℝ) : EReal))]
  rw [Cert.NormMath.sum_mul_coe _ (by norm_num)]
  refine congrArg (· * ((1 / 2 : ℝ) : EReal)) ?_
  refine Fin.sum_mul_add_congr fun s k hl => ?_
  have ht : t.val < 16 := t.isLt
  have hp : 16 * (t.val / 16) + s.val < cfg0.N := lt_of_lt_of_eq (by omega : 16 * (t.val / 16) + s.val < 16) N_0.symm
  blk_point [iblk, V, idx t, idx ⟨16 * (t.val / 16) + s.val, hp⟩] <;> rfl

/-- The arrays the kernel leaves are those of the reference, on every device. -/
theorem algebraic : Cert.algebraic_Kernel25Ideal_Reference25Ideal := by
  intro m g m' g' _ heq
  refine ⟨fun c => (dats m 0 c).arrAt 3 cfg0.N, fun c => (dats m 0 c).arrAt 4 cfg0.N, fun c => (dats m 0 c).arrAt 5 cfg0.N, Cert.Kernel25Ideal.Value.run_blocks m g,
    (θ_run Cert.Reference25Ideal.defs _ _).mono (fun r h c => ?_) (Cert.Reference25Ideal.Value.run m' g')⟩
  obtain ⟨h0, h1, h2, ha⟩ := h c
  obtain ⟨e0, e1, e2⟩ := heq c
  refine ⟨h0.trans ?_, h1.trans ?_, h2.trans ?_, ha⟩
  · rw [e0, e1, e2]; exact (Cert.Reference25Ideal.Read.val_main_v49_eq _ _ _).trans (loss_eq m c).symm
  · rw [Cert.Reference25Ideal.Read.val_main_v48_eq, e0, e1, e2]; exact (dx_eq m c).symm
  · rw [e0, e1, e2]; exact (Cert.Reference25Ideal.Read.val_main_v32_eq _ _ _).trans (dfg_eq m c).symm

end Cert.LossHead

end
-- ==== Proof.lean ====
/- The claim: every kernel of the list runs, leaves its arguments as they were and every counter at zero; so do its
   idealized form and its reference; and the idealized kernel's results are the reference's. Each kernel's value claim is
   proved in a module of its own; this file adds the runs and puts the parts together. -/
module

public import proofs.«01_k».proof.Defs
public import proofs.«01_k».proof.Proof.Dact
public import proofs.«01_k».proof.Proof.Gen.Kernel2.Frame
public import proofs.«01_k».proof.Proof.Gen.Kernel2Ideal.Frame
public import proofs.«01_k».proof.Proof.Gen.Pre_finite2
public import proofs.«01_k».proof.Proof.Dwd
public import proofs.«01_k».proof.Proof.Gen.Kernel3.Frame
public import proofs.«01_k».proof.Proof.Gen.Kernel3Ideal.Frame
public import proofs.«01_k».proof.Proof.Dwg
public import proofs.«01_k».proof.Proof.Gen.Kernel4.Frame
public import proofs.«01_k».proof.Proof.Gen.Kernel4Ideal.Frame
public import proofs.«01_k».proof.Proof.DwOut
public import proofs.«01_k».proof.Proof.Gen.Kernel5.Frame
public import proofs.«01_k».proof.Proof.Gen.Kernel5Ideal.Frame
public import proofs.«01_k».proof.Proof.DwIn
public import proofs.«01_k».proof.Proof.Gen.Kernel6.Frame
public import proofs.«01_k».proof.Proof.Gen.Kernel6Ideal.Frame
public import proofs.«01_k».proof.Proof.DprojOut
public import proofs.«01_k».proof.Proof.Gen.Kernel7.Frame
public import proofs.«01_k».proof.Proof.Gen.Kernel7Ideal.Frame
public import proofs.«01_k».proof.Proof.Attn
public import proofs.«01_k».proof.Proof.Gen.Kernel8.Frame
public import proofs.«01_k».proof.Proof.Gen.Kernel8Ideal.Frame
public import proofs.«01_k».proof.Proof.Gen.Pre_finite8
public import proofs.«01_k».proof.Proof.Dh2
public import proofs.«01_k».proof.Proof.Gen.Kernel9.Frame
public import proofs.«01_k».proof.Proof.Gen.Kernel9Ideal.Frame
public import proofs.«01_k».proof.Proof.Dh1
public import proofs.«01_k».proof.Proof.Gen.Kernel10.Frame
public import proofs.«01_k».proof.Proof.Gen.Kernel10Ideal.Frame
public import proofs.«01_k».proof.Proof.DprojIn
public import proofs.«01_k».proof.Proof.Gen.Kernel11.Frame
public import proofs.«01_k».proof.Proof.Gen.Kernel11Ideal.Frame
public import proofs.«01_k».proof.Proof.Dact1
public import proofs.«01_k».proof.Proof.Gen.Kernel12.Frame
public import proofs.«01_k».proof.Proof.Gen.Kernel12Ideal.Frame
public import proofs.«01_k».proof.Proof.Gen.Pre_finite12
public import proofs.«01_k».proof.Proof.Dwd1
public import proofs.«01_k».proof.Proof.Gen.Kernel13.Frame
public import proofs.«01_k».proof.Proof.Gen.Kernel13Ideal.Frame
public import proofs.«01_k».proof.Proof.Dwg1
public import proofs.«01_k».proof.Proof.Gen.Kernel14.Frame
public import proofs.«01_k».proof.Proof.Gen.Kernel14Ideal.Frame
public import proofs.«01_k».proof.Proof.Up2
public import proofs.«01_k».proof.Proof.Gen.Kernel15.Frame
public import proofs.«01_k».proof.Proof.Gen.Kernel15Ideal.Frame
public import proofs.«01_k».proof.Proof.Up1
public import proofs.«01_k».proof.Proof.Gen.Kernel16.Frame
public import proofs.«01_k».proof.Proof.Gen.Kernel16Ideal.Frame
public import proofs.«01_k».proof.Proof.ProjIn
public import proofs.«01_k».proof.Proof.Gen.Kernel17.Frame
public import proofs.«01_k».proof.Proof.Gen.Kernel17Ideal.Frame
public import proofs.«01_k».proof.Proof.Down1
public import proofs.«01_k».proof.Proof.Gen.Kernel18.Frame
public import proofs.«01_k».proof.Proof.Gen.Kernel18Ideal.Frame
public import proofs.«01_k».proof.Proof.Down2
public import proofs.«01_k».proof.Proof.Gen.Kernel19.Frame
public import proofs.«01_k».proof.Proof.Gen.Kernel19Ideal.Frame
public import proofs.«01_k».proof.Proof.ProjOut
public import proofs.«01_k».proof.Proof.Gen.Kernel20.Frame
public import proofs.«01_k».proof.Proof.Gen.Kernel20Ideal.Frame
public import proofs.«01_k».proof.Proof.Dnorm2
public import proofs.«01_k».proof.Proof.Gen.Kernel21.Frame
public import proofs.«01_k».proof.Proof.Gen.Kernel21Ideal.Frame
public import proofs.«01_k».proof.Proof.AttnFwd
public import proofs.«01_k».proof.Proof.Gen.Kernel22.Frame
public import proofs.«01_k».proof.Proof.Gen.Kernel22Ideal.Frame
public import proofs.«01_k».proof.Proof.Gen.Pre_finite22
public import proofs.«01_k».proof.Proof.Norm1
public import proofs.«01_k».proof.Proof.Gen.Kernel23.Frame
public import proofs.«01_k».proof.Proof.Gen.Kernel23Ideal.Frame
public import proofs.«01_k».proof.Proof.ModBwd
public import proofs.«01_k».proof.Proof.Gen.Kernel24.Frame
public import proofs.«01_k».proof.Proof.Gen.Kernel24Ideal.Frame
public import proofs.«01_k».proof.Proof.LossHead
public import proofs.«01_k».proof.Proof.Gen.Kernel25.Frame
public import proofs.«01_k».proof.Proof.Gen.Kernel25Ideal.Frame
public import Idealize.ShloMosaic.Lib.Quiescent

@[expose] public section

noncomputable section

namespace Cert.Proof

open Idealize.ShloMosaic Idealize.SL.Sem

/-- The reference of `Kernel2` runs, its arguments end as they were, and it has no counter. -/
theorem reference2 : Cert.quiescent_Reference2Ideal := fun m g _ =>
  (θ_run Cert.Reference2Ideal.defs _ _).mono
    (fun r h => ⟨fun c => (h c).2.2, sem_eq_zero_of_no_sems (by decide) r.2⟩) (Cert.Reference2Ideal.Value.run m g)

/-- The reference of `Kernel3` runs, its arguments end as they were, and it has no counter. -/
theorem reference3 : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

/-- The reference of `Kernel4` runs, its arguments end as they were, and it has no counter. -/
theorem reference4 : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

/-- The reference of `Kernel5` runs, its arguments end as they were, and it has no counter. -/
theorem reference5 : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

/-- The reference of `Kernel6` runs, its arguments end as they were, and it has no counter. -/
theorem reference6 : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

/-- The reference of `Kernel7` runs, its arguments end as they were, and it has no counter. -/
theorem reference7 : Cert.quiescent_Reference7Ideal := fun m g _ =>
  (θ_run Cert.Reference7Ideal.defs _ _).mono
    (fun r h => ⟨fun c => (h c).2, sem_eq_zero_of_no_sems (by decide) r.2⟩) (Cert.Reference7Ideal.Value.run m g)

/-- The reference of `Kernel8` runs, its arguments end as they were, and it has no counter. -/
theorem reference8 : Cert.quiescent_Reference8Ideal := fun m g _ =>
  (θ_run Cert.Reference8Ideal.defs _ _).mono
    (fun r h => ⟨fun c => (h c).2.2.2, sem_eq_zero_of_no_sems (by decide) r.2⟩) (Cert.Reference8Ideal.Value.run m g)

/-- The reference of `Kernel9` runs, its arguments end as they were, and it has no counter. -/
theorem reference9 : Cert.quiescent_Reference9Ideal := fun m g _ =>
  (θ_run Cert.Reference9Ideal.defs _ _).mono
    (fun r h => ⟨fun c => (h c).2, sem_eq_zero_of_no_sems (by decide) r.2⟩) (Cert.Reference9Ideal.Value.run m g)

/-- The reference of `Kernel10` runs, its arguments end as they were, and it has no counter. -/
theorem reference10 : Cert.quiescent_Reference10Ideal := fun m g _ =>
  (θ_run Cert.Reference10Ideal.defs _ _).mono
    (fun r h => ⟨fun c => (h c).2, sem_eq_zero_of_no_sems (by decide) r.2⟩) (Cert.Reference10Ideal.Value.run m g)

/-- The reference of `Kernel11` runs, its arguments end as they were, and it has no counter. -/
theorem reference11 : Cert.quiescent_Reference11Ideal := fun m g _ =>
  (θ_run Cert.Reference11Ideal.defs _ _).mono
    (fun r h => ⟨fun c => (h c).2, sem_eq_zero_of_no_sems (by decide) r.2⟩) (Cert.Reference11Ideal.Value.run m g)

/-- The reference of `Kernel12` runs, its arguments end as they were, and it has no counter. -/
theorem reference12 : Cert.quiescent_Reference12Ideal := fun m g _ =>
  (θ_run Cert.Reference12Ideal.defs _ _).mono
    (fun r h => ⟨fun c => (h c).2.2, sem_eq_zero_of_no_sems (by decide) r.2⟩) (Cert.Reference12Ideal.Value.run m g)

/-- The reference of `Kernel13` runs, its arguments end as they were, and it has no counter. -/
theorem reference13 : Cert.quiescent_Reference13Ideal := fun m g _ =>
  (θ_run Cert.Reference13Ideal.defs _ _).mono
    (fun r h => ⟨fun c => (h c).2, sem_eq_zero_of_no_sems (by decide) r.2⟩) (Cert.Reference13Ideal.Value.run m g)

/-- The reference of `Kernel14` runs, its arguments end as they were, and it has no counter. -/
theorem reference14 : Cert.quiescent_Reference14Ideal := fun m g _ =>
  (θ_run Cert.Reference14Ideal.defs _ _).mono
    (fun r h => ⟨fun c => (h c).2, sem_eq_zero_of_no_sems (by decide) r.2⟩) (Cert.Reference14Ideal.Value.run m g)

/-- The reference of `Kernel15` runs, its arguments end as they were, and it has no counter. -/
theorem reference15 : Cert.quiescent_Reference15Ideal := fun m g _ =>
  (θ_run Cert.Reference15Ideal.defs _ _).mono
    (fun r h => ⟨fun c => (h c).2.2.2, sem_eq_zero_of_no_sems (by decide) r.2⟩) (Cert.Reference15Ideal.Value.run m g)

/-- The reference of `Kernel16` runs, its arguments end as they were, and it has no counter. -/
theorem reference16 : Cert.quiescent_Reference16Ideal := fun m g _ =>
  (θ_run Cert.Reference16Ideal.defs _ _).mono
    (fun r h => ⟨fun c => (h c).2.2.2, sem_eq_zero_of_no_sems (by decide) r.2⟩) (Cert.Reference16Ideal.Value.run m g)

/-- The reference of `Kernel17` runs, its arguments end as they were, and it has no counter. -/
theorem reference17 : Cert.quiescent_Reference17Ideal := fun m g _ =>
  (θ_run Cert.Reference17Ideal.defs _ _).mono
    (fun r h => ⟨fun c => (h c).2, sem_eq_zero_of_no_sems (by decide) r.2⟩) (Cert.Reference17Ideal.Value.run m g)

/-- The reference of `Kernel18` runs, its arguments end as they were, and it has no counter. -/
theorem reference18 : Cert.quiescent_Reference18Ideal := fun m g _ =>
  (θ_run Cert.Reference18Ideal.defs _ _).mono
    (fun r h => ⟨fun c => (h c).2.2, sem_eq_zero_of_no_sems (by decide) r.2⟩) (Cert.Reference18Ideal.Value.run m g)

/-- The reference of `Kernel19` runs, its arguments end as they were, and it has no counter. -/
theorem reference19 : Cert.quiescent_Reference19Ideal := fun m g _ =>
  (θ_run Cert.Reference19Ideal.defs _ _).mono
    (fun r h => ⟨fun c => (h c).2.2, sem_eq_zero_of_no_sems (by decide) r.2⟩) (Cert.Reference19Ideal.Value.run m g)

/-- The reference of `Kernel20` runs, its arguments end as they were, and it has no counter. -/
theorem reference20 : Cert.quiescent_Reference20Ideal := fun m g _ =>
  (θ_run Cert.Reference20Ideal.defs _ _).mono
    (fun r h => ⟨fun c => (h c).2.2.2, sem_eq_zero_of_no_sems (by decide) r.2⟩) (Cert.Reference20Ideal.Value.run m g)

/-- The reference of `Kernel21` runs, its arguments end as they were, and it has no counter. -/
theorem reference21 : Cert.quiescent_Reference21Ideal := fun m g _ =>
  (θ_run Cert.Reference21Ideal.defs _ _).mono
    (fun r h => ⟨fun c => (h c).2.2.2.2.2.2, sem_eq_zero_of_no_sems (by decide) r.2⟩) (Cert.Reference21Ideal.Value.run m g)

/-- The reference of `Kernel22` runs, its arguments end as they were, and it has no counter. -/
theorem reference22 : Cert.quiescent_Reference22Ideal := fun m g _ =>
  (θ_run Cert.Reference22Ideal.defs _ _).mono
    (fun r h => ⟨fun c => (h c).2.2, sem_eq_zero_of_no_sems (by decide) r.2⟩) (Cert.Reference22Ideal.Value.run m g)

/-- The reference of `Kernel23` runs, its arguments end as they were, and it has no counter. -/
theorem reference23 : Cert.quiescent_Reference23Ideal := fun m g _ =>
  (θ_run Cert.Reference23Ideal.defs _ _).mono
    (fun r h => ⟨fun c => (h c).2, sem_eq_zero_of_no_sems (by decide) r.2⟩) (Cert.Reference23Ideal.Value.run m g)

/-- The reference of `Kernel24` runs, its arguments end as they were, and it has no counter. -/
theorem reference24 : Cert.quiescent_Reference24Ideal := fun m g _ =>
  (θ_run Cert.Reference24Ideal.defs _ _).mono
    (fun r h => ⟨fun c => (h c).2.2, sem_eq_zero_of_no_sems (by decide) r.2⟩) (Cert.Reference24Ideal.Value.run m g)

/-- The reference of `Kernel25` runs, its arguments end as they were, and it has no counter. -/
theorem reference25 : Cert.quiescent_Reference25Ideal := fun m g _ =>
  (θ_run Cert.Reference25Ideal.defs _ _).mono
    (fun r h => ⟨fun c => (h c).2.2.2, sem_eq_zero_of_no_sems (by decide) r.2⟩) (Cert.Reference25Ideal.Value.run m g)

/-- Everything that is claimed. -/
theorem claim : Cert.Claim := ⟨Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts,
  Cert.Kernel14.Gen.facts, Cert.Kernel14Ideal.Gen.facts, Cert.Reference14Ideal.Gen.facts, Cert.Kernel15.Gen.facts,
  Cert.Kernel15Ideal.Gen.facts, Cert.Reference15Ideal.Gen.facts, Cert.Kernel16.Gen.facts, Cert.Kernel16Ideal.Gen.facts,
  Cert.Reference16Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts,
  Cert.Kernel19Ideal.Gen.facts, Cert.Reference19Ideal.Gen.facts, Cert.Kernel20.Gen.facts, Cert.Kernel20Ideal.Gen.facts,
  Cert.Reference20Ideal.Gen.facts, Cert.Kernel21.Gen.facts, Cert.Kernel21Ideal.Gen.facts, Cert.Reference21Ideal.Gen.facts,
  Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts,
  Cert.Pre_finite2.Gen.facts, Cert.Pre_finite8.Gen.facts, Cert.Pre_finite12.Gen.facts, Cert.Pre_finite22.Gen.facts,
  fun m g _ => Cert.Kernel2.Gen.frame m g,
  fun m g _ => Cert.Kernel2Ideal.Gen.frame m g,
  fun m g _ => Cert.Kernel2Ideal.Gen.frame m g,
  reference2,
  fun m g _ => reference2 m g trivial,
  fun m g _ => Cert.Kernel3.Gen.frame m g,
  fun m g _ => Cert.Kernel3Ideal.Gen.frame m g,
  reference3,
  fun m g _ => Cert.Kernel4.Gen.frame m g,
  fun m g _ => Cert.Kernel4Ideal.Gen.frame m g,
  reference4,
  fun m g _ => Cert.Kernel5.Gen.frame m g,
  fun m g _ => Cert.Kernel5Ideal.Gen.frame m g,
  reference5,
  fun m g _ => Cert.Kernel6.Gen.frame m g,
  fun m g _ => Cert.Kernel6Ideal.Gen.frame m g,
  reference6,
  fun m g _ => Cert.Kernel7.Gen.frame m g,
  fun m g _ => Cert.Kernel7Ideal.Gen.frame m g,
  reference7,
  fun m g _ => Cert.Kernel8.Gen.frame m g,
  fun m g _ => Cert.Kernel8Ideal.Gen.frame m g,
  fun m g _ => Cert.Kernel8Ideal.Gen.frame m g,
  reference8,
  fun m g _ => reference8 m g trivial,
  fun m g _ => Cert.Kernel9.Gen.frame m g,
  fun m g _ => Cert.Kernel9Ideal.Gen.frame m g,
  reference9,
  fun m g _ => Cert.Kernel10.Gen.frame m g,
  fun m g _ => Cert.Kernel10Ideal.Gen.frame m g,
  reference10,
  fun m g _ => Cert.Kernel11.Gen.frame m g,
  fun m g _ => Cert.Kernel11Ideal.Gen.frame m g,
  reference11,
  fun m g _ => Cert.Kernel12.Gen.frame m g,
  fun m g _ => Cert.Kernel12Ideal.Gen.frame m g,
  fun m g _ => Cert.Kernel12Ideal.Gen.frame m g,
  reference12,
  fun m g _ => reference12 m g trivial,
  fun m g _ => Cert.Kernel13.Gen.frame m g,
  fun m g _ => Cert.Kernel13Ideal.Gen.frame m g,
  reference13,
  fun m g _ => Cert.Kernel14.Gen.frame m g,
  fun m g _ => Cert.Kernel14Ideal.Gen.frame m g,
  reference14,
  fun m g _ => Cert.Kernel15.Gen.frame m g,
  fun m g _ => Cert.Kernel15Ideal.Gen.frame m g,
  reference15,
  fun m g _ => Cert.Kernel16.Gen.frame m g,
  fun m g _ => Cert.Kernel16Ideal.Gen.frame m g,
  reference16,
  fun m g _ => Cert.Kernel17.Gen.frame m g,
  fun m g _ => Cert.Kernel17Ideal.Gen.frame m g,
  reference17,
  fun m g _ => Cert.Kernel18.Gen.frame m g,
  fun m g _ => Cert.Kernel18Ideal.Gen.frame m g,
  reference18,
  fun m g _ => Cert.Kernel19.Gen.frame m g,
  fun m g _ => Cert.Kernel19Ideal.Gen.frame m g,
  reference19,
  fun m g _ => Cert.Kernel20.Gen.frame m g,
  fun m g _ => Cert.Kernel20Ideal.Gen.frame m g,
  reference20,
  fun m g _ => Cert.Kernel21.Gen.frame m g,
  fun m g _ => Cert.Kernel21Ideal.Gen.frame m g,
  reference21,
  fun m g _ => Cert.Kernel22.Gen.frame m g,
  fun m g _ => Cert.Kernel22Ideal.Gen.frame m g,
  fun m g _ => Cert.Kernel22Ideal.Gen.frame m g,
  reference22,
  fun m g _ => reference22 m g trivial,
  fun m g _ => Cert.Kernel23.Gen.frame m g,
  fun m g _ => Cert.Kernel23Ideal.Gen.frame m g,
  reference23,
  fun m g _ => Cert.Kernel24.Gen.frame m g,
  fun m g _ => Cert.Kernel24Ideal.Gen.frame m g,
  reference24,
  fun m g _ => Cert.Kernel25.Gen.frame m g,
  fun m g _ => Cert.Kernel25Ideal.Gen.frame m g,
  reference25,
  trivial,
  Cert.Dact.algebraic,
  trivial,
  Cert.Dwd.algebraic,
  trivial,
  Cert.Dwg.algebraic,
  trivial,
  Cert.DwOut.algebraic,
  trivial,
  Cert.DwIn.algebraic,
  trivial,
  Cert.DprojOut.algebraic,
  trivial,
  Cert.Attn.algebraic,
  trivial,
  Cert.Dh2.algebraic,
  trivial,
  Cert.Dh1.algebraic,
  trivial,
  Cert.DprojIn.algebraic,
  trivial,
  Cert.Dact1.algebraic,
  trivial,
  Cert.Dwd1.algebraic,
  trivial,
  Cert.Dwg1.algebraic,
  trivial,
  Cert.Up2.algebraic,
  trivial,
  Cert.Up1.algebraic,
  trivial,
  Cert.ProjIn.algebraic,
  trivial,
  Cert.Down1.algebraic,
  trivial,
  Cert.Down2.algebraic,
  trivial,
  Cert.ProjOut.algebraic,
  trivial,
  Cert.Dnorm2.algebraic,
  trivial,
  Cert.AttnFwd.algebraic,
  trivial,
  Cert.Norm1.algebraic,
  trivial,
  Cert.ModBwd.algebraic,
  trivial,
  Cert.LossHead.algebraic⟩

end Cert.Proof

end
